-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attn_finite [hPre_attn_finite : Cert.Pre_attn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attn_finite [hPre_attn_finite : Cert.Pre_attn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_attn_finite [hKernelIdeal : Cert.KernelIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_attn_finite [hReferenceIdeal : Cert.ReferenceIdeal.Facts] [hPre_attn_finite : Cert.Pre_attn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "scale" .f32 0x3E3504F3#32 (((Real.sqrt 32)⁻¹ : ℝ) : EReal)
  ∧ IdealRules.named_const.Statement Cert.KernelIdeal.κ "mask" .f32 0xF149F2CA#32 ⊥

def algebraic_KernelIdeal_ReferenceIdeal_pre_attn_finite [hKernelIdeal : Cert.KernelIdeal.Facts] [hReferenceIdeal : Cert.ReferenceIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_attn_finite : Cert.Pre_attn_finite.Facts),
    quiescent_Kernel (hKernel := hKernel)
    ∧ quiescent_KernelIdeal (hKernelIdeal := hKernelIdeal)
    ∧ quiescent_KernelIdeal_pre_attn_finite (hKernelIdeal := hKernelIdeal) (hPre_attn_finite := hPre_attn_finite)
    ∧ quiescent_ReferenceIdeal (hReferenceIdeal := hReferenceIdeal)
    ∧ quiescent_ReferenceIdeal_pre_attn_finite (hReferenceIdeal := hReferenceIdeal) (hPre_attn_finite := hPre_attn_finite)
    ∧ preserves_Kernel_KernelIdeal
    ∧ algebraic_KernelIdeal_ReferenceIdeal_pre_attn_finite (hKernelIdeal := hKernelIdeal) (hReferenceIdeal := hReferenceIdeal) (hPre_attn_finite := hPre_attn_finite)
-- ==== Pre_attn_finite.lean ====
abbrev S16x64x32 : Shape := ⟨3, ![16, 64, 32]⟩
abbrev S192x1 : Shape := ⟨2, ![192, 1]⟩
abbrev S192x64 : Shape := ⟨2, ![192, 64]⟩
abbrev S192 : Shape := ⟨1, ![192]⟩
abbrev S32x64 : Shape := ⟨2, ![32, 64]⟩
abbrev S32 : Shape := ⟨1, ![32]⟩
abbrev S64x1x1 : Shape := ⟨3, ![64, 1, 1]⟩
abbrev S64 : Shape := ⟨1, ![64]⟩
abbrev S64x64 : Shape := ⟨2, ![64, 64]⟩
abbrev S64x64x3 : Shape := ⟨3, ![64, 64, 3]⟩
abbrev S64x64x5 : Shape := ⟨3, ![64, 64, 5]⟩
abbrev S256x131072 : Shape := ⟨2, ![256, 131072]⟩
abbrev S256 : Shape := ⟨1, ![256]⟩
abbrev S_ : Shape := ⟨0, ![]⟩
abbrev S32x1 : Shape := ⟨2, ![32, 1]⟩

class Facts : Prop where
  bcast_S_S32x64 : S_.BroadcastsInDim S32x64 (![] : Fin 0 → Fin S32x64.rank)
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)

variable [Facts]

def fn {F : FTy → Type} [FloatOps F] (main_arg0 : FVec F S16x64x32 .f32) (main_arg1 : FVec F S192x1 .f32) (main_arg2 : FVec F S192x64 .f32) (main_arg3 : FVec F S192 .f32) (main_arg4 : FVec F S192 .f32) (main_arg5 : FVec F S32x64 .f32) (main_arg6 : FVec F S32 .f32) (main_arg7 : FVec F S32x64 .f32) (main_arg8 : FVec F S32 .f32) (main_arg9 : FVec F S64x1x1 .f32) (main_arg10 : FVec F S64 .f32) (main_arg11 : FVec F S64x64 .f32) (main_arg12 : FVec F S64 .f32) (main_arg13 : FVec F S64x64x3 .f32) (main_arg14 : FVec F S64 .f32) (main_arg15 : FVec F S64x64 .f32) (main_arg16 : FVec F S64 .f32) (main_arg17 : FVec F S64x64x5 .f32) (main_arg18 : FVec F S64 .f32) (main_arg19 : FVec F S256x131072 .f32) (main_arg20 : FVec F S256 .f32) : IVec S32x64 1 :=
  let main_v0 : FVec F S32x64 .f32 := Host.absf main_arg5
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_v3 : FVec F S32x64 .f32 := Host.absf main_arg7
  let main_cst_0 : FVec F S_ .f32 := constant S_ .f32 0x7F800000#32
  let main_v4 : FVec F S32x64 .f32 := broadcastInDim S32x64 ![] bcast_S_S32x64 main_cst_0
  let main_v5 : IVec S32x64 1 := cmpf .olt main_v3 main_v4
  let main_v6 : IVec S32x64 1 := andi main_v2 main_v5
  let main_v7 : FVec F S32 .f32 := Host.absf main_arg6
  let main_cst_1 : FVec F S_ .f32 := constant S_ .f32 0x7F800000#32
  let main_v8 : FVec F S32 .f32 := broadcastInDim S32 ![] bcast_S_S32 main_cst_1
  let main_v9 : IVec S32 1 := cmpf .olt main_v7 main_v8
  let main_v10 : FVec F S32 .f32 := Host.absf main_arg8
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_v13 : IVec S32 1 := andi main_v9 main_v12
  let main_v14 : IVec S32x1 1 := broadcastInDim S32x1 ![0] bcast_S32_S32x1_0 main_v13
  let main_v15 : IVec S32x64 1 := broadcastInDim S32x64 ![0, 1] bcast_S32x1_S32x64_0_1 main_v14
  let main_v16 : IVec S32x64 1 := andi main_v6 main_v15
  main_v16
-- ==== Kernel.lean ====
abbrev S16x64x32 : Shape := ⟨3, ![16, 64, 32]⟩
abbrev S192x1 : Shape := ⟨2, ![192, 1]⟩
abbrev S192x64 : Shape := ⟨2, ![192, 64]⟩
abbrev S192 : Shape := ⟨1, ![192]⟩
abbrev S32x64 : Shape := ⟨2, ![32, 64]⟩
abbrev S32 : Shape := ⟨1, ![32]⟩
abbrev S64x1x1 : Shape := ⟨3, ![64, 1, 1]⟩
abbrev S64 : Shape := ⟨1, ![64]⟩
abbrev S64x64 : Shape := ⟨2, ![64, 64]⟩
abbrev S64x64x3 : Shape := ⟨3, ![64, 64, 3]⟩
abbrev S64x64x5 : Shape := ⟨3, ![64, 64, 5]⟩
abbrev S256x131072 : Shape := ⟨2, ![256, 131072]⟩
abbrev S256 : Shape := ⟨1, ![256]⟩
abbrev S64x32x16 : Shape := ⟨3, ![64, 32, 16]⟩
abbrev S64x512x1 : Shape := ⟨3, ![64, 512, 1]⟩
abbrev S1x64 : Shape := ⟨2, ![1, 64]⟩
abbrev S64x64x1 : Shape := ⟨3, ![64, 64, 1]⟩
abbrev S64x32 : Shape := ⟨2, ![64, 32]⟩
abbrev S1x32 : Shape := ⟨2, ![1, 32]⟩
abbrev S4096 : Shape := ⟨1, ![4096]⟩
abbrev S1x4096 : Shape := ⟨2, ![1, 4096]⟩
abbrev S1x256 : Shape := ⟨2, ![1, 256]⟩
abbrev S16x256 : Shape := ⟨2, ![16, 256]⟩
abbrev S5x256x4096 : Shape := ⟨3, ![5, 256, 4096]⟩
abbrev S5 : Shape := ⟨1, ![5]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S512x64 : Shape := ⟨2, ![512, 64]⟩
abbrev S1x512x1 : Shape := ⟨3, ![1, 512, 1]⟩
abbrev S512x1 : Shape := ⟨2, ![512, 1]⟩
abbrev S512x32 : Shape := ⟨2, ![512, 32]⟩
abbrev S512x512 : Shape := ⟨2, ![512, 512]⟩
abbrev S512 : Shape := ⟨1, ![512]⟩
abbrev S1x512 : Shape := ⟨2, ![1, 512]⟩
abbrev S512x4096 : Shape := ⟨2, ![512, 4096]⟩
abbrev S32x16x64 : Shape := ⟨3, ![32, 16, 64]⟩
abbrev S32x64x16 : Shape := ⟨3, ![32, 64, 16]⟩
abbrev S2048x16 : Shape := ⟨2, ![2048, 16]⟩
abbrev S16x2048 : Shape := ⟨2, ![16, 2048]⟩
abbrev S16x4096 : Shape := ⟨2, ![16, 4096]⟩
abbrev S16x8x32 : Shape := ⟨3, ![16, 8, 32]⟩

abbrev nBuf : Space → Nat
  | .hbm => 93
  | .vmem => 36
  | .smem => 0
  | _ => 0

abbrev bufTy : (tb : Table) → Fin (tcTables nBuf tb) → BufTy
  | .hbm, ⟨0, _⟩ => ⟨S16x64x32, .f32⟩
  | .hbm, ⟨1, _⟩ => ⟨S192x1, .f32⟩
  | .hbm, ⟨2, _⟩ => ⟨S192x64, .f32⟩
  | .hbm, ⟨3, _⟩ => ⟨S192, .f32⟩
  | .hbm, ⟨4, _⟩ => ⟨S192, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S32, .f32⟩
  | .hbm, ⟨9, _⟩ => ⟨S64x1x1, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64x3, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64x5, .f32⟩
  | .hbm, ⟨18, _⟩ => ⟨S64, .f32⟩
  | .hbm, ⟨19, _⟩ => ⟨S256x131072, .f32⟩
  | .hbm, ⟨20, _⟩ => ⟨S256, .f32⟩
  | .hbm, ⟨21, _⟩ => ⟨S64x32x16, .f32⟩
  | .hbm, ⟨22, _⟩ => ⟨S64x512x1, .f32⟩
  | .hbm, ⟨23, _⟩ => ⟨S192, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S64, .f32⟩
  | .hbm, ⟨41, _⟩ => ⟨S1x64, .f32⟩
  | .hbm, ⟨42, _⟩ => ⟨S64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S64x64x1, .f32⟩
  | .hbm, ⟨49, _⟩ => ⟨S64x64, .f32⟩
  | .hbm, ⟨50, _⟩ => ⟨S64x64, .f32⟩
  | .hbm, ⟨51, _⟩ => ⟨S64x64x1, .f32⟩
  | .hbm, ⟨52, _⟩ => ⟨S64x64, .f32⟩
  | .hbm, ⟨53, _⟩ => ⟨S64x64, .f32⟩
  | .hbm, ⟨54, _⟩ => ⟨S64x64x1, .f32⟩
  | .hbm, ⟨55, _⟩ => ⟨S64x64, .f32⟩
  | .hbm, ⟨56, _⟩ => ⟨S64x64, .f32⟩
  | .hbm, ⟨57, _⟩ => ⟨S64x64x1, .f32⟩
  | .hbm, ⟨58, _⟩ => ⟨S64x64, .f32⟩
  | .hbm, ⟨59, _⟩ => ⟨S64x64, .f32⟩
  | .hbm, ⟨60, _⟩ => ⟨S64x64x1, .f32⟩
  | .hbm, ⟨61, _⟩ => ⟨S64x64, .f32⟩
  | .hbm, ⟨62, _⟩ => ⟨S64x64, .f32⟩
  | .hbm, ⟨63, _⟩ => ⟨S64x64x1, .f32⟩
  | .hbm, ⟨64, _⟩ => ⟨S64x64, .f32⟩
  | .hbm, ⟨65, _⟩ => ⟨S64x64, .f32⟩
  | .hbm, ⟨66, _⟩ => ⟨S64x64x1, .f32⟩
  | .hbm, ⟨67, _⟩ => ⟨S64x64, .f32⟩
  | .hbm, ⟨68, _⟩ => ⟨S64x64, .f32⟩
  | .hbm, ⟨69, _⟩ => ⟨S64x64x1, .f32⟩
  | .hbm, ⟨70, _⟩ => ⟨S64x64, .f32⟩
  | .hbm, ⟨71, _⟩ => ⟨S64x64, .f32⟩
  | .hbm, ⟨72, _⟩ => ⟨S64x32, .f32⟩
  | .hbm, ⟨73, _⟩ => ⟨S1x32, .f32⟩
  | .hbm, ⟨74, _⟩ => ⟨S64x32, .f32⟩
  | .hbm, ⟨75, _⟩ => ⟨S1x32, .f32⟩
  | .hbm, ⟨76, _⟩ => ⟨S1x64, .f32⟩
  | .hbm, ⟨77, _⟩ => ⟨S1x64, .f32⟩
  | .hbm, ⟨78, _⟩ => ⟨S64x64, .f32⟩
  | .hbm, ⟨79, _⟩ => ⟨S1x64, .f32⟩
  | .hbm, ⟨80, _⟩ => ⟨S64x64, .f32⟩
  | .hbm, ⟨81, _⟩ => ⟨S4096, .f32⟩
  | .hbm, ⟨82, _⟩ => ⟨S1x4096, .f32⟩
  | .hbm, ⟨83, _⟩ => ⟨S1x64, .f32⟩
  | .hbm, ⟨84, _⟩ => ⟨S64x64, .f32⟩
  | .hbm, ⟨85, _⟩ => ⟨S1x64, .f32⟩
  | .hbm, ⟨86, _⟩ => ⟨S64x64, .f32⟩
  | .hbm, ⟨87, _⟩ => ⟨S4096, .f32⟩
  | .hbm, ⟨88, _⟩ => ⟨S1x4096, .f32⟩
  | .hbm, ⟨89, _⟩ => ⟨S1x64, .f32⟩
  | .hbm, ⟨90, _⟩ => ⟨S1x256, .f32⟩
  | .hbm, ⟨91, _⟩ => ⟨S16x256, .f32⟩
  | .hbm, ⟨92, _⟩ => ⟨S16x8x32, .f32⟩
  | .local _ .vmem, ⟨0, _⟩ => ⟨S64x512x1, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S64x32, .f32⟩
  | .local _ .vmem, ⟨14, _⟩ => ⟨S1x32, .f32⟩
  | .local _ .vmem, ⟨15, _⟩ => ⟨S64x32, .f32⟩
  | .local _ .vmem, ⟨16, _⟩ => ⟨S1x32, .f32⟩
  | .local _ .vmem, ⟨17, _⟩ => ⟨S1x64, .f32⟩
  | .local _ .vmem, ⟨18, _⟩ => ⟨S1x64, .f32⟩
  | .local _ .vmem, ⟨19, _⟩ => ⟨S64x64, .f32⟩
  | .local _ .vmem, ⟨20, _⟩ => ⟨S1x4096, .f32⟩
  | .local _ .vmem, ⟨21, _⟩ => ⟨S64x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S64x64, .f32⟩
  | .local _ .vmem, ⟨26, _⟩ => ⟨S1x4096, .f32⟩
  | .local _ .vmem, ⟨27, _⟩ => ⟨S64x64, .f32⟩
  | .local _ .vmem, ⟨28, _⟩ => ⟨S64x64, .f32⟩
  | .local _ .vmem, ⟨29, _⟩ => ⟨S64x64, .f32⟩
  | .local _ .vmem, ⟨30, _⟩ => ⟨S64x64, .f32⟩
  | .local _ .vmem, ⟨31, _⟩ => ⟨S64x64, .f32⟩
  | .local _ .vmem, ⟨32, _⟩ => ⟨S1x64, .f32⟩
  | .local _ .vmem, ⟨33, _⟩ => ⟨S1x256, .f32⟩
  | .local _ .vmem, ⟨34, _⟩ => ⟨S16x256, .f32⟩
  | .local _ .vmem, ⟨35, _⟩ => ⟨S5x256x4096, .f32⟩
  | _, _ => ⟨S16x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_scratch0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34

abbrev nD : Nat := 1
abbrev τ : Topo := Topo.v7x

variable {F : FTy → Type} [FloatOps F]

abbrev grid0 : Pipeline.Grid := .none

@[reducible] def k0_t1_loop : Scf.Loop 32 :=
  let c0_i32_44 : BitVec 32 := 0#32
  let c64_i32 : BitVec 32 := 64#32
  let v50 : BitVec 32 := Scalar.addi c0_i32_44 c64_i32
  let c1_i32_45 : BitVec 32 := 1#32
  ⟨c0_i32_44, v50, c1_i32_45⟩
def k0_off1 (k0_t1 : Fin k0_t1_loop.trips) : Fin 3 → Nat :=
  let c0_i32_44 : BitVec 32 := 0#32
  let c1_i32_45 : BitVec 32 := 1#32
  let arg38 : BitVec 32 := Scf.iv c0_i32_44 c1_i32_45 k0_t1
  let v3370 : Index := Scalar.indexCast arg38
  let c0_1589 : Index := 0#32
  let c0_1590 : Index := 0#32
  ![v3370.toNat, 0, 0]
abbrev stage0_0 : Fin 1 → Memref sig .tc .vmem S64x512x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S64x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x4096 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S64x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S64x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S64x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S64x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x4096 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S64x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S64x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S64x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S64x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S64x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x64 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S16x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 32)⁻¹ : ℝ) : EReal)
  | _ => none
-- ==== ReferenceIdeal.lean ====
abbrev S16x64x32 : Shape := ⟨3, ![16, 64, 32]⟩
abbrev S192x1 : Shape := ⟨2, ![192, 1]⟩
abbrev S192x64 : Shape := ⟨2, ![192, 64]⟩
abbrev S192 : Shape := ⟨1, ![192]⟩
abbrev S32x64 : Shape := ⟨2, ![32, 64]⟩
abbrev S32 : Shape := ⟨1, ![32]⟩
abbrev S64x1x1 : Shape := ⟨3, ![64, 1, 1]⟩
abbrev S64 : Shape := ⟨1, ![64]⟩
abbrev S64x64 : Shape := ⟨2, ![64, 64]⟩
abbrev S64x64x3 : Shape := ⟨3, ![64, 64, 3]⟩
abbrev S64x64x5 : Shape := ⟨3, ![64, 64, 5]⟩
abbrev S256x131072 : Shape := ⟨2, ![256, 131072]⟩
abbrev S256 : Shape := ⟨1, ![256]⟩
abbrev S64x16x32 : Shape := ⟨3, ![64, 16, 32]⟩
abbrev S_ : Shape := ⟨0, ![]⟩
abbrev S16x32x64 : Shape := ⟨3, ![16, 32, 64]⟩
abbrev S1x16x32 : Shape := ⟨3, ![1, 16, 32]⟩
abbrev S16x32 : Shape := ⟨2, ![16, 32]⟩
abbrev S16x32x1 : Shape := ⟨3, ![16, 32, 1]⟩
abbrev S1x192 : Shape := ⟨2, ![1, 192]⟩
abbrev S16x32x192 : Shape := ⟨3, ![16, 32, 192]⟩
abbrev S1x1x192 : Shape := ⟨3, ![1, 1, 192]⟩
abbrev S64x192 : Shape := ⟨2, ![64, 192]⟩
abbrev S64x32 : Shape := ⟨2, ![64, 32]⟩
abbrev S16x32x32 : Shape := ⟨3, ![16, 32, 32]⟩
abbrev S1x1x32 : Shape := ⟨3, ![1, 1, 32]⟩
abbrev S16x1x32 : Shape := ⟨3, ![16, 1, 32]⟩
abbrev S16x64x32x1 : Shape := ⟨4, ![16, 64, 32, 1]⟩
abbrev S1x1x1x64 : Shape := ⟨4, ![1, 1, 1, 64]⟩
abbrev S16x64x32x64 : Shape := ⟨4, ![16, 64, 32, 64]⟩
abbrev S16x64x64x32 : Shape := ⟨4, ![16, 64, 64, 32]⟩
abbrev S16x66x32x64 : Shape := ⟨4, ![16, 66, 32, 64]⟩
abbrev S64x64x1 : Shape := ⟨3, ![64, 64, 1]⟩
abbrev S16x68x32x64 : Shape := ⟨4, ![16, 68, 32, 64]⟩
abbrev S16x131072 : Shape := ⟨2, ![16, 131072]⟩
abbrev S131072x256 : Shape := ⟨2, ![131072, 256]⟩
abbrev S16x256 : Shape := ⟨2, ![16, 256]⟩
abbrev S1x256 : Shape := ⟨2, ![1, 256]⟩
abbrev S16x8x32 : Shape := ⟨3, ![16, 8, 32]⟩

abbrev nBuf : Space → Nat
  | .hbm => 240
  | .vmem => 0
  | .smem => 0
  | _ => 0

abbrev hbmTy0_0 (i : Nat) : BufTy := match i % 128 with
  | 0 => ⟨S16x64x32, .f32⟩
  | 1 => ⟨S192x1, .f32⟩
  | 2 => ⟨S192x64, .f32⟩
  | 3 => ⟨S192, .f32⟩
  | 4 => ⟨S192, .f32⟩
  | 5 => ⟨S32x64, .f32⟩
  | 6 => ⟨S32, .f32⟩
  | 7 => ⟨S32x64, .f32⟩
  | 8 => ⟨S32, .f32⟩
  | 9 => ⟨S64x1x1, .f32⟩
  | 10 => ⟨S64, .f32⟩
  | 11 => ⟨S64x64, .f32⟩
  | 12 => ⟨S64, .f32⟩
  | 13 => ⟨S64x64x3, .f32⟩
  | 14 => ⟨S64, .f32⟩
  | 15 => ⟨S64x64, .f32⟩
  | 16 => ⟨S64, .f32⟩
  | 17 => ⟨S64x64x5, .f32⟩
  | 18 => ⟨S64, .f32⟩
  | 19 => ⟨S256x131072, .f32⟩
  | 20 => ⟨S256, .f32⟩
  | 21 => ⟨S64x16x32, .f32⟩
  | 22 => ⟨S_, .f32⟩
  | 23 => ⟨S16x32x64, .f32⟩
  | 24 => ⟨S_, .i32⟩
  | 25 => ⟨S64x16x32, .f32⟩
  | 26 => ⟨S192x1, .f32⟩
  | 27 => ⟨S192, .f32⟩
  | 28 => ⟨S192x64, .f32⟩
  | 29 => ⟨S192, .f32⟩
  | 30 => ⟨S_, .i32⟩
  | 31 => ⟨S16x32x64, .f32⟩
  | 32 => ⟨S_, .i32⟩
  | 33 => ⟨S_, .i1⟩
  | 34 => ⟨S_, .i32⟩
  | 35 => ⟨S_, .i32⟩
  | 36 => ⟨S1x16x32, .f32⟩
  | 37 => ⟨S16x32, .f32⟩
  | 38 => ⟨S16x32x1, .f32⟩
  | 39 => ⟨S1x192, .f32⟩
  | 40 => ⟨S16x32x192, .f32⟩
  | 41 => ⟨S1x1x192, .f32⟩
  | 42 => ⟨S16x32x192, .f32⟩
  | 43 => ⟨S16x32x192, .f32⟩
  | 44 => ⟨S64x192, .f32⟩
  | 45 => ⟨S16x32x192, .f32⟩
  | 46 => ⟨S1x1x192, .f32⟩
  | 47 => ⟨S16x32x192, .f32⟩
  | 48 => ⟨S16x32x192, .f32⟩
  | 49 => ⟨S16x32x64, .f32⟩
  | 50 => ⟨S16x32x64, .f32⟩
  | 51 => ⟨S16x32x64, .f32⟩
  | 52 => ⟨S16x32x64, .f32⟩
  | 53 => ⟨S16x32x64, .f32⟩
  | 54 => ⟨S16x32x64, .f32⟩
  | 55 => ⟨S16x32x64, .f32⟩
  | 56 => ⟨S16x32x64, .f32⟩
  | 57 => ⟨S16x32x64, .f32⟩
  | 58 => ⟨S_, .f32⟩
  | 59 => ⟨S16x32x64, .f32⟩
  | 60 => ⟨S16x32x64, .f32⟩
  | 61 => ⟨S_, .f32⟩
  | 62 => ⟨S16x32x64, .f32⟩
  | 63 => ⟨S16x32x64, .f32⟩
  | 64 => ⟨S16x32x64, .f32⟩
  | 65 => ⟨S16x32x64, .f32⟩
  | 66 => ⟨S16x32x64, .f32⟩
  | 67 => ⟨S_, .f32⟩
  | 68 => ⟨S16x32x64, .f32⟩
  | 69 => ⟨S16x32x64, .f32⟩
  | 70 => ⟨S_, .f32⟩
  | 71 => ⟨S16x32x64, .f32⟩
  | 72 => ⟨S16x32x64, .f32⟩
  | 73 => ⟨S16x32x64, .f32⟩
  | 74 => ⟨S16x32x64, .f32⟩
  | 75 => ⟨S16x32x64, .f32⟩
  | 76 => ⟨S_, .f32⟩
  | 77 => ⟨S16x32x64, .f32⟩
  | 78 => ⟨S16x32x64, .f32⟩
  | 79 => ⟨S16x32x64, .f32⟩
  | 80 => ⟨S16x32x64, .f32⟩
  | 81 => ⟨S16x32x64, .f32⟩
  | 82 => ⟨S_, .i32⟩
  | 83 => ⟨S_, .i32⟩
  | 84 => ⟨S64x32, .f32⟩
  | 85 => ⟨S16x32x32, .f32⟩
  | 86 => ⟨S1x1x32, .f32⟩
  | 87 => ⟨S16x32x32, .f32⟩
  | 88 => ⟨S16x32x32, .f32⟩
  | 89 => ⟨S64x32, .f32⟩
  | 90 => ⟨S16x32x32, .f32⟩
  | 91 => ⟨S1x1x32, .f32⟩
  | 92 => ⟨S16x32x32, .f32⟩
  | 93 => ⟨S16x32x32, .f32⟩
  | 94 => ⟨S16x32x32, .f32⟩
  | 95 => ⟨S16x32x32, .f32⟩
  | 96 => ⟨S_, .f32⟩
  | 97 => ⟨S_, .f32⟩
  | 98 => ⟨S16x32x32, .f32⟩
  | 99 => ⟨S16x32x32, .f32⟩
  | 100 => ⟨S_, .f32⟩
  | 101 => ⟨S16x32, .f32⟩
  | 102 => ⟨S_, .f32⟩
  | 103 => ⟨S16x32, .f32⟩
  | 104 => ⟨S16x32, .f32⟩
  | 105 => ⟨S16x32x1, .f32⟩
  | 106 => ⟨S16x32x32, .f32⟩
  | 107 => ⟨S16x32x32, .f32⟩
  | 108 => ⟨S16x32x32, .f32⟩
  | 109 => ⟨S_, .f32⟩
  | 110 => ⟨S16x32, .f32⟩
  | 111 => ⟨S16x32x1, .f32⟩
  | 112 => ⟨S16x32x32, .f32⟩
  | 113 => ⟨S16x32x32, .f32⟩
  | 114 => ⟨S_, .f32⟩
  | 115 => ⟨S16x32, .f32⟩
  | 116 => ⟨S_, .f32⟩
  | 117 => ⟨S16x32, .f32⟩
  | 118 => ⟨S16x32, .i1⟩
  | 119 => ⟨S16x32, .f32⟩
  | 120 => ⟨S_, .f32⟩
  | 121 => ⟨S16x32, .f32⟩
  | 122 => ⟨S16x32, .f32⟩
  | 123 => ⟨S_, .f32⟩
  | 124 => ⟨S_, .f32⟩
  | 125 => ⟨S16x32, .f32⟩
  | 126 => ⟨S16x32, .f32⟩
  | 127 => ⟨S16x32x1, .f32⟩
  | _ => ⟨S16x64x32, .f32⟩

abbrev hbmTy0_1 (i : Nat) : BufTy := match i % 128 with
  | 0 => ⟨S16x32x32, .f32⟩
  | 1 => ⟨S16x32x32, .f32⟩
  | 2 => ⟨S16x1x32, .f32⟩
  | 3 => ⟨S16x32x32, .f32⟩
  | 4 => ⟨S16x32x32, .f32⟩
  | 5 => ⟨S16x64x32x1, .f32⟩
  | 6 => ⟨S1x1x1x64, .f32⟩
  | 7 => ⟨S16x64x32x64, .f32⟩
  | 8 => ⟨S16x64x32x64, .f32⟩
  | 9 => ⟨S16x64x32x64, .f32⟩
  | 10 => ⟨S1x1x1x64, .f32⟩
  | 11 => ⟨S16x64x32x64, .f32⟩
  | 12 => ⟨S16x64x32x64, .f32⟩
  | 13 => ⟨S64x64, .f32⟩
  | 14 => ⟨S16x64x32x64, .f32⟩
  | 15 => ⟨S16x64x64x32, .f32⟩
  | 16 => ⟨S16x64x32x64, .f32⟩
  | 17 => ⟨S1x1x1x64, .f32⟩
  | 18 => ⟨S16x64x32x64, .f32⟩
  | 19 => ⟨S16x64x32x64, .f32⟩
  | 20 => ⟨S_, .i32⟩
  | 21 => ⟨S_, .f32⟩
  | 22 => ⟨S16x66x32x64, .f32⟩
  | 23 => ⟨S16x64x32x64, .f32⟩
  | 24 => ⟨S64x64x1, .f32⟩
  | 25 => ⟨S64x64, .f32⟩
  | 26 => ⟨S64x64, .f32⟩
  | 27 => ⟨S16x64x32x64, .f32⟩
  | 28 => ⟨S_, .f32⟩
  | 29 => ⟨S16x64x32x64, .f32⟩
  | 30 => ⟨S16x64x32x64, .f32⟩
  | 31 => ⟨S16x64x32x64, .f32⟩
  | 32 => ⟨S64x64x1, .f32⟩
  | 33 => ⟨S64x64, .f32⟩
  | 34 => ⟨S64x64, .f32⟩
  | 35 => ⟨S16x64x32x64, .f32⟩
  | 36 => ⟨S16x64x32x64, .f32⟩
  | 37 => ⟨S16x64x32x64, .f32⟩
  | 38 => ⟨S64x64x1, .f32⟩
  | 39 => ⟨S64x64, .f32⟩
  | 40 => ⟨S64x64, .f32⟩
  | 41 => ⟨S16x64x32x64, .f32⟩
  | 42 => ⟨S16x64x32x64, .f32⟩
  | 43 => ⟨S1x1x1x64, .f32⟩
  | 44 => ⟨S16x64x32x64, .f32⟩
  | 45 => ⟨S16x64x32x64, .f32⟩
  | 46 => ⟨S_, .f32⟩
  | 47 => ⟨S16x64x32x64, .f32⟩
  | 48 => ⟨S16x64x32x64, .i1⟩
  | 49 => ⟨S_, .f32⟩
  | 50 => ⟨S16x64x32x64, .f32⟩
  | 51 => ⟨S16x64x32x64, .f32⟩
  | 52 => ⟨S16x64x32x64, .f32⟩
  | 53 => ⟨S64x64, .f32⟩
  | 54 => ⟨S16x64x32x64, .f32⟩
  | 55 => ⟨S16x64x64x32, .f32⟩
  | 56 => ⟨S16x64x32x64, .f32⟩
  | 57 => ⟨S1x1x1x64, .f32⟩
  | 58 => ⟨S16x64x32x64, .f32⟩
  | 59 => ⟨S16x64x32x64, .f32⟩
  | 60 => ⟨S_, .i32⟩
  | 61 => ⟨S_, .f32⟩
  | 62 => ⟨S16x68x32x64, .f32⟩
  | 63 => ⟨S16x64x32x64, .f32⟩
  | 64 => ⟨S64x64x1, .f32⟩
  | 65 => ⟨S64x64, .f32⟩
  | 66 => ⟨S64x64, .f32⟩
  | 67 => ⟨S16x64x32x64, .f32⟩
  | 68 => ⟨S_, .f32⟩
  | 69 => ⟨S16x64x32x64, .f32⟩
  | 70 => ⟨S16x64x32x64, .f32⟩
  | 71 => ⟨S16x64x32x64, .f32⟩
  | 72 => ⟨S64x64x1, .f32⟩
  | 73 => ⟨S64x64, .f32⟩
  | 74 => ⟨S64x64, .f32⟩
  | 75 => ⟨S16x64x32x64, .f32⟩
  | 76 => ⟨S16x64x32x64, .f32⟩
  | 77 => ⟨S16x64x32x64, .f32⟩
  | 78 => ⟨S64x64x1, .f32⟩
  | 79 => ⟨S64x64, .f32⟩
  | 80 => ⟨S64x64, .f32⟩
  | 81 => ⟨S16x64x32x64, .f32⟩
  | 82 => ⟨S16x64x32x64, .f32⟩
  | 83 => ⟨S16x64x32x64, .f32⟩
  | 84 => ⟨S64x64x1, .f32⟩
  | 85 => ⟨S64x64, .f32⟩
  | 86 => ⟨S64x64, .f32⟩
  | 87 => ⟨S16x64x32x64, .f32⟩
  | 88 => ⟨S16x64x32x64, .f32⟩
  | 89 => ⟨S16x64x32x64, .f32⟩
  | 90 => ⟨S64x64x1, .f32⟩
  | 91 => ⟨S64x64, .f32⟩
  | 92 => ⟨S64x64, .f32⟩
  | 93 => ⟨S16x64x32x64, .f32⟩
  | 94 => ⟨S16x64x32x64, .f32⟩
  | 95 => ⟨S1x1x1x64, .f32⟩
  | 96 => ⟨S16x64x32x64, .f32⟩
  | 97 => ⟨S16x64x32x64, .f32⟩
  | 98 => ⟨S_, .f32⟩
  | 99 => ⟨S16x64x32x64, .f32⟩
  | 100 => ⟨S16x64x32x64, .i1⟩
  | 101 => ⟨S_, .f32⟩
  | 102 => ⟨S16x64x32x64, .f32⟩
  | 103 => ⟨S16x64x32x64, .f32⟩
  | 104 => ⟨S16x64x32x64, .f32⟩
  | 105 => ⟨S16x131072, .f32⟩
  | 106 => ⟨S131072x256, .f32⟩
  | 107 => ⟨S16x256, .f32⟩
  | 108 => ⟨S1x256, .f32⟩
  | 109 => ⟨S16x256, .f32⟩
  | 110 => ⟨S16x256, .f32⟩
  | 111 => ⟨S16x8x32, .f32⟩
  | _ => ⟨S16x64x32, .f32⟩

abbrev hbmTy (i : Nat) : BufTy := match i / 128 with
  | 0 => hbmTy0_0 i
  | 1 => hbmTy0_1 i
  | _ => ⟨S16x64x32, .f32⟩

abbrev bufTy : (tb : Table) → Fin (tcTables nBuf tb) → BufTy
  | .hbm, ⟨i, _⟩ => hbmTy i
  | _, _ => ⟨S16x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_c : Ref sig .tc := ⟨.hbm, 24, rfl⟩
abbrev main_v2_0 : Ref sig .tc := ⟨.hbm, 25, rfl⟩
abbrev main_v2_1 : Ref sig .tc := ⟨.hbm, 26, rfl⟩
abbrev main_v2_2 : Ref sig .tc := ⟨.hbm, 27, rfl⟩
abbrev main_v2_3 : Ref sig .tc := ⟨.hbm, 28, rfl⟩
abbrev main_v2_4 : Ref sig .tc := ⟨.hbm, 29, rfl⟩
abbrev main_v2_5 : Ref sig .tc := ⟨.hbm, 30, rfl⟩
abbrev main_v2_6 : Ref sig .tc := ⟨.hbm, 31, rfl⟩
abbrev main_while0c_c_22 : Ref sig .tc := ⟨.hbm, 32, rfl⟩
abbrev main_while0c_v139 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_v0 : Ref sig .tc := ⟨.hbm, 36, rfl⟩
abbrev main_while0b_v139 : Ref sig .tc := ⟨.hbm, 37, rfl⟩
abbrev main_while0b_v140 : Ref sig .tc := ⟨.hbm, 38, rfl⟩
abbrev main_while0b_v141 : Ref sig .tc := ⟨.hbm, 39, rfl⟩
abbrev main_while0b_v142 : Ref sig .tc := ⟨.hbm, 40, rfl⟩
abbrev main_while0b_v143 : Ref sig .tc := ⟨.hbm, 41, rfl⟩
abbrev main_while0b_v144 : Ref sig .tc := ⟨.hbm, 42, rfl⟩
abbrev main_while0b_v145 : Ref sig .tc := ⟨.hbm, 43, rfl⟩
abbrev main_while0b_v146 : Ref sig .tc := ⟨.hbm, 44, rfl⟩
abbrev main_while0b_v147 : Ref sig .tc := ⟨.hbm, 45, rfl⟩
abbrev main_while0b_v148 : Ref sig .tc := ⟨.hbm, 46, rfl⟩
abbrev main_while0b_v149 : Ref sig .tc := ⟨.hbm, 47, rfl⟩
abbrev main_while0b_v150 : Ref sig .tc := ⟨.hbm, 48, rfl⟩
abbrev main_while0b_v151 : Ref sig .tc := ⟨.hbm, 49, rfl⟩
abbrev main_while0b_v152 : Ref sig .tc := ⟨.hbm, 50, rfl⟩
abbrev main_while0b_v153 : Ref sig .tc := ⟨.hbm, 51, rfl⟩
abbrev main_while0b_v154 : Ref sig .tc := ⟨.hbm, 52, rfl⟩
abbrev main_while0b_v155 : Ref sig .tc := ⟨.hbm, 53, rfl⟩
abbrev main_while0b_v156 : Ref sig .tc := ⟨.hbm, 54, rfl⟩
abbrev main_while0b_v157 : Ref sig .tc := ⟨.hbm, 55, rfl⟩
abbrev main_while0b_v158 : Ref sig .tc := ⟨.hbm, 56, rfl⟩
abbrev main_while0b_v159 : Ref sig .tc := ⟨.hbm, 57, rfl⟩
abbrev main_while0b_cst_22 : Ref sig .tc := ⟨.hbm, 58, rfl⟩
abbrev main_while0b_v160 : Ref sig .tc := ⟨.hbm, 59, rfl⟩
abbrev main_while0b_v161 : Ref sig .tc := ⟨.hbm, 60, rfl⟩
abbrev main_while0b_cst_23 : Ref sig .tc := ⟨.hbm, 61, rfl⟩
abbrev main_while0b_v162 : Ref sig .tc := ⟨.hbm, 62, rfl⟩
abbrev main_while0b_v163 : Ref sig .tc := ⟨.hbm, 63, rfl⟩
abbrev main_while0b_v164 : Ref sig .tc := ⟨.hbm, 64, rfl⟩
abbrev main_while0b_v165 : Ref sig .tc := ⟨.hbm, 65, rfl⟩
abbrev main_while0b_v166 : Ref sig .tc := ⟨.hbm, 66, rfl⟩
abbrev main_while0b_cst_24 : Ref sig .tc := ⟨.hbm, 67, rfl⟩
abbrev main_while0b_v167 : Ref sig .tc := ⟨.hbm, 68, rfl⟩
abbrev main_while0b_v168 : Ref sig .tc := ⟨.hbm, 69, rfl⟩
abbrev main_while0b_cst_25 : Ref sig .tc := ⟨.hbm, 70, rfl⟩
abbrev main_while0b_v169 : Ref sig .tc := ⟨.hbm, 71, rfl⟩
abbrev main_while0b_v170 : Ref sig .tc := ⟨.hbm, 72, rfl⟩
abbrev main_while0b_v171 : Ref sig .tc := ⟨.hbm, 73, rfl⟩
abbrev main_while0b_v172 : Ref sig .tc := ⟨.hbm, 74, rfl⟩
abbrev main_while0b_v173 : Ref sig .tc := ⟨.hbm, 75, rfl⟩
abbrev main_while0b_cst_26 : Ref sig .tc := ⟨.hbm, 76, rfl⟩
abbrev main_while0b_v174 : Ref sig .tc := ⟨.hbm, 77, rfl⟩
abbrev main_while0b_v175 : Ref sig .tc := ⟨.hbm, 78, rfl⟩
abbrev main_while0b_v176 : Ref sig .tc := ⟨.hbm, 79, rfl⟩
abbrev main_while0b_v177 : Ref sig .tc := ⟨.hbm, 80, rfl⟩
abbrev main_while0b_v178 : Ref sig .tc := ⟨.hbm, 81, rfl⟩
abbrev main_while0b_c_27 : Ref sig .tc := ⟨.hbm, 82, rfl⟩
abbrev main_while0b_v179 : Ref sig .tc := ⟨.hbm, 83, rfl⟩
abbrev main_v3 : Ref sig .tc := ⟨.hbm, 84, rfl⟩
abbrev main_v4 : Ref sig .tc := ⟨.hbm, 85, rfl⟩
abbrev main_v5 : Ref sig .tc := ⟨.hbm, 86, rfl⟩
abbrev main_v6 : Ref sig .tc := ⟨.hbm, 87, rfl⟩
abbrev main_v7 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_v11 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_cst_0 : Ref sig .tc := ⟨.hbm, 96, rfl⟩
abbrev main_v15 : Ref sig .tc := ⟨.hbm, 97, rfl⟩
abbrev main_v16 : Ref sig .tc := ⟨.hbm, 98, rfl⟩
abbrev main_v17 : Ref sig .tc := ⟨.hbm, 99, rfl⟩
abbrev main_cst_1 : Ref sig .tc := ⟨.hbm, 100, rfl⟩
abbrev main_v18 : Ref sig .tc := ⟨.hbm, 101, rfl⟩
abbrev main_cst_2 : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_cst_3 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_cst_4 : Ref sig .tc := ⟨.hbm, 114, rfl⟩
abbrev main_v29 : Ref sig .tc := ⟨.hbm, 115, rfl⟩
abbrev main_cst_5 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_cst_6 : Ref sig .tc := ⟨.hbm, 120, rfl⟩
abbrev main_v33 : Ref sig .tc := ⟨.hbm, 121, rfl⟩
abbrev main_v34 : Ref sig .tc := ⟨.hbm, 122, rfl⟩
abbrev main_cst_7 : Ref sig .tc := ⟨.hbm, 123, rfl⟩
abbrev main_call1_v0 : Ref sig .tc := ⟨.hbm, 124, rfl⟩
abbrev main_call1_v1 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev main_v42 : Ref sig .tc := ⟨.hbm, 133, rfl⟩
abbrev main_v43 : Ref sig .tc := ⟨.hbm, 134, rfl⟩
abbrev main_v44 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_c_8 : Ref sig .tc := ⟨.hbm, 148, rfl⟩
abbrev main_call2_v0 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_cst_9 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_cst_10 : Ref sig .tc := ⟨.hbm, 174, rfl⟩
abbrev main_v80 : Ref sig .tc := ⟨.hbm, 175, rfl⟩
abbrev main_v81 : Ref sig .tc := ⟨.hbm, 176, rfl⟩
abbrev main_cst_11 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_c_12 : Ref sig .tc := ⟨.hbm, 188, rfl⟩
abbrev main_call4_v0 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_cst_13 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_cst_14 : Ref sig .tc := ⟨.hbm, 226, rfl⟩
abbrev main_v127 : Ref sig .tc := ⟨.hbm, 227, rfl⟩
abbrev main_v128 : Ref sig .tc := ⟨.hbm, 228, rfl⟩
abbrev main_cst_15 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩

abbrev nD : Nat := 1
abbrev τ : Topo := Topo.v7x

variable {F : FTy → Type} [FloatOps F]

abbrev main_while0_count : Scf.Loop 32 := ⟨0#32, 64#32, 1#32⟩
-- ==== Proof.Own.KRuns.lean ====
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main is the host lines before the launch, the launch, and the host line after it, over the algebra of a body that moves data itself. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## What the body is run on -/

/-- Each window's current staging memref at point `t`, spelled as the pipeline passes it (`bodyAt0`), and its wholeness. -/
abbrev ms0_0 (t : Fin cfg0.N) : Memref sig .tc .vmem S64x512x1 .f32 := win0_0.stage (cfg0.slots t 0)
abbrev hs0_0 (t : Fin cfg0.N) : (ms0_0 t).IsWhole := hstage0_0 0
abbrev ms0_1 (t : Fin cfg0.N) : Memref sig .tc .vmem S1x64 .f32 := win0_1.stage (cfg0.slots t 1)
abbrev hs0_1 (t : Fin cfg0.N) : (ms0_1 t).IsWhole := hstage0_1 0
abbrev ms0_2 (t : Fin cfg0.N) : Memref sig .tc .vmem S1x64 .f32 := win0_2.stage (cfg0.slots t 2)
abbrev hs0_2 (t : Fin cfg0.N) : (ms0_2 t).IsWhole := hstage0_2 0
abbrev ms0_3 (t : Fin cfg0.N) : Memref sig .tc .vmem S1x64 .f32 := win0_3.stage (cfg0.slots t 3)
abbrev hs0_3 (t : Fin cfg0.N) : (ms0_3 t).IsWhole := hstage0_3 0
abbrev ms0_4 (t : Fin cfg0.N) : Memref sig .tc .vmem S64x64 .f32 := win0_4.stage (cfg0.slots t 4)
abbrev hs0_4 (t : Fin cfg0.N) : (ms0_4 t).IsWhole := hstage0_4 0
abbrev ms0_5 (t : Fin cfg0.N) : Memref sig .tc .vmem S64x64 .f32 := win0_5.stage (cfg0.slots t 5)
abbrev hs0_5 (t : Fin cfg0.N) : (ms0_5 t).IsWhole := hstage0_5 0
abbrev ms0_6 (t : Fin cfg0.N) : Memref sig .tc .vmem S64x64 .f32 := win0_6.stage (cfg0.slots t 6)
abbrev hs0_6 (t : Fin cfg0.N) : (ms0_6 t).IsWhole := hstage0_6 0
abbrev ms0_7 (t : Fin cfg0.N) : Memref sig .tc .vmem S1x64 .f32 := win0_7.stage (cfg0.slots t 7)
abbrev hs0_7 (t : Fin cfg0.N) : (ms0_7 t).IsWhole := hstage0_7 0
abbrev ms0_8 (t : Fin cfg0.N) : Memref sig .tc .vmem S1x64 .f32 := win0_8.stage (cfg0.slots t 8)
abbrev hs0_8 (t : Fin cfg0.N) : (ms0_8 t).IsWhole := hstage0_8 0
abbrev ms0_9 (t : Fin cfg0.N) : Memref sig .tc .vmem S1x64 .f32 := win0_9.stage (cfg0.slots t 9)
abbrev hs0_9 (t : Fin cfg0.N) : (ms0_9 t).IsWhole := hstage0_9 0
abbrev ms0_10 (t : Fin cfg0.N) : Memref sig .tc .vmem S1x64 .f32 := win0_10.stage (cfg0.slots t 10)
abbrev hs0_10 (t : Fin cfg0.N) : (ms0_10 t).IsWhole := hstage0_10 0
abbrev ms0_11 (t : Fin cfg0.N) : Memref sig .tc .vmem S1x64 .f32 := win0_11.stage (cfg0.slots t 11)
abbrev hs0_11 (t : Fin cfg0.N) : (ms0_11 t).IsWhole := hstage0_11 0
abbrev ms0_12 (t : Fin cfg0.N) : Memref sig .tc .vmem S1x64 .f32 := win0_12.stage (cfg0.slots t 12)
abbrev hs0_12 (t : Fin cfg0.N) : (ms0_12 t).IsWhole := hstage0_12 0
abbrev ms0_13 (t : Fin cfg0.N) : Memref sig .tc .vmem S64x32 .f32 := win0_13.stage (cfg0.slots t 13)
abbrev hs0_13 (t : Fin cfg0.N) : (ms0_13 t).IsWhole := hstage0_13 0
abbrev ms0_14 (t : Fin cfg0.N) : Memref sig .tc .vmem S1x32 .f32 := win0_14.stage (cfg0.slots t 14)
abbrev hs0_14 (t : Fin cfg0.N) : (ms0_14 t).IsWhole := hstage0_14 0
abbrev ms0_15 (t : Fin cfg0.N) : Memref sig .tc .vmem S64x32 .f32 := win0_15.stage (cfg0.slots t 15)
abbrev hs0_15 (t : Fin cfg0.N) : (ms0_15 t).IsWhole := hstage0_15 0
abbrev ms0_16 (t : Fin cfg0.N) : Memref sig .tc .vmem S1x32 .f32 := win0_16.stage (cfg0.slots t 16)
abbrev hs0_16 (t : Fin cfg0.N) : (ms0_16 t).IsWhole := hstage0_16 0
abbrev ms0_17 (t : Fin cfg0.N) : Memref sig .tc .vmem S1x64 .f32 := win0_17.stage (cfg0.slots t 17)
abbrev hs0_17 (t : Fin cfg0.N) : (ms0_17 t).IsWhole := hstage0_17 0
abbrev ms0_18 (t : Fin cfg0.N) : Memref sig .tc .vmem S1x64 .f32 := win0_18.stage (cfg0.slots t 18)
abbrev hs0_18 (t : Fin cfg0.N) : (ms0_18 t).IsWhole := hstage0_18 0
abbrev ms0_19 (t : Fin cfg0.N) : Memref sig .tc .vmem S64x64 .f32 := win0_19.stage (cfg0.slots t 19)
abbrev hs0_19 (t : Fin cfg0.N) : (ms0_19 t).IsWhole := hstage0_19 0
abbrev ms0_20 (t : Fin cfg0.N) : Memref sig .tc .vmem S1x4096 .f32 := win0_20.stage (cfg0.slots t 20)
abbrev hs0_20 (t : Fin cfg0.N) : (ms0_20 t).IsWhole := hstage0_20 0
abbrev ms0_21 (t : Fin cfg0.N) : Memref sig .tc .vmem S64x64 .f32 := win0_21.stage (cfg0.slots t 21)
abbrev hs0_21 (t : Fin cfg0.N) : (ms0_21 t).IsWhole := hstage0_21 0
abbrev ms0_22 (t : Fin cfg0.N) : Memref sig .tc .vmem S64x64 .f32 := win0_22.stage (cfg0.slots t 22)
abbrev hs0_22 (t : Fin cfg0.N) : (ms0_22 t).IsWhole := hstage0_22 0
abbrev ms0_23 (t : Fin cfg0.N) : Memref sig .tc .vmem S64x64 .f32 := win0_23.stage (cfg0.slots t 23)
abbrev hs0_23 (t : Fin cfg0.N) : (ms0_23 t).IsWhole := hstage0_23 0
abbrev ms0_24 (t : Fin cfg0.N) : Memref sig .tc .vmem S1x64 .f32 := win0_24.stage (cfg0.slots t 24)
abbrev hs0_24 (t : Fin cfg0.N) : (ms0_24 t).IsWhole := hstage0_24 0
abbrev ms0_25 (t : Fin cfg0.N) : Memref sig .tc .vmem S64x64 .f32 := win0_25.stage (cfg0.slots t 25)
abbrev hs0_25 (t : Fin cfg0.N) : (ms0_25 t).IsWhole := hstage0_25 0
abbrev ms0_26 (t : Fin cfg0.N) : Memref sig .tc .vmem S1x4096 .f32 := win0_26.stage (cfg0.slots t 26)
abbrev hs0_26 (t : Fin cfg0.N) : (ms0_26 t).IsWhole := hstage0_26 0
abbrev ms0_27 (t : Fin cfg0.N) : Memref sig .tc .vmem S64x64 .f32 := win0_27.stage (cfg0.slots t 27)
abbrev hs0_27 (t : Fin cfg0.N) : (ms0_27 t).IsWhole := hstage0_27 0
abbrev ms0_28 (t : Fin cfg0.N) : Memref sig .tc .vmem S64x64 .f32 := win0_28.stage (cfg0.slots t 28)
abbrev hs0_28 (t : Fin cfg0.N) : (ms0_28 t).IsWhole := hstage0_28 0
abbrev ms0_29 (t : Fin cfg0.N) : Memref sig .tc .vmem S64x64 .f32 := win0_29.stage (cfg0.slots t 29)
abbrev hs0_29 (t : Fin cfg0.N) : (ms0_29 t).IsWhole := hstage0_29 0
abbrev ms0_30 (t : Fin cfg0.N) : Memref sig .tc .vmem S64x64 .f32 := win0_30.stage (cfg0.slots t 30)
abbrev hs0_30 (t : Fin cfg0.N) : (ms0_30 t).IsWhole := hstage0_30 0
abbrev ms0_31 (t : Fin cfg0.N) : Memref sig .tc .vmem S64x64 .f32 := win0_31.stage (cfg0.slots t 31)
abbrev hs0_31 (t : Fin cfg0.N) : (ms0_31 t).IsWhole := hstage0_31 0
abbrev ms0_32 (t : Fin cfg0.N) : Memref sig .tc .vmem S1x64 .f32 := win0_32.stage (cfg0.slots t 32)
abbrev hs0_32 (t : Fin cfg0.N) : (ms0_32 t).IsWhole := hstage0_32 0
abbrev ms0_33 (t : Fin cfg0.N) : Memref sig .tc .vmem S1x256 .f32 := win0_33.stage (cfg0.slots t 33)
abbrev hs0_33 (t : Fin cfg0.N) : (ms0_33 t).IsWhole := hstage0_33 0
abbrev ms0_34 (t : Fin cfg0.N) : Memref sig .tc .vmem S16x256 .f32 := win0_34.stage (cfg0.slots t 34)
abbrev hs0_34 (t : Fin cfg0.N) : (ms0_34 t).IsWhole := hstage0_34 0
/-- The scratch operands: whole scoped buffers of the kernel's own, passed beside the windows. -/
abbrev scM0_0 : Memref sig .tc .vmem S5x256x4096 .f32 := Memref.whole cc0_scratch0
/-- The operands left in HBM that the body copies into scratch itself, whole. -/
abbrev hbM0_0 : Memref sig .tc .hbm S256x131072 .f32 := Memref.whole main_arg19
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 5 → SemLoc sig := fun j => (![SemLoc.dma 35, SemLoc.dma 36, SemLoc.dma 37, SemLoc.dma 38, SemLoc.dma 39] : Fin 5 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0) := by
  rw [Pipeline.ownSems0_eq_of_list c osem0 [0, 1, 2, 3, 4] (by decide) (by decide)]; rfl
/-- The HBM operands the body moves, as references: unscoped, no window's array (`Pipeline.restRefs`). -/
def H0 : Finset (Ref sig .tc) := {main_arg19}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg19)) := by
  rw [BI.bigSep_eq_bigSepL_of_eq [main_arg19] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0) ∗ iprop(hbPt0 c hbM0_0 (V m c main_arg19))) := by
  rw [Pipeline.ΦD_eq, scopedRest0_eq, ownSems00_eq, hbmPts0_eq]; simp only [scM0_0, owns_whole]; try rfl

end Cert.KernelIdeal.Named

end
-- ==== Proof.Own.KLoop.lean ====
module

public import proofs.«01_k».proof.Proof.Own.KRuns

@[expose] public section

set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- One time step of the gated recurrent unit: the weights (`v31 v33 v35` and the biases), the hidden
    state `h`, and the row of `arg0` the trip reads. -/
def gruStep  (v25 : Vec F S1x64 .f32) (v27 : Vec F S1x64 .f32) (v29 : Vec F S1x64 .f32) (v31 : Vec F S64x64 .f32) (v33 : Vec F S64x64 .f32) (v35 : Vec F S64x64 .f32) (v37 : Vec F S1x64 .f32) (v39 : Vec F S1x64 .f32) (v41 : Vec F S1x64 .f32) (v43 : Vec F S1x64 .f32) (v45 : Vec F S1x64 .f32) (v47 : Vec F S1x64 .f32)
    (row : ℕ → Vec F S1x512x1 .f32) (k : ℕ) (h : FVec F S512x64 .f32) : FVec F S512x64 .f32 :=
  k0_pay3 v25 v27 v29 v31 v33 v35 v37 v39 v41 v43 v45 v47 h (row k)

/-- The hidden state before trip `k`. -/
def gruAt  (v25 : Vec F S1x64 .f32) (v27 : Vec F S1x64 .f32) (v29 : Vec F S1x64 .f32) (v31 : Vec F S64x64 .f32) (v33 : Vec F S64x64 .f32) (v35 : Vec F S64x64 .f32) (v37 : Vec F S1x64 .f32) (v39 : Vec F S1x64 .f32) (v41 : Vec F S1x64 .f32) (v43 : Vec F S1x64 .f32) (v45 : Vec F S1x64 .f32) (v47 : Vec F S1x64 .f32)
    (row : ℕ → Vec F S1x512x1 .f32) (h0 : FVec F S512x64 .f32) : ℕ → FVec F S512x64 .f32
  | 0 => h0
  | k + 1 => gruStep v25 v27 v29 v31 v33 v35 v37 v39 v41 v43 v45 v47 row k (gruAt v25 v27 v29 v31 v33 v35 v37 v39 v41 v43 v45 v47 row h0 k)

/-- The row trip `k` reads of a buffer's contents; past the last trip a row nothing reads. -/
def rowAt (arg0 : Memref sig .tc .vmem S64x512x1 .f32) (X : BufTy.Contents (Elt F) arg0.view.ty) (k : ℕ) :
    Vec F S1x512x1 .f32 :=
  if h : k < k0_t1_loop.trips then
    arg0.view.readAt (Elt F) (Rect.unit (s := S64x512x1) (k0_off1 ⟨k, h⟩) S1x512x1.size (k0_off1_inb ⟨k, h⟩)).toLoadRect X
  else fun _ => FloatOps.ofBits .f32 0

set_option maxHeartbeats 4000000 in
set_option warn.classDefReducibility false in
/-- The recurrent loop by its invariant, at the algebra of launches with transfers: the input is kept,
    and the carried value is the hidden state of the trips done. -/
@[sl_loop] def gruLoop (𝒱 : Variants) (c : Dev nD) (bd : Option 𝒱.V) (E : Set ℕ) (arg0 : Memref sig .tc .vmem S64x512x1 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x32 .f32) (harg13 : arg13.IsWhole) (arg14 : Memref sig .tc .vmem S1x32 .f32) (harg14 : arg14.IsWhole) (arg15 : Memref sig .tc .vmem S64x32 .f32) (harg15 : arg15.IsWhole) (arg16 : Memref sig .tc .vmem S1x32 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x4096 .f32) (harg20 : arg20.IsWhole) (arg21 : Memref sig .tc .vmem S64x64 .f32) (harg21 : arg21.IsWhole) (arg22 : Memref sig .tc .vmem S64x64 .f32) (harg22 : arg22.IsWhole) (arg23 : Memref sig .tc .vmem S64x64 .f32) (harg23 : arg23.IsWhole) (arg24 : Memref sig .tc .vmem S1x64 .f32) (harg24 : arg24.IsWhole) (arg25 : Memref sig .tc .vmem S64x64 .f32) (harg25 : arg25.IsWhole) (arg26 : Memref sig .tc .vmem S1x4096 .f32) (harg26 : arg26.IsWhole) (arg27 : Memref sig .tc .vmem S64x64 .f32) (harg27 : arg27.IsWhole) (arg28 : Memref sig .tc .vmem S64x64 .f32) (harg28 : arg28.IsWhole) (arg29 : Memref sig .tc .vmem S64x64 .f32) (harg29 : arg29.IsWhole) (arg30 : Memref sig .tc .vmem S64x64 .f32) (harg30 : arg30.IsWhole) (arg31 : Memref sig .tc .vmem S64x64 .f32) (harg31 : arg31.IsWhole) (arg32 : Memref sig .tc .vmem S1x64 .f32) (harg32 : arg32.IsWhole) (arg33 : Memref sig .tc .hbm S256x131072 .f32) (harg33 : arg33.IsWhole) (arg34 : Memref sig .tc .vmem S1x256 .f32) (harg34 : arg34.IsWhole) (arg35 : Memref sig .tc .vmem S16x256 .f32) (harg35 : arg35.IsWhole) (arg36 : Memref sig .tc .vmem S5x256x4096 .f32) (harg36 : arg36.IsWhole) (arg37 : DmaSems sig S5) (v25 : Vec F S1x64 .f32) (v27 : Vec F S1x64 .f32) (v29 : Vec F S1x64 .f32) (v31 : Vec F S64x64 .f32) (v33 : Vec F S64x64 .f32) (v35 : Vec F S64x64 .f32) (v37 : Vec F S1x64 .f32) (v39 : Vec F S1x64 .f32) (v41 : Vec F S1x64 .f32) (v43 : Vec F S1x64 .f32) (v45 : Vec F S1x64 .f32) (v47 : Vec F S1x64 .f32)
    (X : BufTy.Contents (Elt F) arg0.view.ty) (init : FVec F S512x64 .f32) :
    LoopInvTy_k0_t1 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 v25 v27 v29 v31 v33 v35 v37 v39 v41 v43 v45 v47 init where
  inv k acc := iprop((arg0.view.loc (c : Thread nD τ) ↦[arg0.view.set]{fullShare} X)
    ∗ ⌜acc = gruAt v25 v27 v29 v31 v33 v35 v37 v39 v41 v43 v45 v47 (rowAt arg0 X) init k⌝)
  step k acc := by
    have hk : k.val < 64 := Nat.lt_of_lt_of_le k.isLt k0_t1_abs.2.1
    unfold k0_t1_body
    iintro ⟨HR, %h_acc⟩
    subst h_acc
    sl_exec
    sl_step
    isplitl [HR]; · iexact HR
    ipureintro
    rw [gruAt, gruStep, rowAt, dif_pos k.isLt]

end Cert.KernelIdeal.Named

end
-- ==== Proof.Own.KFull.lean ====
module

public import proofs.«01_k».proof.Proof.Own.KRuns
public import Idealize.ShloMosaic.Lib.VecWindow

@[expose] public section

noncomputable section

namespace Cert.KernelIdeal.Named

open Cert.KernelIdeal Cert.KernelIdeal.Gen
open Idealize.ShloMosaic Idealize.ShloMosaic.TcCoe Idealize.ShloMosaic.Tactic

variable {F : FTy → Type} [FloatOps F]

/-- A store over the whole of the result's buffer leaves what it stored. -/
theorem read_full (a : Memref sig .tc .vmem S16x256 .f32) (f : BufTy.Contents (Elt F) a.view.ty) (X : Vec F S16x256 .f32) :
    a.view.read (Elt F) (a.view.writes (Elt F) f [⟨Rect.unit (s := S16x256) ![0, 0] S16x256.size inb_S16x256_S16x256_0_0, X⟩]) = X := by
  funext y
  have h := View.read_writes_cons_emb (v := a.view) (f := f) (Val := Elt F) (Rect.unit (s := S16x256) ![0, 0] S16x256.size inb_S16x256_S16x256_0_0) X [] y
  rw [Idealize.ShloMosaic.Rect.emb_unit_full] at h
  exact h

end Cert.KernelIdeal.Named

end
-- ==== Proof.Own.KRun.lean ====
module

public import proofs.«01_k».proof.Proof.Own.KLoop
public import proofs.«01_k».proof.Proof.Own.KFull

@[expose] public section

-- membership in a rectangle of production extents (`View.cover_of_tiled`): the elaborator's structural look
-- recurses once per coordinate of the long axes
set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 20000000 in set_option sl_exec.resultNames true in set_option sl_exec.dmaWindow true in set_option sl_exec.dmaWindowSet true in set_option sl_exec.squeezeSlice true in
/-- The body's run: from whole staging buffers at their contents, the scratch at anything, the five counters at
    zero and the head's weight in place, the body runs to its end and leaves every input as it was and the
    result's buffer at the block the run found. -/
noncomputable def kernelRun0_A (c : Dev nD) (arg0 : Memref sig .tc .vmem S64x512x1 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x32 .f32) (harg13 : arg13.IsWhole) (arg14 : Memref sig .tc .vmem S1x32 .f32) (harg14 : arg14.IsWhole) (arg15 : Memref sig .tc .vmem S64x32 .f32) (harg15 : arg15.IsWhole) (arg16 : Memref sig .tc .vmem S1x32 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x4096 .f32) (harg20 : arg20.IsWhole) (arg21 : Memref sig .tc .vmem S64x64 .f32) (harg21 : arg21.IsWhole) (arg22 : Memref sig .tc .vmem S64x64 .f32) (harg22 : arg22.IsWhole) (arg23 : Memref sig .tc .vmem S64x64 .f32) (harg23 : arg23.IsWhole) (arg24 : Memref sig .tc .vmem S1x64 .f32) (harg24 : arg24.IsWhole) (arg25 : Memref sig .tc .vmem S64x64 .f32) (harg25 : arg25.IsWhole) (arg26 : Memref sig .tc .vmem S1x4096 .f32) (harg26 : arg26.IsWhole) (arg27 : Memref sig .tc .vmem S64x64 .f32) (harg27 : arg27.IsWhole) (arg28 : Memref sig .tc .vmem S64x64 .f32) (harg28 : arg28.IsWhole) (arg29 : Memref sig .tc .vmem S64x64 .f32) (harg29 : arg29.IsWhole) (arg30 : Memref sig .tc .vmem S64x64 .f32) (harg30 : arg30.IsWhole) (arg31 : Memref sig .tc .vmem S64x64 .f32) (harg31 : arg31.IsWhole) (arg32 : Memref sig .tc .vmem S1x64 .f32) (harg32 : arg32.IsWhole) (arg34 : Memref sig .tc .vmem S1x256 .f32) (harg34 : arg34.IsWhole) (arg35 : Memref sig .tc .vmem S16x256 .f32) (harg35 : arg35.IsWhole)
    (x0 : Vec F S64x512x1 .f32) (x1 : Vec F S1x64 .f32) (x2 : Vec F S1x64 .f32) (x3 : Vec F S1x64 .f32) (x4 : Vec F S64x64 .f32) (x5 : Vec F S64x64 .f32) (x6 : Vec F S64x64 .f32) (x7 : Vec F S1x64 .f32) (x8 : Vec F S1x64 .f32) (x9 : Vec F S1x64 .f32) (x10 : Vec F S1x64 .f32) (x11 : Vec F S1x64 .f32) (x12 : Vec F S1x64 .f32) (x13 : Vec F S64x32 .f32) (x14 : Vec F S1x32 .f32) (x15 : Vec F S64x32 .f32) (x16 : Vec F S1x32 .f32) (x17 : Vec F S1x64 .f32) (x18 : Vec F S1x64 .f32) (x19 : Vec F S64x64 .f32) (x20 : Vec F S1x4096 .f32) (x21 : Vec F S64x64 .f32) (x22 : Vec F S64x64 .f32) (x23 : Vec F S64x64 .f32) (x24 : Vec F S1x64 .f32) (x25 : Vec F S64x64 .f32) (x26 : Vec F S1x4096 .f32) (x27 : Vec F S64x64 .f32) (x28 : Vec F S64x64 .f32) (x29 : Vec F S64x64 .f32) (x30 : Vec F S64x64 .f32) (x31 : Vec F S64x64 .f32) (x32 : Vec F S1x64 .f32) (x33 : Vec F S1x256 .f32) (fh0 : HbBuf0 (F := F) c hbM0_0) :
    { out : BufTy.Contents (Elt F) scM0_0.view.ty → Vec F S16x256 .f32 //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg34 fullShare x33 ∗ (∃ d, owns (c : Thread nD τ) arg35 fullShare d) ∗ (∃ d, owns (c : Thread nD τ) scM0_0 fullShare d) ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg34 fullShare x33 ∗ (∃ fs, owns (c : Thread nD τ) arg35 fullShare (out fs)) ∗ (∃ d, owns (c : Thread nD τ) scM0_0 fullShare d) ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ (∃ W', owes (c : Thread nD τ) 0 W')) -∗ K ⟨⟩))
          ⊢ wp frame (wpE (defs₀ (F := F)) Variants.none c none) Set.univ (cc0__mega_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 (Memref.whole main_arg19) (Memref.isWhole_whole _) arg34 harg34 arg35 harg35 scM0_0 (Memref.isWhole_whole _) cc0_scratch1) K } := by
    refine ⟨?_, fun W K => ?run⟩
    case run =>
      simp only [cc0__mega_kernel_eq_skeleton]; unfold cc0__mega_kernel_skel
      simp only [k0_part86_eq_skeleton]; unfold k0_part86_skel; simp only [k0_part1_eq_skeleton, k0_part2_eq_skeleton]; unfold k0_part1_skel k0_part2_skel
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%d34, %f34, -, H34⟩, ⟨%ds0, %fs0, -, HS0⟩, Hq0, Hq1, Hq2, Hq3, Hq4, Hh0, HW, Hk⟩
      obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30; obtain rfl := harg31.eq_unread hf31; obtain rfl := harg32.eq_unread hf32; obtain rfl := harg34.eq_unread hf33
      sl_exec_parts
      sl_exec_parts

      sl_step
      iapply Hk
      isplitl [H0]
      · iexists _; isplitr; · ipureintro; exact harg0.read_unread _
        iexact H0
      isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iexists _; isplitr; · ipureintro; exact harg13.read_unread _
        iexact H13
      isplitl [H14]
      · iexists _; isplitr; · ipureintro; exact harg14.read_unread _
        iexact H14
      isplitl [H15]
      · iexists _; isplitr; · ipureintro; exact harg15.read_unread _
        iexact H15
      isplitl [H16]
      · iexists _; isplitr; · ipureintro; exact harg16.read_unread _
        iexact H16
      isplitl [H17]
      · iexists _; isplitr; · ipureintro; exact harg17.read_unread _
        iexact H17
      isplitl [H18]
      · iexists _; isplitr; · ipureintro; exact harg18.read_unread _
        iexact H18
      isplitl [H19]
      · iexists _; isplitr; · ipureintro; exact harg19.read_unread _
        iexact H19
      isplitl [H20]
      · iexists _; isplitr; · ipureintro; exact harg20.read_unread _
        iexact H20
      isplitl [H21]
      · iexists _; isplitr; · ipureintro; exact harg21.read_unread _
        iexact H21
      isplitl [H22]
      · iexists _; isplitr; · ipureintro; exact harg22.read_unread _
        iexact H22
      isplitl [H23]
      · iexists _; isplitr; · ipureintro; exact harg23.read_unread _
        iexact H23
      isplitl [H24]
      · iexists _; isplitr; · ipureintro; exact harg24.read_unread _
        iexact H24
      isplitl [H25]
      · iexists _; isplitr; · ipureintro; exact harg25.read_unread _
        iexact H25
      isplitl [H26]
      · iexists _; isplitr; · ipureintro; exact harg26.read_unread _
        iexact H26
      isplitl [H27]
      · iexists _; isplitr; · ipureintro; exact harg27.read_unread _
        iexact H27
      isplitl [H28]
      · iexists _; isplitr; · ipureintro; exact harg28.read_unread _
        iexact H28
      isplitl [H29]
      · iexists _; isplitr; · ipureintro; exact harg29.read_unread _
        iexact H29
      isplitl [H30]
      · iexists _; isplitr; · ipureintro; exact harg30.read_unread _
        iexact H30
      isplitl [H31]
      · iexists _; isplitr; · ipureintro; exact harg31.read_unread _
        iexact H31
      isplitl [H32]
      · iexists _; isplitr; · ipureintro; exact harg32.read_unread _
        iexact H32
      isplitl [H33]
      · iexists _; isplitr; · ipureintro; exact harg34.read_unread _
        iexact H33
      isplitl [H34]
      · iexists fs0, _; isplitr; swap; · iexact H34
        ipureintro; exact read_full (F := F) arg35 _ _
      isplitl [HS0]
      · iexists _, _; isplitr; swap; · iexact HS0
        ipureintro; rfl
      isplitl [Hq0]; · iexact Hq0
      isplitl [Hq1]; · iexact Hq1
      isplitl [Hq2]; · iexact Hq2
      isplitl [Hq3]; · iexact Hq3
      isplitl [Hq4]; · iexact Hq4
      isplitl [Hh0]; · iexact Hh0
      iexists _; iexact HW

end Cert.KernelIdeal.Named

end
-- ==== Proof.Own.KFrame.lean ====
module

public import proofs.«01_k».proof.Proof.Own.KRun

@[expose] public section

set_option maxRecDepth 16384

noncomputable section

/-! The launch: the body's obligation at the grid's one point, and the frame, the result's array forgotten. -/

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RDat)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The body's run at a point, on the blocks the launch hands it. -/
def runAt (c : Dev nD) (t : Fin cfg0.N) :=
  kernelRun0_A (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (V m c main_arg19)

/-- The proof data, the result named `o`: every input's buffer is left at its block. -/
def dats (o : Dev nD → Vec F S16x256 .f32) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => o c
    | ⟨n + 35, h⟩ => absurd (show n + 35 < 35 from h) (by omega)
  Φ _ := Pipeline.ΦD osem0 spec0 H0 (V m) c
  q _ := fullShare
  owed _ := 0

variable (o : Dev nD → Vec F S16x256 .f32)

/-- The arrays are those the region finds. -/
theorem A_eq (c : Dev nD) (w : Fin cfg0.W) : (dats m o 0 c).A w = V m c (Pipeline.arrRef spec0 w) := by dsimp only [dats]

/-- An input whose block the body leaves holds its block when the body starts. -/
theorem before_in (c : Dev nD) (w : Fin cfg0.W) (hw : (cfg0.win w).isOut = false) (hf : ∀ t, (cfg0.win w).fetch t = true) (t : Fin cfg0.N) (d) :
    (dats m o 0 c).before w t d = (dats m o 0 c).fetched w t d := (dats m o 0 c).before_fetched w t (hf t) d

set_option maxHeartbeats 4000000 in
/-- The body at the grid's point, from the inputs' blocks and a result's buffer at anything (`L`), to the same and the
    result (`R`) as the run found it. -/
theorem body_core (c : Dev nD) (t : Fin cfg0.N) (L R : sProp 𝕄)
    (hL : L ⊢ iprop(∃ d, owns (c : Thread nD τ) (ms0_34 t) fullShare d))
    (hR : ∀ fs, (owns (c : Thread nD τ) (ms0_34 t) fullShare ((runAt m c t).1 fs) : sProp 𝕄) ⊢ R) :
    iprop((dats m o 0 c).Φ t.castSucc ∗ (dats m o 0 c).owesAt () t.castSucc
      ∗ (∃ d, owns (c : Thread nD τ) (st0_0 t) fullShare ((dats m o 0 c).before 0 t d))
      ∗ (∃ d, owns (c : Thread nD τ) (st0_1 t) fullShare ((dats m o 0 c).before 1 t d))
      ∗ (∃ d, owns (c : Thread nD τ) (st0_2 t) fullShare ((dats m o 0 c).before 2 t d))
      ∗ (∃ d, owns (c : Thread nD τ) (st0_3 t) fullShare ((dats m o 0 c).before 3 t d))
      ∗ (∃ d, owns (c : Thread nD τ) (st0_4 t) fullShare ((dats m o 0 c).before 4 t d))
      ∗ (∃ d, owns (c : Thread nD τ) (st0_5 t) fullShare ((dats m o 0 c).before 5 t d))
      ∗ (∃ d, owns (c : Thread nD τ) (st0_6 t) fullShare ((dats m o 0 c).before 6 t d))
      ∗ (∃ d, owns (c : Thread nD τ) (st0_7 t) fullShare ((dats m o 0 c).before 7 t d))
      ∗ (∃ d, owns (c : Thread nD τ) (st0_8 t) fullShare ((dats m o 0 c).before 8 t d))
      ∗ (∃ d, owns (c : Thread nD τ) (st0_9 t) fullShare ((dats m o 0 c).before 9 t d))
      ∗ (∃ d, owns (c : Thread nD τ) (st0_10 t) fullShare ((dats m o 0 c).before 10 t d))
      ∗ (∃ d, owns (c : Thread nD τ) (st0_11 t) fullShare ((dats m o 0 c).before 11 t d))
      ∗ (∃ d, owns (c : Thread nD τ) (st0_12 t) fullShare ((dats m o 0 c).before 12 t d))
      ∗ (∃ d, owns (c : Thread nD τ) (st0_13 t) fullShare ((dats m o 0 c).before 13 t d))
      ∗ (∃ d, owns (c : Thread nD τ) (st0_14 t) fullShare ((dats m o 0 c).before 14 t d))
      ∗ (∃ d, owns (c : Thread nD τ) (st0_15 t) fullShare ((dats m o 0 c).before 15 t d))
      ∗ (∃ d, owns (c : Thread nD τ) (st0_16 t) fullShare ((dats m o 0 c).before 16 t d))
      ∗ (∃ d, owns (c : Thread nD τ) (st0_17 t) fullShare ((dats m o 0 c).before 17 t d))
      ∗ (∃ d, owns (c : Thread nD τ) (st0_18 t) fullShare ((dats m o 0 c).before 18 t d))
      ∗ (∃ d, owns (c : Thread nD τ) (st0_19 t) fullShare ((dats m o 0 c).before 19 t d))
      ∗ (∃ d, owns (c : Thread nD τ) (st0_20 t) fullShare ((dats m o 0 c).before 20 t d))
      ∗ (∃ d, owns (c : Thread nD τ) (st0_21 t) fullShare ((dats m o 0 c).before 21 t d))
      ∗ (∃ d, owns (c : Thread nD τ) (st0_22 t) fullShare ((dats m o 0 c).before 22 t d))
      ∗ (∃ d, owns (c : Thread nD τ) (st0_23 t) fullShare ((dats m o 0 c).before 23 t d))
      ∗ (∃ d, owns (c : Thread nD τ) (st0_24 t) fullShare ((dats m o 0 c).before 24 t d))
      ∗ (∃ d, owns (c : Thread nD τ) (st0_25 t) fullShare ((dats m o 0 c).before 25 t d))
      ∗ (∃ d, owns (c : Thread nD τ) (st0_26 t) fullShare ((dats m o 0 c).before 26 t d))
      ∗ (∃ d, owns (c : Thread nD τ) (st0_27 t) fullShare ((dats m o 0 c).before 27 t d))
      ∗ (∃ d, owns (c : Thread nD τ) (st0_28 t) fullShare ((dats m o 0 c).before 28 t d))
      ∗ (∃ d, owns (c : Thread nD τ) (st0_29 t) fullShare ((dats m o 0 c).before 29 t d))
      ∗ (∃ d, owns (c : Thread nD τ) (st0_30 t) fullShare ((dats m o 0 c).before 30 t d))
      ∗ (∃ d, owns (c : Thread nD τ) (st0_31 t) fullShare ((dats m o 0 c).before 31 t d))
      ∗ (∃ d, owns (c : Thread nD τ) (st0_32 t) fullShare ((dats m o 0 c).before 32 t d))
      ∗ (∃ d, owns (c : Thread nD τ) (st0_33 t) fullShare ((dats m o 0 c).before 33 t d))
      ∗ L)
    ⊢ wp frame (wpE (defs₀ (F := F)) Variants.none c none) Set.univ (bodyAt0 t) fun _ =>
      iprop((dats m o 0 c).Φ t.succ ∗ (dats m o 0 c).owesAt () t.succ
      ∗ owns (c : Thread nD τ) (st0_0 t) fullShare ((dats m o 0 c).after 0 t)
      ∗ owns (c : Thread nD τ) (st0_1 t) fullShare ((dats m o 0 c).after 1 t)
      ∗ owns (c : Thread nD τ) (st0_2 t) fullShare ((dats m o 0 c).after 2 t)
      ∗ owns (c : Thread nD τ) (st0_3 t) fullShare ((dats m o 0 c).after 3 t)
      ∗ owns (c : Thread nD τ) (st0_4 t) fullShare ((dats m o 0 c).after 4 t)
      ∗ owns (c : Thread nD τ) (st0_5 t) fullShare ((dats m o 0 c).after 5 t)
      ∗ owns (c : Thread nD τ) (st0_6 t) fullShare ((dats m o 0 c).after 6 t)
      ∗ owns (c : Thread nD τ) (st0_7 t) fullShare ((dats m o 0 c).after 7 t)
      ∗ owns (c : Thread nD τ) (st0_8 t) fullShare ((dats m o 0 c).after 8 t)
      ∗ owns (c : Thread nD τ) (st0_9 t) fullShare ((dats m o 0 c).after 9 t)
      ∗ owns (c : Thread nD τ) (st0_10 t) fullShare ((dats m o 0 c).after 10 t)
      ∗ owns (c : Thread nD τ) (st0_11 t) fullShare ((dats m o 0 c).after 11 t)
      ∗ owns (c : Thread nD τ) (st0_12 t) fullShare ((dats m o 0 c).after 12 t)
      ∗ owns (c : Thread nD τ) (st0_13 t) fullShare ((dats m o 0 c).after 13 t)
      ∗ owns (c : Thread nD τ) (st0_14 t) fullShare ((dats m o 0 c).after 14 t)
      ∗ owns (c : Thread nD τ) (st0_15 t) fullShare ((dats m o 0 c).after 15 t)
      ∗ owns (c : Thread nD τ) (st0_16 t) fullShare ((dats m o 0 c).after 16 t)
      ∗ owns (c : Thread nD τ) (st0_17 t) fullShare ((dats m o 0 c).after 17 t)
      ∗ owns (c : Thread nD τ) (st0_18 t) fullShare ((dats m o 0 c).after 18 t)
      ∗ owns (c : Thread nD τ) (st0_19 t) fullShare ((dats m o 0 c).after 19 t)
      ∗ owns (c : Thread nD τ) (st0_20 t) fullShare ((dats m o 0 c).after 20 t)
      ∗ owns (c : Thread nD τ) (st0_21 t) fullShare ((dats m o 0 c).after 21 t)
      ∗ owns (c : Thread nD τ) (st0_22 t) fullShare ((dats m o 0 c).after 22 t)
      ∗ owns (c : Thread nD τ) (st0_23 t) fullShare ((dats m o 0 c).after 23 t)
      ∗ owns (c : Thread nD τ) (st0_24 t) fullShare ((dats m o 0 c).after 24 t)
      ∗ owns (c : Thread nD τ) (st0_25 t) fullShare ((dats m o 0 c).after 25 t)
      ∗ owns (c : Thread nD τ) (st0_26 t) fullShare ((dats m o 0 c).after 26 t)
      ∗ owns (c : Thread nD τ) (st0_27 t) fullShare ((dats m o 0 c).after 27 t)
      ∗ owns (c : Thread nD τ) (st0_28 t) fullShare ((dats m o 0 c).after 28 t)
      ∗ owns (c : Thread nD τ) (st0_29 t) fullShare ((dats m o 0 c).after 29 t)
      ∗ owns (c : Thread nD τ) (st0_30 t) fullShare ((dats m o 0 c).after 30 t)
      ∗ owns (c : Thread nD τ) (st0_31 t) fullShare ((dats m o 0 c).after 31 t)
      ∗ owns (c : Thread nD τ) (st0_32 t) fullShare ((dats m o 0 c).after 32 t)
      ∗ owns (c : Thread nD τ) (st0_33 t) fullShare ((dats m o 0 c).after 33 t)
      ∗ R) := by
  unfold bodyAt0
  have hb (w : Fin cfg0.W) (hw : (cfg0.win w).isOut = false) (hf : ∀ t, (cfg0.win w).fetch t = true) (d) := before_in m o c w hw hf t d
  have b0 d : (dats m o 0 c).before 0 t d = iblk m c 0 t := (hb 0 rfl fetch0_0 d).trans (by unfold Dat.fetched Dat.blockOf iblk; rw [A_eq]; try rfl)
  have b1 d : (dats m o 0 c).before 1 t d = iblk m c 1 t := (hb 1 rfl fetch0_1 d).trans (by unfold Dat.fetched Dat.blockOf iblk; rw [A_eq]; try rfl)
  have b2 d : (dats m o 0 c).before 2 t d = iblk m c 2 t := (hb 2 rfl fetch0_2 d).trans (by unfold Dat.fetched Dat.blockOf iblk; rw [A_eq]; try rfl)
  have b3 d : (dats m o 0 c).before 3 t d = iblk m c 3 t := (hb 3 rfl fetch0_3 d).trans (by unfold Dat.fetched Dat.blockOf iblk; rw [A_eq]; try rfl)
  have b4 d : (dats m o 0 c).before 4 t d = iblk m c 4 t := (hb 4 rfl fetch0_4 d).trans (by unfold Dat.fetched Dat.blockOf iblk; rw [A_eq]; try rfl)
  have b5 d : (dats m o 0 c).before 5 t d = iblk m c 5 t := (hb 5 rfl fetch0_5 d).trans (by unfold Dat.fetched Dat.blockOf iblk; rw [A_eq]; try rfl)
  have b6 d : (dats m o 0 c).before 6 t d = iblk m c 6 t := (hb 6 rfl fetch0_6 d).trans (by unfold Dat.fetched Dat.blockOf iblk; rw [A_eq]; try rfl)
  have b7 d : (dats m o 0 c).before 7 t d = iblk m c 7 t := (hb 7 rfl fetch0_7 d).trans (by unfold Dat.fetched Dat.blockOf iblk; rw [A_eq]; try rfl)
  have b8 d : (dats m o 0 c).before 8 t d = iblk m c 8 t := (hb 8 rfl fetch0_8 d).trans (by unfold Dat.fetched Dat.blockOf iblk; rw [A_eq]; try rfl)
  have b9 d : (dats m o 0 c).before 9 t d = iblk m c 9 t := (hb 9 rfl fetch0_9 d).trans (by unfold Dat.fetched Dat.blockOf iblk; rw [A_eq]; try rfl)
  have b10 d : (dats m o 0 c).before 10 t d = iblk m c 10 t := (hb 10 rfl fetch0_10 d).trans (by unfold Dat.fetched Dat.blockOf iblk; rw [A_eq]; try rfl)
  have b11 d : (dats m o 0 c).before 11 t d = iblk m c 11 t := (hb 11 rfl fetch0_11 d).trans (by unfold Dat.fetched Dat.blockOf iblk; rw [A_eq]; try rfl)
  have b12 d : (dats m o 0 c).before 12 t d = iblk m c 12 t := (hb 12 rfl fetch0_12 d).trans (by unfold Dat.fetched Dat.blockOf iblk; rw [A_eq]; try rfl)
  have b13 d : (dats m o 0 c).before 13 t d = iblk m c 13 t := (hb 13 rfl fetch0_13 d).trans (by unfold Dat.fetched Dat.blockOf iblk; rw [A_eq]; try rfl)
  have b14 d : (dats m o 0 c).before 14 t d = iblk m c 14 t := (hb 14 rfl fetch0_14 d).trans (by unfold Dat.fetched Dat.blockOf iblk; rw [A_eq]; try rfl)
  have b15 d : (dats m o 0 c).before 15 t d = iblk m c 15 t := (hb 15 rfl fetch0_15 d).trans (by unfold Dat.fetched Dat.blockOf iblk; rw [A_eq]; try rfl)
  have b16 d : (dats m o 0 c).before 16 t d = iblk m c 16 t := (hb 16 rfl fetch0_16 d).trans (by unfold Dat.fetched Dat.blockOf iblk; rw [A_eq]; try rfl)
  have b17 d : (dats m o 0 c).before 17 t d = iblk m c 17 t := (hb 17 rfl fetch0_17 d).trans (by unfold Dat.fetched Dat.blockOf iblk; rw [A_eq]; try rfl)
  have b18 d : (dats m o 0 c).before 18 t d = iblk m c 18 t := (hb 18 rfl fetch0_18 d).trans (by unfold Dat.fetched Dat.blockOf iblk; rw [A_eq]; try rfl)
  have b19 d : (dats m o 0 c).before 19 t d = iblk m c 19 t := (hb 19 rfl fetch0_19 d).trans (by unfold Dat.fetched Dat.blockOf iblk; rw [A_eq]; try rfl)
  have b20 d : (dats m o 0 c).before 20 t d = iblk m c 20 t := (hb 20 rfl fetch0_20 d).trans (by unfold Dat.fetched Dat.blockOf iblk; rw [A_eq]; try rfl)
  have b21 d : (dats m o 0 c).before 21 t d = iblk m c 21 t := (hb 21 rfl fetch0_21 d).trans (by unfold Dat.fetched Dat.blockOf iblk; rw [A_eq]; try rfl)
  have b22 d : (dats m o 0 c).before 22 t d = iblk m c 22 t := (hb 22 rfl fetch0_22 d).trans (by unfold Dat.fetched Dat.blockOf iblk; rw [A_eq]; try rfl)
  have b23 d : (dats m o 0 c).before 23 t d = iblk m c 23 t := (hb 23 rfl fetch0_23 d).trans (by unfold Dat.fetched Dat.blockOf iblk; rw [A_eq]; try rfl)
  have b24 d : (dats m o 0 c).before 24 t d = iblk m c 24 t := (hb 24 rfl fetch0_24 d).trans (by unfold Dat.fetched Dat.blockOf iblk; rw [A_eq]; try rfl)
  have b25 d : (dats m o 0 c).before 25 t d = iblk m c 25 t := (hb 25 rfl fetch0_25 d).trans (by unfold Dat.fetched Dat.blockOf iblk; rw [A_eq]; try rfl)
  have b26 d : (dats m o 0 c).before 26 t d = iblk m c 26 t := (hb 26 rfl fetch0_26 d).trans (by unfold Dat.fetched Dat.blockOf iblk; rw [A_eq]; try rfl)
  have b27 d : (dats m o 0 c).before 27 t d = iblk m c 27 t := (hb 27 rfl fetch0_27 d).trans (by unfold Dat.fetched Dat.blockOf iblk; rw [A_eq]; try rfl)
  have b28 d : (dats m o 0 c).before 28 t d = iblk m c 28 t := (hb 28 rfl fetch0_28 d).trans (by unfold Dat.fetched Dat.blockOf iblk; rw [A_eq]; try rfl)
  have b29 d : (dats m o 0 c).before 29 t d = iblk m c 29 t := (hb 29 rfl fetch0_29 d).trans (by unfold Dat.fetched Dat.blockOf iblk; rw [A_eq]; try rfl)
  have b30 d : (dats m o 0 c).before 30 t d = iblk m c 30 t := (hb 30 rfl fetch0_30 d).trans (by unfold Dat.fetched Dat.blockOf iblk; rw [A_eq]; try rfl)
  have b31 d : (dats m o 0 c).before 31 t d = iblk m c 31 t := (hb 31 rfl fetch0_31 d).trans (by unfold Dat.fetched Dat.blockOf iblk; rw [A_eq]; try rfl)
  have b32 d : (dats m o 0 c).before 32 t d = iblk m c 32 t := (hb 32 rfl fetch0_32 d).trans (by unfold Dat.fetched Dat.blockOf iblk; rw [A_eq]; try rfl)
  have b33 d : (dats m o 0 c).before 33 t d = iblk m c 33 t := (hb 33 rfl fetch0_33 d).trans (by unfold Dat.fetched Dat.blockOf iblk; rw [A_eq]; try rfl)
  have a0 : (dats m o 0 c).after 0 t = iblk m c 0 t := by dsimp only [dats]
  have a1 : (dats m o 0 c).after 1 t = iblk m c 1 t := by dsimp only [dats]
  have a2 : (dats m o 0 c).after 2 t = iblk m c 2 t := by dsimp only [dats]
  have a3 : (dats m o 0 c).after 3 t = iblk m c 3 t := by dsimp only [dats]
  have a4 : (dats m o 0 c).after 4 t = iblk m c 4 t := by dsimp only [dats]
  have a5 : (dats m o 0 c).after 5 t = iblk m c 5 t := by dsimp only [dats]
  have a6 : (dats m o 0 c).after 6 t = iblk m c 6 t := by dsimp only [dats]
  have a7 : (dats m o 0 c).after 7 t = iblk m c 7 t := by dsimp only [dats]
  have a8 : (dats m o 0 c).after 8 t = iblk m c 8 t := by dsimp only [dats]
  have a9 : (dats m o 0 c).after 9 t = iblk m c 9 t := by dsimp only [dats]
  have a10 : (dats m o 0 c).after 10 t = iblk m c 10 t := by dsimp only [dats]
  have a11 : (dats m o 0 c).after 11 t = iblk m c 11 t := by dsimp only [dats]
  have a12 : (dats m o 0 c).after 12 t = iblk m c 12 t := by dsimp only [dats]
  have a13 : (dats m o 0 c).after 13 t = iblk m c 13 t := by dsimp only [dats]
  have a14 : (dats m o 0 c).after 14 t = iblk m c 14 t := by dsimp only [dats]
  have a15 : (dats m o 0 c).after 15 t = iblk m c 15 t := by dsimp only [dats]
  have a16 : (dats m o 0 c).after 16 t = iblk m c 16 t := by dsimp only [dats]
  have a17 : (dats m o 0 c).after 17 t = iblk m c 17 t := by dsimp only [dats]
  have a18 : (dats m o 0 c).after 18 t = iblk m c 18 t := by dsimp only [dats]
  have a19 : (dats m o 0 c).after 19 t = iblk m c 19 t := by dsimp only [dats]
  have a20 : (dats m o 0 c).after 20 t = iblk m c 20 t := by dsimp only [dats]
  have a21 : (dats m o 0 c).after 21 t = iblk m c 21 t := by dsimp only [dats]
  have a22 : (dats m o 0 c).after 22 t = iblk m c 22 t := by dsimp only [dats]
  have a23 : (dats m o 0 c).after 23 t = iblk m c 23 t := by dsimp only [dats]
  have a24 : (dats m o 0 c).after 24 t = iblk m c 24 t := by dsimp only [dats]
  have a25 : (dats m o 0 c).after 25 t = iblk m c 25 t := by dsimp only [dats]
  have a26 : (dats m o 0 c).after 26 t = iblk m c 26 t := by dsimp only [dats]
  have a27 : (dats m o 0 c).after 27 t = iblk m c 27 t := by dsimp only [dats]
  have a28 : (dats m o 0 c).after 28 t = iblk m c 28 t := by dsimp only [dats]
  have a29 : (dats m o 0 c).after 29 t = iblk m c 29 t := by dsimp only [dats]
  have a30 : (dats m o 0 c).after 30 t = iblk m c 30 t := by dsimp only [dats]
  have a31 : (dats m o 0 c).after 31 t = iblk m c 31 t := by dsimp only [dats]
  have a32 : (dats m o 0 c).after 32 t = iblk m c 32 t := by dsimp only [dats]
  have a33 : (dats m o 0 c).after 33 t = iblk m c 33 t := by dsimp only [dats]
  simp only [b0, b1, b2, b3, b4, b5, b6, b7, b8, b9, b10, b11, b12, b13, b14, b15, b16, b17, b18, b19, b20, b21, b22, b23, b24, b25, b26, b27, b28, b29, b30, b31, b32, b33]
  rw [show (dats m o 0 c).Φ t.succ = Pipeline.ΦD osem0 spec0 H0 (V m) c from rfl,
    show (dats m o 0 c).Φ t.castSucc = Pipeline.ΦD osem0 spec0 H0 (V m) c from rfl, PhiD0_eq,
    a0, a1, a2, a3, a4, a5, a6, a7, a8, a9, a10, a11, a12, a13, a14, a15, a16, a17, a18, a19, a20, a21, a22, a23, a24, a25, a26, a27, a28, a29, a30, a31, a32, a33]
  unfold Dat.owesAt Pipeline.owesWithin
  rw [show (dats m o 0 c).owed t.castSucc = 0 from rfl, show (dats m o 0 c).owed t.succ = 0 from rfl]
  iintro ⟨⟨HS0, Hg, ⟨Hq0, Hq1, Hq2, Hq3, Hq4⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, HL⟩
  icases hL $$ HL with H34
  iapply ((runAt m c t).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [HS0]; · iexact HS0
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [HW]; · iexact HW
  iintro ⟨H0, H1, H2, H3, H4, H5, H6, H7, H8, H9, H10, H11, H12, H13, H14, H15, H16, H17, H18, H19, H20, H21, H22, H23, H24, H25, H26, H27, H28, H29, H30, H31, H32, H33, ⟨%fs, H34⟩, HS0, Hq0, Hq1, Hq2, Hq3, Hq4, Hh0, ⟨%W', HW⟩⟩
  isplitl [HS0 Hg Hq0 Hq1 Hq2 Hq3 Hq4 Hh0]
  · isplitl [HS0]; · iexact HS0
    isplitl [Hg]; · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    iexact Hh0
  isplitl [HW]
  · iexists W'
    isplitr
    · ipureintro; exact fun x _ => Or.inl (Set.mem_univ x)
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iapply (hR fs)
  iexact H34

/-- The result's window is the one the frame says nothing of. -/
def forgets0 (w : Fin cfg0.W) : Bool := decide (w = 34)

/-- The body table's row is the body at the grid's point. -/
theorem defs₀_row (t : Fin cfg0.N) : (defs₀ (F := F)) .tc cfg0.body (cfg0.bodyArgs t (cfg0.slots t)) = bodyAt0 t := rfl

set_option maxHeartbeats 4000000 in
/-- The body's obligation, the result forgotten. -/
theorem body_forget (c : Dev nD) : BodyObligation (dats m o 0 c) (defs₀ (F := F)) Variants.none () Set.univ forgets0 := fun t => by
  rw [bigSep_W0, bigSep_W0, defs₀_row]
  exact triple_restated (body_core m o c t iprop(∃ X, owns (c : Thread nD τ) (ms0_34 t) fullShare X) iprop(∃ X, owns (c : Thread nD τ) (ms0_34 t) fullShare X)
    .rfl fun fs => by iintro H; iexists _; iexact H) rfl .rfl fun _ => .rfl

/-- What the line after the launch writes. -/
def T0 : Finset (Ref sig .tc) := {main_v71}

/-- It writes nothing else. -/
theorem sfx_writes : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  subst hop
  have h := Finset.mem_singleton.mp hb
  rw [T0, Finset.mem_singleton]
  exact Proc.devRef_injective .tc h

set_option maxHeartbeats 4000000 in
set_option backward.isDefEq.respectTransparency.types false in
/-- The launch from any memory, the result forgotten: every other array as the region found it, every counter at zero. -/
theorem run_forget : θ_run defs (onTc (τ := τ) (main (F := F))) (s₀ m ρ)
    (fun r => RDat.FramePostR cfg0 (fun c => (dats m o 0 c).toRForget forgets0) T0 (V m) r ∧ r.2.sem = fun _ => 0) :=
  Pipeline.θ_run_frame_dma_around_T_forget (Q' := _) cfgs (dats m o) (0 : Fin 1) launch0 osem0 defs₀ Variants.none forgets0 ownSemFacts0 H0 T0 H0_sub m ρ main
    (hbody := fun c => (body_forget m o c).loose) (hshare := fun c => (dats m o 0 c).share_full fun _ => rfl) (howed := fun _ _ => rfl)
    (V₀ := V0 m) (opss := [hostOps1]) (hsub := sfx_but) (hfresh := sfx_fresh) (hkeep := sfx_keeps) (hT := sfx_writes)
    (hmain := hmainD m Variants.none) (hA := A_eq m o) (hin := fun _ => .rfl) (hout := fun _ => .rfl)

/-- What no window stages and no line writes ends as it began. -/
theorem kept {r : PUnit × MemSt nD τ sig (Elt F)} (h : RDat.FramePostR cfg0 (fun c => (dats m o 0 c).toRForget forgets0) T0 (V m) r) (c : Dev nD) (b : Ref sig .tc)
    (hs : b.isScoped = false) (ha : ∀ w, (spec0 w).arr.view.ref ≠ b) (hb : b ∉ T0) : r.2.mem ((c.tc : Thread nD τ).loc b) = V m c b :=
  (h c).2 b (Finset.mem_sdiff.mpr ⟨Pipeline.mem_restRefs_of b hs ha, hb⟩)

/-- The frame: every argument ends as it began, and every counter at zero. -/
theorem frame_end : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20)) ∧ r.2.sem = fun _ => 0) :=
  (θ_run defs _ _).mono (fun r (h : _ ∧ _) => ⟨fun c => ⟨
      (kept m (fun _ _ => FloatOps.ofBits .f32 0#32) h.1 c main_arg0 (by decide) (by decide) (by decide)).trans (V_main_arg0 m c),
      (kept m (fun _ _ => FloatOps.ofBits .f32 0#32) h.1 c main_arg1 (by decide) (by decide) (by decide)).trans (V_main_arg1 m c),
      (kept m (fun _ _ => FloatOps.ofBits .f32 0#32) h.1 c main_arg2 (by decide) (by decide) (by decide)).trans (V_main_arg2 m c),
      (kept m (fun _ _ => FloatOps.ofBits .f32 0#32) h.1 c main_arg3 (by decide) (by decide) (by decide)).trans (V_main_arg3 m c),
      (kept m (fun _ _ => FloatOps.ofBits .f32 0#32) h.1 c main_arg4 (by decide) (by decide) (by decide)).trans (V_main_arg4 m c),
      (kept m (fun _ _ => FloatOps.ofBits .f32 0#32) h.1 c main_arg5 (by decide) (by decide) (by decide)).trans (V_main_arg5 m c),
      (kept m (fun _ _ => FloatOps.ofBits .f32 0#32) h.1 c main_arg6 (by decide) (by decide) (by decide)).trans (V_main_arg6 m c),
      (kept m (fun _ _ => FloatOps.ofBits .f32 0#32) h.1 c main_arg7 (by decide) (by decide) (by decide)).trans (V_main_arg7 m c),
      (kept m (fun _ _ => FloatOps.ofBits .f32 0#32) h.1 c main_arg8 (by decide) (by decide) (by decide)).trans (V_main_arg8 m c),
      (kept m (fun _ _ => FloatOps.ofBits .f32 0#32) h.1 c main_arg9 (by decide) (by decide) (by decide)).trans (V_main_arg9 m c),
      (kept m (fun _ _ => FloatOps.ofBits .f32 0#32) h.1 c main_arg10 (by decide) (by decide) (by decide)).trans (V_main_arg10 m c),
      (kept m (fun _ _ => FloatOps.ofBits .f32 0#32) h.1 c main_arg11 (by decide) (by decide) (by decide)).trans (V_main_arg11 m c),
      (kept m (fun _ _ => FloatOps.ofBits .f32 0#32) h.1 c main_arg12 (by decide) (by decide) (by decide)).trans (V_main_arg12 m c),
      (kept m (fun _ _ => FloatOps.ofBits .f32 0#32) h.1 c main_arg13 (by decide) (by decide) (by decide)).trans (V_main_arg13 m c),
      (kept m (fun _ _ => FloatOps.ofBits .f32 0#32) h.1 c main_arg14 (by decide) (by decide) (by decide)).trans (V_main_arg14 m c),
      (kept m (fun _ _ => FloatOps.ofBits .f32 0#32) h.1 c main_arg15 (by decide) (by decide) (by decide)).trans (V_main_arg15 m c),
      (kept m (fun _ _ => FloatOps.ofBits .f32 0#32) h.1 c main_arg16 (by decide) (by decide) (by decide)).trans (V_main_arg16 m c),
      (kept m (fun _ _ => FloatOps.ofBits .f32 0#32) h.1 c main_arg17 (by decide) (by decide) (by decide)).trans (V_main_arg17 m c),
      (kept m (fun _ _ => FloatOps.ofBits .f32 0#32) h.1 c main_arg18 (by decide) (by decide) (by decide)).trans (V_main_arg18 m c),
      (kept m (fun _ _ => FloatOps.ofBits .f32 0#32) h.1 c main_arg19 (by decide) (by decide) (by decide)).trans (V_main_arg19 m c),
      (kept m (fun _ _ => FloatOps.ofBits .f32 0#32) h.1 c main_arg20 (by decide) (by decide) (by decide)).trans (V_main_arg20 m c)⟩, h.2⟩)
    (run_forget m ρ fun _ _ => FloatOps.ofBits .f32 0#32)

end Cert.KernelIdeal.Named

end
-- ==== Proof.Own.PFull.lean ====
module

public import proofs.«01_k».proof.Proof.Own.PRuns
public import Idealize.ShloMosaic.Lib.VecWindow

@[expose] public section

noncomputable section

namespace Cert.Kernel.Named

open Cert.Kernel Cert.Kernel.Gen
open Idealize.ShloMosaic Idealize.ShloMosaic.TcCoe Idealize.ShloMosaic.Tactic

variable {F : FTy → Type} [FloatOps F]

/-- A store over the whole of the result's buffer leaves what it stored. -/
theorem read_full (a : Memref sig .tc .vmem S16x256 .f32) (f : BufTy.Contents (Elt F) a.view.ty) (X : Vec F S16x256 .f32) :
    a.view.read (Elt F) (a.view.writes (Elt F) f [⟨Rect.unit (s := S16x256) ![0, 0] S16x256.size inb_S16x256_S16x256_0_0, X⟩]) = X := by
  funext y
  have h := View.read_writes_cons_emb (v := a.view) (f := f) (Val := Elt F) (Rect.unit (s := S16x256) ![0, 0] S16x256.size inb_S16x256_S16x256_0_0) X [] y
  rw [Idealize.ShloMosaic.Rect.emb_unit_full] at h
  exact h

end Cert.Kernel.Named

end
-- ==== Proof.Own.RChain.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1472

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 11 host operations of @main, in order. -/
abbrev hostOps0 : List (HloOp τ sig (Elt F)) :=
  [ StableHlo.unary main_arg0 main_v0 ((transpose S64x16x32 [1, 0, 2] · transposes_S16x64x32_S64x16x32_1_0_2) : (⟨S16x64x32, .f32⟩ : BufTy).Contents (Elt F) → (⟨S64x16x32, .f32⟩ : BufTy).Contents (Elt F)),
    StableHlo.nullary main_cst (constant S_ .f32 0x00000000#32),
    StableHlo.unary main_cst main_v1 (broadcastInDim S16x32x64 ![] bcast_S_S16x32x64 : (⟨S_, .f32⟩ : BufTy).Contents (Elt F) → (⟨S16x32x64, .f32⟩ : BufTy).Contents (Elt F)),
    StableHlo.nullary main_c (constantI S_ 32 0#32),
    StableHlo.unary main_v0 main_v2_0 id,
    StableHlo.unary main_arg1 main_v2_1 id,
    StableHlo.unary main_arg3 main_v2_2 id,
    StableHlo.unary main_arg2 main_v2_3 id,
    StableHlo.unary main_arg4 main_v2_4 id,
    StableHlo.unary main_c main_v2_5 id,
    StableHlo.unary main_v1 main_v2_6 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 40 host operations of @main, in order. -/
abbrev hostOps0_1 : List (HloOp τ sig (Elt F)) :=
  ( StableHlo.unary main_arg5 main_v3 ((transpose S64x32 [1, 0] · transposes_S32x64_S64x32_1_0) : (⟨S32x64, .f32⟩ : BufTy).Contents (Elt F) → (⟨S64x32, .f32⟩ : BufTy).Contents (Elt F))
  :: StableHlo.binary main_v2_6 main_v3 main_v4 ((fun l r => Host.dotGeneral dot_S16x32x64_S64x32_S16x32x32_2_0_01_1_n_n none l r) : (⟨S16x32x64, .f32⟩ : BufTy).Contents (Elt F) → (⟨S64x32, .f32⟩ : BufTy).Contents (Elt F) → (⟨S16x32x32, .f32⟩ : BufTy).Contents (Elt F))
  :: StableHlo.unary main_arg6 main_v5 (broadcastInDim S1x1x32 ![2] bcast_S32_S1x1x32_2 : (⟨S32, .f32⟩ : BufTy).Contents (Elt F) → (⟨S1x1x32, .f32⟩ : BufTy).Contents (Elt F))
  :: StableHlo.unary main_v5 main_v6 (broadcastInDim S16x32x32 ![0, 1, 2] bcast_S1x1x32_S16x32x32_0_1_2 : (⟨S1x1x32, .f32⟩ : BufTy).Contents (Elt F) → (⟨S16x32x32, .f32⟩ : BufTy).Contents (Elt F))
  :: StableHlo.binary main_v4 main_v6 main_v7 (addf : (⟨S16x32x32, .f32⟩ : BufTy).Contents (Elt F) → (⟨S16x32x32, .f32⟩ : BufTy).Contents (Elt F) → (⟨S16x32x32, .f32⟩ : BufTy).Contents (Elt F))
  :: StableHlo.unary main_arg7 main_v8 ((transpose S64x32 [1, 0] · transposes_S32x64_S64x32_1_0) : (⟨S32x64, .f32⟩ : BufTy).Contents (Elt F) → (⟨S64x32, .f32⟩ : BufTy).Contents (Elt F))
  :: StableHlo.binary main_v2_6 main_v8 main_v9 ((fun l r => Host.dotGeneral dot_S16x32x64_S64x32_S16x32x32_2_0_01_1_n_n none l r) : (⟨S16x32x64, .f32⟩ : BufTy).Contents (Elt F) → (⟨S64x32, .f32⟩ : BufTy).Contents (Elt F) → (⟨S16x32x32, .f32⟩ : BufTy).Contents (Elt F))
  :: StableHlo.unary main_arg8 main_v10 (broadcastInDim S1x1x32 ![2] bcast_S32_S1x1x32_2 : (⟨S32, .f32⟩ : BufTy).Contents (Elt F) → (⟨S1x1x32, .f32⟩ : BufTy).Contents (Elt F))
  :: StableHlo.unary main_v10 main_v11 (broadcastInDim S16x32x32 ![0, 1, 2] bcast_S1x1x32_S16x32x32_0_1_2 : (⟨S1x1x32, .f32⟩ : BufTy).Contents (Elt F) → (⟨S16x32x32, .f32⟩ : BufTy).Contents (Elt F))
  :: StableHlo.binary main_v9 main_v11 main_v12 (addf : (⟨S16x32x32, .f32⟩ : BufTy).Contents (Elt F) → (⟨S16x32x32, .f32⟩ : BufTy).Contents (Elt F) → (⟨S16x32x32, .f32⟩ : BufTy).Contents (Elt F))
  :: StableHlo.unary main_v12 main_v13 ((transpose S16x32x32 [0, 2, 1] · transposes_S16x32x32_S16x32x32_0_2_1) : (⟨S16x32x32, .f32⟩ : BufTy).Contents (Elt F) → (⟨S16x32x32, .f32⟩ : BufTy).Contents (Elt F))
  :: StableHlo.binary main_v7 main_v13 main_v14 ((fun l r => Host.dotGeneral dot_S16x32x32_S16x32x32_S16x32x32_2_1_1_2_0_0 none l r) : (⟨S16x32x32, .f32⟩ : BufTy).Contents (Elt F) → (⟨S16x32x32, .f32⟩ : BufTy).Contents (Elt F) → (⟨S16x32x32, .f32⟩ : BufTy).Contents (Elt F))
  :: StableHlo.nullary main_cst_0 (constant S_ .f32 0x42000000#32)
  :: StableHlo.unary main_cst_0 main_v15 (Host.sqrt : (⟨S_, .f32⟩ : BufTy).Contents (Elt F) → (⟨S_, .f32⟩ : BufTy).Contents (Elt F))
  :: StableHlo.unary main_v15 main_v16 (broadcastInDim S16x32x32 ![] bcast_S_S16x32x32 : (⟨S_, .f32⟩ : BufTy).Contents (Elt F) → (⟨S16x32x32, .f32⟩ : BufTy).Contents (Elt F))
  :: StableHlo.binary main_v14 main_v16 main_v17 (Host.divf : (⟨S16x32x32, .f32⟩ : BufTy).Contents (Elt F) → (⟨S16x32x32, .f32⟩ : BufTy).Contents (Elt F) → (⟨S16x32x32, .f32⟩ : BufTy).Contents (Elt F))
  :: StableHlo.nullary main_cst_1 (constant S_ .f32 0xFF800000#32)
  :: StableHlo.binary main_v17 main_cst_1 main_v18 ((fun x v => Host.reduce FloatOps.maximumf x v reducesTo_S16x32x32_S16x32_d2 h_S_) : (⟨S16x32x32, .f32⟩ : BufTy).Contents (Elt F) → (⟨S_, .f32⟩ : BufTy).Contents (Elt F) → (⟨S16x32, .f32⟩ : BufTy).Contents (Elt F))
  :: StableHlo.nullary main_cst_2 (constant S_ .f32 0xFF800000#32)
  :: StableHlo.unary main_cst_2 main_v19 (broadcastInDim S16x32 ![] bcast_S_S16x32 : (⟨S_, .f32⟩ : BufTy).Contents (Elt F) → (⟨S16x32, .f32⟩ : BufTy).Contents (Elt F))
  :: StableHlo.binary main_v19 main_v18 main_v20 (maximumf : (⟨S16x32, .f32⟩ : BufTy).Contents (Elt F) → (⟨S16x32, .f32⟩ : BufTy).Contents (Elt F) → (⟨S16x32, .f32⟩ : BufTy).Contents (Elt F))
  :: StableHlo.unary main_v20 main_v21 (broadcastInDim S16x32x1 ![0, 1] bcast_S16x32_S16x32x1_0_1 : (⟨S16x32, .f32⟩ : BufTy).Contents (Elt F) → (⟨S16x32x1, .f32⟩ : BufTy).Contents (Elt F))
  :: StableHlo.unary main_v21 main_v22 (broadcastInDim S16x32x32 ![0, 1, 2] bcast_S16x32x1_S16x32x32_0_1_2 : (⟨S16x32x1, .f32⟩ : BufTy).Contents (Elt F) → (⟨S16x32x32, .f32⟩ : BufTy).Contents (Elt F))
  :: StableHlo.binary main_v17 main_v22 main_v23 (subf : (⟨S16x32x32, .f32⟩ : BufTy).Contents (Elt F) → (⟨S16x32x32, .f32⟩ : BufTy).Contents (Elt F) → (⟨S16x32x32, .f32⟩ : BufTy).Contents (Elt F))
  :: StableHlo.unary main_v23 main_v24 (Host.exp : (⟨S16x32x32, .f32⟩ : BufTy).Contents (Elt F) → (⟨S16x32x32, .f32⟩ : BufTy).Contents (Elt F))
  :: StableHlo.nullary main_cst_3 (constant S_ .f32 0x00000000#32)
  :: StableHlo.binary main_v24 main_cst_3 main_v25 ((fun x v => Host.reduceAdd x v reducesTo_S16x32x32_S16x32_d2 h_S_) : (⟨S16x32x32, .f32⟩ : BufTy).Contents (Elt F) → (⟨S_, .f32⟩ : BufTy).Contents (Elt F) → (⟨S16x32, .f32⟩ : BufTy).Contents (Elt F))
  :: StableHlo.unary main_v25 main_v26 (broadcastInDim S16x32x1 ![0, 1] bcast_S16x32_S16x32x1_0_1 : (⟨S16x32, .f32⟩ : BufTy).Contents (Elt F) → (⟨S16x32x1, .f32⟩ : BufTy).Contents (Elt F))
  :: StableHlo.unary main_v26 main_v27 (broadcastInDim S16x32x32 ![0, 1, 2] bcast_S16x32x1_S16x32x32_0_1_2 : (⟨S16x32x1, .f32⟩ : BufTy).Contents (Elt F) → (⟨S16x32x32, .f32⟩ : BufTy).Contents (Elt F))
  :: StableHlo.binary main_v24 main_v27 main_v28 (Host.divf : (⟨S16x32x32, .f32⟩ : BufTy).Contents (Elt F) → (⟨S16x32x32, .f32⟩ : BufTy).Contents (Elt F) → (⟨S16x32x32, .f32⟩ : BufTy).Contents (Elt F))
  :: StableHlo.nullary main_cst_4 (constant S_ .f32 0x00000000#32)
  :: StableHlo.binary main_v28 main_cst_4 main_v29 ((fun x v => Host.reduceAdd x v reducesTo_S16x32x32_S16x32_d1 h_S_) : (⟨S16x32x32, .f32⟩ : BufTy).Contents (Elt F) → (⟨S_, .f32⟩ : BufTy).Contents (Elt F) → (⟨S16x32, .f32⟩ : BufTy).Contents (Elt F))
  :: StableHlo.nullary main_cst_5 (constant S_ .f32 0x00000000#32)
  :: StableHlo.unary main_cst_5 main_v30 (broadcastInDim S16x32 ![] bcast_S_S16x32 : (⟨S_, .f32⟩ : BufTy).Contents (Elt F) → (⟨S16x32, .f32⟩ : BufTy).Contents (Elt F))
  :: StableHlo.binary main_v29 main_v30 main_v31 (cmpf .ogt : (⟨S16x32, .f32⟩ : BufTy).Contents (Elt F) → (⟨S16x32, .f32⟩ : BufTy).Contents (Elt F) → (⟨S16x32, .i1⟩ : BufTy).Contents (Elt F))
  :: StableHlo.unary main_v29 main_v32 (Host.sqrt : (⟨S16x32, .f32⟩ : BufTy).Contents (Elt F) → (⟨S16x32, .f32⟩ : BufTy).Contents (Elt F))
  :: StableHlo.nullary main_cst_6 (constant S_ .f32 0x3F800000#32)
  :: StableHlo.unary main_cst_6 main_v33 (broadcastInDim S16x32 ![] bcast_S_S16x32 : (⟨S_, .f32⟩ : BufTy).Contents (Elt F) → (⟨S16x32, .f32⟩ : BufTy).Contents (Elt F))
  :: StableHlo.binary main_v33 main_v32 main_v34 (Host.divf : (⟨S16x32, .f32⟩ : BufTy).Contents (Elt F) → (⟨S16x32, .f32⟩ : BufTy).Contents (Elt F) → (⟨S16x32, .f32⟩ : BufTy).Contents (Elt F))
  :: StableHlo.nullary main_cst_7 (constant S_ .f32 0x00000000#32)
  :: [] )
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩
/-- 3 host operations of @_where (main_call1), in order. -/
abbrev hostOps0_2 : List (HloOp τ sig (Elt F)) :=
  [ StableHlo.TRef.unary (.of main_cst_7 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S16x32, .f32⟩) (broadcastInDim S16x32 ![] bcast_S_S16x32),
    StableHlo.TRef.ternary (.of main_v31 : StableHlo.TRef sig ⟨S16x32, .i1⟩) (.of main_v34 : StableHlo.TRef sig ⟨S16x32, .f32⟩) (.of main_call1_v1 : StableHlo.TRef sig ⟨S16x32, .f32⟩) (.of main_v35 : StableHlo.TRef sig ⟨S16x32, .f32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.unary_bufs_sub .., StableHlo.ternary_bufs_sub ..⟩
/-- 22 host operations of @main, in order. -/
abbrev hostOps0_3 : List (HloOp τ sig (Elt F)) :=
  [ StableHlo.unary main_v35 main_v36 (broadcastInDim S16x32x1 ![0, 1] bcast_S16x32_S16x32x1_0_1 : (⟨S16x32, .f32⟩ : BufTy).Contents (Elt F) → (⟨S16x32x1, .f32⟩ : BufTy).Contents (Elt F)),
    StableHlo.unary main_v36 main_v37 (broadcastInDim S16x32x32 ![0, 1, 2] bcast_S16x32x1_S16x32x32_0_1_2 : (⟨S16x32x1, .f32⟩ : BufTy).Contents (Elt F) → (⟨S16x32x32, .f32⟩ : BufTy).Contents (Elt F)),
    StableHlo.binary main_v37 main_v28 main_v38 (mulf : (⟨S16x32x32, .f32⟩ : BufTy).Contents (Elt F) → (⟨S16x32x32, .f32⟩ : BufTy).Contents (Elt F) → (⟨S16x32x32, .f32⟩ : BufTy).Contents (Elt F)),
    StableHlo.unary main_v35 main_v39 (broadcastInDim S16x1x32 ![0, 2] bcast_S16x32_S16x1x32_0_2 : (⟨S16x32, .f32⟩ : BufTy).Contents (Elt F) → (⟨S16x1x32, .f32⟩ : BufTy).Contents (Elt F)),
    StableHlo.unary main_v39 main_v40 (broadcastInDim S16x32x32 ![0, 1, 2] bcast_S16x1x32_S16x32x32_0_1_2 : (⟨S16x1x32, .f32⟩ : BufTy).Contents (Elt F) → (⟨S16x32x32, .f32⟩ : BufTy).Contents (Elt F)),
    StableHlo.binary main_v38 main_v40 main_v41 (mulf : (⟨S16x32x32, .f32⟩ : BufTy).Contents (Elt F) → (⟨S16x32x32, .f32⟩ : BufTy).Contents (Elt F) → (⟨S16x32x32, .f32⟩ : BufTy).Contents (Elt F)),
    StableHlo.unary main_arg0 main_v42 (broadcastInDim S16x64x32x1 ![0, 1, 2] bcast_S16x64x32_S16x64x32x1_0_1_2 : (⟨S16x64x32, .f32⟩ : BufTy).Contents (Elt F) → (⟨S16x64x32x1, .f32⟩ : BufTy).Contents (Elt F)),
    StableHlo.reshape main_arg9 main_v43 (rfl : (.f32 : EltTy) = .f32) shapeCasts_S64x1x1_S1x1x1x64,
    StableHlo.unary main_v42 main_v44 (broadcastInDim S16x64x32x64 ![0, 1, 2, 3] bcast_S16x64x32x1_S16x64x32x64_0_1_2_3 : (⟨S16x64x32x1, .f32⟩ : BufTy).Contents (Elt F) → (⟨S16x64x32x64, .f32⟩ : BufTy).Contents (Elt F)),
    StableHlo.unary main_v43 main_v45 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F)),
    StableHlo.binary main_v44 main_v45 main_v46 (mulf : (⟨S16x64x32x64, .f32⟩ : BufTy).Contents (Elt F) → (⟨S16x64x32x64, .f32⟩ : BufTy).Contents (Elt F) → (⟨S16x64x32x64, .f32⟩ : BufTy).Contents (Elt F)),
    StableHlo.unary main_arg10 main_v47 (broadcastInDim S1x1x1x64 ![3] bcast_S64_S1x1x1x64_3 : (⟨S64, .f32⟩ : BufTy).Contents (Elt F) → (⟨S1x1x1x64, .f32⟩ : BufTy).Contents (Elt F)),
    StableHlo.unary main_v47 main_v48 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F)),
    StableHlo.binary main_v46 main_v48 main_v49 (addf : (⟨S16x64x32x64, .f32⟩ : BufTy).Contents (Elt F) → (⟨S16x64x32x64, .f32⟩ : BufTy).Contents (Elt F) → (⟨S16x64x32x64, .f32⟩ : BufTy).Contents (Elt F)),
    StableHlo.unary main_arg11 main_v50 ((transpose S64x64 [1, 0] · transposes_S64x64_S64x64_1_0) : (⟨S64x64, .f32⟩ : BufTy).Contents (Elt F) → (⟨S64x64, .f32⟩ : BufTy).Contents (Elt F)),
    StableHlo.binary main_v49 main_v50 main_v51 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F)),
    StableHlo.binary main_v51 main_v41 main_v52 ((fun l r => Host.dotGeneral dot_S16x64x32x64_S16x32x32_S16x64x64x32_2_1_13_2_0_0 none l r) : (⟨S16x64x32x64, .f32⟩ : BufTy).Contents (Elt F) → (⟨S16x32x32, .f32⟩ : BufTy).Contents (Elt F) → (⟨S16x64x64x32, .f32⟩ : BufTy).Contents (Elt F)),
    StableHlo.unary main_v52 main_v53 ((transpose S16x64x32x64 [0, 1, 3, 2] · transposes_S16x64x64x32_S16x64x32x64_0_1_3_2) : (⟨S16x64x64x32, .f32⟩ : BufTy).Contents (Elt F) → (⟨S16x64x32x64, .f32⟩ : BufTy).Contents (Elt F)),
    StableHlo.unary main_arg12 main_v54 (broadcastInDim S1x1x1x64 ![3] bcast_S64_S1x1x1x64_3 : (⟨S64, .f32⟩ : BufTy).Contents (Elt F) → (⟨S1x1x1x64, .f32⟩ : BufTy).Contents (Elt F)),
    StableHlo.unary main_v54 main_v55 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F)),
    StableHlo.binary main_v53 main_v55 main_v56 (addf : (⟨S16x64x32x64, .f32⟩ : BufTy).Contents (Elt F) → (⟨S16x64x32x64, .f32⟩ : BufTy).Contents (Elt F) → (⟨S16x64x32x64, .f32⟩ : BufTy).Contents (Elt F)),
    StableHlo.nullary main_c_8 (constantI S_ 32 0#32) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub ..⟩
/-- 2 host operations of @_pad (main_call2), in order. -/
abbrev hostOps0_4 : List (HloOp τ sig (Elt F)) :=
  [ StableHlo.TRef.unary (.of main_c_8 : StableHlo.TRef sig ⟨S_, .i32⟩) (.of main_call2_v0 : StableHlo.TRef sig ⟨S_, .f32⟩) (sitofp .f32),
    StableHlo.TRef.binary (.of main_v56 : StableHlo.TRef sig ⟨S16x64x32x64, .f32⟩) (.of main_call2_v0 : StableHlo.TRef sig ⟨S_, .f32⟩) (.of main_v57 : StableHlo.TRef sig ⟨S16x66x32x64, .f32⟩) (fun x v => pad S16x66x32x64 ![0, 1, 0, 0] ![0, 1, 0, 0] ![0, 0, 0, 0] x v pads_S16x64x32x64_S16x66x32x64_000_110_000_000 h_S_) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.unary_bufs_sub .., StableHlo.binary_bufs_sub ..⟩
/-- 29 host operations of @main, in order. -/
abbrev hostOps0_5 : List (HloOp τ sig (Elt F)) :=
  [ StableHlo.unary main_v57 main_v58 ((extractStridedSlice S16x64x32x64 ![0, 0, 0, 0] · slices_S16x66x32x64_S16x64x32x64_0_0_0_0) : (⟨S16x66x32x64, .f32⟩ : BufTy).Contents (Elt F) → (⟨S16x64x32x64, .f32⟩ : BufTy).Contents (Elt F)),
    StableHlo.unary main_arg13 main_v59 ((extractStridedSlice S64x64x1 ![0, 0, 0] · slices_S64x64x3_S64x64x1_0_0_0) : (⟨S64x64x3, .f32⟩ : BufTy).Contents (Elt F) → (⟨S64x64x1, .f32⟩ : BufTy).Contents (Elt F)),
    StableHlo.reshape main_v59 main_v60 (rfl : (.f32 : EltTy) = .f32) shapeCasts_S64x64x1_S64x64,
    StableHlo.unary main_v60 main_v61 ((transpose S64x64 [1, 0] · transposes_S64x64_S64x64_1_0) : (⟨S64x64, .f32⟩ : BufTy).Contents (Elt F) → (⟨S64x64, .f32⟩ : BufTy).Contents (Elt F)),
    StableHlo.binary main_v58 main_v61 main_v62 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F)),
    StableHlo.nullary main_cst_9 (constant S_ .f32 0x00000000#32),
    StableHlo.unary main_cst_9 main_v63 (broadcastInDim S16x64x32x64 ![] bcast_S_S16x64x32x64 : (⟨S_, .f32⟩ : BufTy).Contents (Elt F) → (⟨S16x64x32x64, .f32⟩ : BufTy).Contents (Elt F)),
    StableHlo.binary main_v63 main_v62 main_v64 (addf : (⟨S16x64x32x64, .f32⟩ : BufTy).Contents (Elt F) → (⟨S16x64x32x64, .f32⟩ : BufTy).Contents (Elt F) → (⟨S16x64x32x64, .f32⟩ : BufTy).Contents (Elt F)),
    StableHlo.unary main_v57 main_v65 ((extractStridedSlice S16x64x32x64 ![0, 1, 0, 0] · slices_S16x66x32x64_S16x64x32x64_0_1_0_0) : (⟨S16x66x32x64, .f32⟩ : BufTy).Contents (Elt F) → (⟨S16x64x32x64, .f32⟩ : BufTy).Contents (Elt F)),
    StableHlo.unary main_arg13 main_v66 ((extractStridedSlice S64x64x1 ![0, 0, 1] · slices_S64x64x3_S64x64x1_0_0_1) : (⟨S64x64x3, .f32⟩ : BufTy).Contents (Elt F) → (⟨S64x64x1, .f32⟩ : BufTy).Contents (Elt F)),
    StableHlo.reshape main_v66 main_v67 (rfl : (.f32 : EltTy) = .f32) shapeCasts_S64x64x1_S64x64,
    StableHlo.unary main_v67 main_v68 ((transpose S64x64 [1, 0] · transposes_S64x64_S64x64_1_0) : (⟨S64x64, .f32⟩ : BufTy).Contents (Elt F) → (⟨S64x64, .f32⟩ : BufTy).Contents (Elt F)),
    StableHlo.binary main_v65 main_v68 main_v69 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F)),
    StableHlo.binary main_v64 main_v69 main_v70 (addf : (⟨S16x64x32x64, .f32⟩ : BufTy).Contents (Elt F) → (⟨S16x64x32x64, .f32⟩ : BufTy).Contents (Elt F) → (⟨S16x64x32x64, .f32⟩ : BufTy).Contents (Elt F)),
    StableHlo.unary main_v57 main_v71 ((extractStridedSlice S16x64x32x64 ![0, 2, 0, 0] · slices_S16x66x32x64_S16x64x32x64_0_2_0_0) : (⟨S16x66x32x64, .f32⟩ : BufTy).Contents (Elt F) → (⟨S16x64x32x64, .f32⟩ : BufTy).Contents (Elt F)),
    StableHlo.unary main_arg13 main_v72 ((extractStridedSlice S64x64x1 ![0, 0, 2] · slices_S64x64x3_S64x64x1_0_0_2) : (⟨S64x64x3, .f32⟩ : BufTy).Contents (Elt F) → (⟨S64x64x1, .f32⟩ : BufTy).Contents (Elt F)),
    StableHlo.reshape main_v72 main_v73 (rfl : (.f32 : EltTy) = .f32) shapeCasts_S64x64x1_S64x64,
    StableHlo.unary main_v73 main_v74 ((transpose S64x64 [1, 0] · transposes_S64x64_S64x64_1_0) : (⟨S64x64, .f32⟩ : BufTy).Contents (Elt F) → (⟨S64x64, .f32⟩ : BufTy).Contents (Elt F)),
    StableHlo.binary main_v71 main_v74 main_v75 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F)),
    StableHlo.binary main_v70 main_v75 main_v76 (addf : (⟨S16x64x32x64, .f32⟩ : BufTy).Contents (Elt F) → (⟨S16x64x32x64, .f32⟩ : BufTy).Contents (Elt F) → (⟨S16x64x32x64, .f32⟩ : BufTy).Contents (Elt F)),
    StableHlo.unary main_arg14 main_v77 (broadcastInDim S1x1x1x64 ![3] bcast_S64_S1x1x1x64_3 : (⟨S64, .f32⟩ : BufTy).Contents (Elt F) → (⟨S1x1x1x64, .f32⟩ : BufTy).Contents (Elt F)),
    StableHlo.unary main_v77 main_v78 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F)),
    StableHlo.binary main_v76 main_v78 main_v79 (addf : (⟨S16x64x32x64, .f32⟩ : BufTy).Contents (Elt F) → (⟨S16x64x32x64, .f32⟩ : BufTy).Contents (Elt F) → (⟨S16x64x32x64, .f32⟩ : BufTy).Contents (Elt F)),
    StableHlo.nullary main_cst_10 (constant S_ .f32 0x00000000#32),
    StableHlo.unary main_cst_10 main_v80 (broadcastInDim S16x64x32x64 ![] bcast_S_S16x64x32x64 : (⟨S_, .f32⟩ : BufTy).Contents (Elt F) → (⟨S16x64x32x64, .f32⟩ : BufTy).Contents (Elt F)),
    StableHlo.binary main_v79 main_v80 main_v81 (cmpf .ogt : (⟨S16x64x32x64, .f32⟩ : BufTy).Contents (Elt F) → (⟨S16x64x32x64, .f32⟩ : BufTy).Contents (Elt F) → (⟨S16x64x32x64, .i1⟩ : BufTy).Contents (Elt F)),
    StableHlo.nullary main_cst_11 (constant S_ .f32 0x3C23D70A#32),
    StableHlo.unary main_cst_11 main_v82 (broadcastInDim S16x64x32x64 ![] bcast_S_S16x64x32x64 : (⟨S_, .f32⟩ : BufTy).Contents (Elt F) → (⟨S16x64x32x64, .f32⟩ : BufTy).Contents (Elt F)),
    StableHlo.binary main_v82 main_v79 main_v83 (mulf : (⟨S16x64x32x64, .f32⟩ : BufTy).Contents (Elt F) → (⟨S16x64x32x64, .f32⟩ : BufTy).Contents (Elt F) → (⟨S16x64x32x64, .f32⟩ : BufTy).Contents (Elt F)) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
/-- 1 host operation of @_where_0 (main_call3), in order. -/
abbrev hostOps0_6 : List (HloOp τ sig (Elt F)) :=
  [ StableHlo.TRef.ternary (.of main_v81 : StableHlo.TRef sig ⟨S16x64x32x64, .i1⟩) (.of main_v79 : StableHlo.TRef sig ⟨S16x64x32x64, .f32⟩) (.of main_v83 : StableHlo.TRef sig ⟨S16x64x32x64, .f32⟩) (.of main_v84 : StableHlo.TRef sig ⟨S16x64x32x64, .f32⟩) select ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  StableHlo.ternary_bufs_sub ..
/-- 8 host operations of @main, in order. -/
abbrev hostOps0_7 : List (HloOp τ sig (Elt F)) :=
  [ StableHlo.unary main_arg15 main_v85 ((transpose S64x64 [1, 0] · transposes_S64x64_S64x64_1_0) : (⟨S64x64, .f32⟩ : BufTy).Contents (Elt F) → (⟨S64x64, .f32⟩ : BufTy).Contents (Elt F)),
    StableHlo.binary main_v84 main_v85 main_v86 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F)),
    StableHlo.binary main_v86 main_v41 main_v87 ((fun l r => Host.dotGeneral dot_S16x64x32x64_S16x32x32_S16x64x64x32_2_1_13_2_0_0 none l r) : (⟨S16x64x32x64, .f32⟩ : BufTy).Contents (Elt F) → (⟨S16x32x32, .f32⟩ : BufTy).Contents (Elt F) → (⟨S16x64x64x32, .f32⟩ : BufTy).Contents (Elt F)),
    StableHlo.unary main_v87 main_v88 ((transpose S16x64x32x64 [0, 1, 3, 2] · transposes_S16x64x64x32_S16x64x32x64_0_1_3_2) : (⟨S16x64x64x32, .f32⟩ : BufTy).Contents (Elt F) → (⟨S16x64x32x64, .f32⟩ : BufTy).Contents (Elt F)),
    StableHlo.unary main_arg16 main_v89 (broadcastInDim S1x1x1x64 ![3] bcast_S64_S1x1x1x64_3 : (⟨S64, .f32⟩ : BufTy).Contents (Elt F) → (⟨S1x1x1x64, .f32⟩ : BufTy).Contents (Elt F)),
    StableHlo.unary main_v89 main_v90 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F)),
    StableHlo.binary main_v88 main_v90 main_v91 (addf : (⟨S16x64x32x64, .f32⟩ : BufTy).Contents (Elt F) → (⟨S16x64x32x64, .f32⟩ : BufTy).Contents (Elt F) → (⟨S16x64x32x64, .f32⟩ : BufTy).Contents (Elt F)),
    StableHlo.nullary main_c_12 (constantI S_ 32 0#32) ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub ..⟩
/-- 2 host operations of @_pad_1 (main_call4), in order. -/
abbrev hostOps0_8 : List (HloOp τ sig (Elt F)) :=
  [ StableHlo.TRef.unary (.of main_c_12 : StableHlo.TRef sig ⟨S_, .i32⟩) (.of main_call4_v0 : StableHlo.TRef sig ⟨S_, .f32⟩) (sitofp .f32),
    StableHlo.TRef.binary (.of main_v91 : StableHlo.TRef sig ⟨S16x64x32x64, .f32⟩) (.of main_call4_v0 : StableHlo.TRef sig ⟨S_, .f32⟩) (.of main_v92 : StableHlo.TRef sig ⟨S16x68x32x64, .f32⟩) (fun x v => pad S16x68x32x64 ![0, 2, 0, 0] ![0, 2, 0, 0] ![0, 0, 0, 0] x v pads_S16x64x32x64_S16x68x32x64_000_220_000_000 h_S_) ]
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.unary_bufs_sub .., StableHlo.binary_bufs_sub ..⟩
/-- 41 host operations of @main, in order. -/
abbrev hostOps0_9 : List (HloOp τ sig (Elt F)) :=
  ( StableHlo.unary main_v92 main_v93 ((extractStridedSlice S16x64x32x64 ![0, 0, 0, 0] · slices_S16x68x32x64_S16x64x32x64_0_0_0_0) : (⟨S16x68x32x64, .f32⟩ : BufTy).Contents (Elt F) → (⟨S16x64x32x64, .f32⟩ : BufTy).Contents (Elt F))
  :: StableHlo.unary main_arg17 main_v94 ((extractStridedSlice S64x64x1 ![0, 0, 0] · slices_S64x64x5_S64x64x1_0_0_0) : (⟨S64x64x5, .f32⟩ : BufTy).Contents (Elt F) → (⟨S64x64x1, .f32⟩ : BufTy).Contents (Elt F))
  :: StableHlo.reshape main_v94 main_v95 (rfl : (.f32 : EltTy) = .f32) shapeCasts_S64x64x1_S64x64
  :: StableHlo.unary main_v95 main_v96 ((transpose S64x64 [1, 0] · transposes_S64x64_S64x64_1_0) : (⟨S64x64, .f32⟩ : BufTy).Contents (Elt F) → (⟨S64x64, .f32⟩ : BufTy).Contents (Elt F))
  :: StableHlo.binary main_v93 main_v96 main_v97 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F))
  :: StableHlo.nullary main_cst_13 (constant S_ .f32 0x00000000#32)
  :: StableHlo.unary main_cst_13 main_v98 (broadcastInDim S16x64x32x64 ![] bcast_S_S16x64x32x64 : (⟨S_, .f32⟩ : BufTy).Contents (Elt F) → (⟨S16x64x32x64, .f32⟩ : BufTy).Contents (Elt F))
  :: StableHlo.binary main_v98 main_v97 main_v99 (addf : (⟨S16x64x32x64, .f32⟩ : BufTy).Contents (Elt F) → (⟨S16x64x32x64, .f32⟩ : BufTy).Contents (Elt F) → (⟨S16x64x32x64, .f32⟩ : BufTy).Contents (Elt F))
  :: StableHlo.unary main_v92 main_v100 ((extractStridedSlice S16x64x32x64 ![0, 1, 0, 0] · slices_S16x68x32x64_S16x64x32x64_0_1_0_0) : (⟨S16x68x32x64, .f32⟩ : BufTy).Contents (Elt F) → (⟨S16x64x32x64, .f32⟩ : BufTy).Contents (Elt F))
  :: StableHlo.unary main_arg17 main_v101 ((extractStridedSlice S64x64x1 ![0, 0, 1] · slices_S64x64x5_S64x64x1_0_0_1) : (⟨S64x64x5, .f32⟩ : BufTy).Contents (Elt F) → (⟨S64x64x1, .f32⟩ : BufTy).Contents (Elt F))
  :: StableHlo.reshape main_v101 main_v102 (rfl : (.f32 : EltTy) = .f32) shapeCasts_S64x64x1_S64x64
  :: StableHlo.unary main_v102 main_v103 ((transpose S64x64 [1, 0] · transposes_S64x64_S64x64_1_0) : (⟨S64x64, .f32⟩ : BufTy).Contents (Elt F) → (⟨S64x64, .f32⟩ : BufTy).Contents (Elt F))
  :: StableHlo.binary main_v100 main_v103 main_v104 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F))
  :: StableHlo.binary main_v99 main_v104 main_v105 (addf : (⟨S16x64x32x64, .f32⟩ : BufTy).Contents (Elt F) → (⟨S16x64x32x64, .f32⟩ : BufTy).Contents (Elt F) → (⟨S16x64x32x64, .f32⟩ : BufTy).Contents (Elt F))
  :: StableHlo.unary main_v92 main_v106 ((extractStridedSlice S16x64x32x64 ![0, 2, 0, 0] · slices_S16x68x32x64_S16x64x32x64_0_2_0_0) : (⟨S16x68x32x64, .f32⟩ : BufTy).Contents (Elt F) → (⟨S16x64x32x64, .f32⟩ : BufTy).Contents (Elt F))
  :: StableHlo.unary main_arg17 main_v107 ((extractStridedSlice S64x64x1 ![0, 0, 2] · slices_S64x64x5_S64x64x1_0_0_2) : (⟨S64x64x5, .f32⟩ : BufTy).Contents (Elt F) → (⟨S64x64x1, .f32⟩ : BufTy).Contents (Elt F))
  :: StableHlo.reshape main_v107 main_v108 (rfl : (.f32 : EltTy) = .f32) shapeCasts_S64x64x1_S64x64
  :: StableHlo.unary main_v108 main_v109 ((transpose S64x64 [1, 0] · transposes_S64x64_S64x64_1_0) : (⟨S64x64, .f32⟩ : BufTy).Contents (Elt F) → (⟨S64x64, .f32⟩ : BufTy).Contents (Elt F))
  :: StableHlo.binary main_v106 main_v109 main_v110 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F))
  :: StableHlo.binary main_v105 main_v110 main_v111 (addf : (⟨S16x64x32x64, .f32⟩ : BufTy).Contents (Elt F) → (⟨S16x64x32x64, .f32⟩ : BufTy).Contents (Elt F) → (⟨S16x64x32x64, .f32⟩ : BufTy).Contents (Elt F))
  :: StableHlo.unary main_v92 main_v112 ((extractStridedSlice S16x64x32x64 ![0, 3, 0, 0] · slices_S16x68x32x64_S16x64x32x64_0_3_0_0) : (⟨S16x68x32x64, .f32⟩ : BufTy).Contents (Elt F) → (⟨S16x64x32x64, .f32⟩ : BufTy).Contents (Elt F))
  :: StableHlo.unary main_arg17 main_v113 ((extractStridedSlice S64x64x1 ![0, 0, 3] · slices_S64x64x5_S64x64x1_0_0_3) : (⟨S64x64x5, .f32⟩ : BufTy).Contents (Elt F) → (⟨S64x64x1, .f32⟩ : BufTy).Contents (Elt F))
  :: StableHlo.reshape main_v113 main_v114 (rfl : (.f32 : EltTy) = .f32) shapeCasts_S64x64x1_S64x64
  :: StableHlo.unary main_v114 main_v115 ((transpose S64x64 [1, 0] · transposes_S64x64_S64x64_1_0) : (⟨S64x64, .f32⟩ : BufTy).Contents (Elt F) → (⟨S64x64, .f32⟩ : BufTy).Contents (Elt F))
  :: StableHlo.binary main_v112 main_v115 main_v116 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F))
  :: StableHlo.binary main_v111 main_v116 main_v117 (addf : (⟨S16x64x32x64, .f32⟩ : BufTy).Contents (Elt F) → (⟨S16x64x32x64, .f32⟩ : BufTy).Contents (Elt F) → (⟨S16x64x32x64, .f32⟩ : BufTy).Contents (Elt F))
  :: StableHlo.unary main_v92 main_v118 ((extractStridedSlice S16x64x32x64 ![0, 4, 0, 0] · slices_S16x68x32x64_S16x64x32x64_0_4_0_0) : (⟨S16x68x32x64, .f32⟩ : BufTy).Contents (Elt F) → (⟨S16x64x32x64, .f32⟩ : BufTy).Contents (Elt F))
  :: StableHlo.unary main_arg17 main_v119 ((extractStridedSlice S64x64x1 ![0, 0, 4] · slices_S64x64x5_S64x64x1_0_0_4) : (⟨S64x64x5, .f32⟩ : BufTy).Contents (Elt F) → (⟨S64x64x1, .f32⟩ : BufTy).Contents (Elt F))
  :: StableHlo.reshape main_v119 main_v120 (rfl : (.f32 : EltTy) = .f32) shapeCasts_S64x64x1_S64x64
  :: StableHlo.unary main_v120 main_v121 ((transpose S64x64 [1, 0] · transposes_S64x64_S64x64_1_0) : (⟨S64x64, .f32⟩ : BufTy).Contents (Elt F) → (⟨S64x64, .f32⟩ : BufTy).Contents (Elt F))
  :: StableHlo.binary main_v118 main_v121 main_v122 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F))
  :: StableHlo.binary main_v117 main_v122 main_v123 (addf : (⟨S16x64x32x64, .f32⟩ : BufTy).Contents (Elt F) → (⟨S16x64x32x64, .f32⟩ : BufTy).Contents (Elt F) → (⟨S16x64x32x64, .f32⟩ : BufTy).Contents (Elt F))
  :: StableHlo.unary main_arg18 main_v124 (broadcastInDim S1x1x1x64 ![3] bcast_S64_S1x1x1x64_3 : (⟨S64, .f32⟩ : BufTy).Contents (Elt F) → (⟨S1x1x1x64, .f32⟩ : BufTy).Contents (Elt F))
  :: StableHlo.unary main_v124 main_v125 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F))
  :: StableHlo.binary main_v123 main_v125 main_v126 (addf : (⟨S16x64x32x64, .f32⟩ : BufTy).Contents (Elt F) → (⟨S16x64x32x64, .f32⟩ : BufTy).Contents (Elt F) → (⟨S16x64x32x64, .f32⟩ : BufTy).Contents (Elt F))
  :: StableHlo.nullary main_cst_14 (constant S_ .f32 0x00000000#32)
  :: StableHlo.unary main_cst_14 main_v127 (broadcastInDim S16x64x32x64 ![] bcast_S_S16x64x32x64 : (⟨S_, .f32⟩ : BufTy).Contents (Elt F) → (⟨S16x64x32x64, .f32⟩ : BufTy).Contents (Elt F))
  :: StableHlo.binary main_v126 main_v127 main_v128 (cmpf .ogt : (⟨S16x64x32x64, .f32⟩ : BufTy).Contents (Elt F) → (⟨S16x64x32x64, .f32⟩ : BufTy).Contents (Elt F) → (⟨S16x64x32x64, .i1⟩ : BufTy).Contents (Elt F))
  :: StableHlo.nullary main_cst_15 (constant S_ .f32 0x3C23D70A#32)
  :: StableHlo.unary main_cst_15 main_v129 (broadcastInDim S16x64x32x64 ![] bcast_S_S16x64x32x64 : (⟨S_, .f32⟩ : BufTy).Contents (Elt F) → (⟨S16x64x32x64, .f32⟩ : BufTy).Contents (Elt F))
  :: StableHlo.binary main_v129 main_v126 main_v130 (mulf : (⟨S16x64x32x64, .f32⟩ : BufTy).Contents (Elt F) → (⟨S16x64x32x64, .f32⟩ : BufTy).Contents (Elt F) → (⟨S16x64x32x64, .f32⟩ : BufTy).Contents (Elt F))
  :: [] )
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
/-- 1 host operation of @_where_0 (main_call5), in order. -/
abbrev hostOps0_10 : List (HloOp τ sig (Elt F)) :=
  [ StableHlo.TRef.ternary (.of main_v128 : StableHlo.TRef sig ⟨S16x64x32x64, .i1⟩) (.of main_v126 : StableHlo.TRef sig ⟨S16x64x32x64, .f32⟩) (.of main_v130 : StableHlo.TRef sig ⟨S16x64x32x64, .f32⟩) (.of main_v131 : StableHlo.TRef sig ⟨S16x64x32x64, .f32⟩) select ]
/-- Each touches TensorCore references only (`HostSeg.ofOps` over `StableHlo.tcRefs`, or a subset by `sub_ucRefs`). -/
theorem hostOps0_10_sub : (hostOps0_10 : List (HloOp τ sig (Elt F))).Forall fun op => op.bufs ⊆ StableHlo.tcRefs τ sig :=
  StableHlo.ternary_bufs_sub ..
/-- 7 host operations of @main, in order. -/
abbrev hostOps0_11 : List (HloOp τ sig (Elt F)) :=
  [ StableHlo.reshape main_v131 main_v132 (rfl : (.f32 : EltTy) = .f32) shapeCasts_S16x64x32x64_S16x131072,
    StableHlo.unary main_arg19 main_v133 ((transpose S131072x256 [1, 0] · transposes_S256x131072_S131072x256_1_0) : (⟨S256x131072, .f32⟩ : BufTy).Contents (Elt F) → (⟨S131072x256, .f32⟩ : BufTy).Contents (Elt F)),
    StableHlo.binary main_v132 main_v133 main_v134 ((fun l r => Host.dotGeneral dot_S16x131072_S131072x256_S16x256_1_0_0_1_n_n none l r) : (⟨S16x131072, .f32⟩ : BufTy).Contents (Elt F) → (⟨S131072x256, .f32⟩ : BufTy).Contents (Elt F) → (⟨S16x256, .f32⟩ : BufTy).Contents (Elt F)),
    StableHlo.unary main_arg20 main_v135 (broadcastInDim S1x256 ![1] bcast_S256_S1x256_1 : (⟨S256, .f32⟩ : BufTy).Contents (Elt F) → (⟨S1x256, .f32⟩ : BufTy).Contents (Elt F)),
    StableHlo.unary main_v135 main_v136 (broadcastInDim S16x256 ![0, 1] bcast_S1x256_S16x256_0_1 : (⟨S1x256, .f32⟩ : BufTy).Contents (Elt F) → (⟨S16x256, .f32⟩ : BufTy).Contents (Elt F)),
    StableHlo.binary main_v134 main_v136 main_v137 (addf : (⟨S16x256, .f32⟩ : BufTy).Contents (Elt F) → (⟨S16x256, .f32⟩ : BufTy).Contents (Elt F) → (⟨S16x256, .f32⟩ : BufTy).Contents (Elt F)),
    StableHlo.reshape main_v137 main_v138 (rfl : (.f32 : EltTy) = .f32) shapeCasts_S16x256_S16x8x32 ]
/-- Each touches TensorCore references only (`HostSeg.ofOps` over `StableHlo.tcRefs`, or a subset by `sub_ucRefs`). -/
theorem hostOps0_11_sub : (hostOps0_11 : List (HloOp τ sig (Elt F))).Forall fun op => op.bufs ⊆ StableHlo.tcRefs τ sig :=
  ⟨StableHlo.reshape_bufs_sub .., StableHlo.unary_bufs_sub .., StableHlo.binary_bufs_sub .., StableHlo.unary_bufs_sub .., StableHlo.unary_bufs_sub .., StableHlo.binary_bufs_sub .., StableHlo.reshape_bufs_sub ..⟩
/-- 11 host operations of @main, window 0 (statements 1 … 60), in order. -/
abbrev main_part0_ops0 : List (HloOp τ sig (Elt F)) :=
  [ StableHlo.unary main_arg0 main_v0 ((transpose S64x16x32 [1, 0, 2] · transposes_S16x64x32_S64x16x32_1_0_2) : (⟨S16x64x32, .f32⟩ : BufTy).Contents (Elt F) → (⟨S64x16x32, .f32⟩ : BufTy).Contents (Elt F)),
    StableHlo.nullary main_cst (constant S_ .f32 0x00000000#32),
    StableHlo.unary main_cst main_v1 (broadcastInDim S16x32x64 ![] bcast_S_S16x32x64 : (⟨S_, .f32⟩ : BufTy).Contents (Elt F) → (⟨S16x32x64, .f32⟩ : BufTy).Contents (Elt F)),
    StableHlo.nullary main_c (constantI S_ 32 0#32),
    StableHlo.unary main_v0 main_v2_0 id,
    StableHlo.unary main_arg1 main_v2_1 id,
    StableHlo.unary main_arg3 main_v2_2 id,
    StableHlo.unary main_arg2 main_v2_3 id,
    StableHlo.unary main_arg4 main_v2_4 id,
    StableHlo.unary main_c main_v2_5 id,
    StableHlo.unary main_v1 main_v2_6 id ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 40 host operations of @main, window 0 (statements 1 … 60), in order. -/
abbrev main_part0_ops1 : List (HloOp τ sig (Elt F)) :=
  ( StableHlo.unary main_arg5 main_v3 ((transpose S64x32 [1, 0] · transposes_S32x64_S64x32_1_0) : (⟨S32x64, .f32⟩ : BufTy).Contents (Elt F) → (⟨S64x32, .f32⟩ : BufTy).Contents (Elt F))
  :: StableHlo.binary main_v2_6 main_v3 main_v4 ((fun l r => Host.dotGeneral dot_S16x32x64_S64x32_S16x32x32_2_0_01_1_n_n none l r) : (⟨S16x32x64, .f32⟩ : BufTy).Contents (Elt F) → (⟨S64x32, .f32⟩ : BufTy).Contents (Elt F) → (⟨S16x32x32, .f32⟩ : BufTy).Contents (Elt F))
  :: StableHlo.unary main_arg6 main_v5 (broadcastInDim S1x1x32 ![2] bcast_S32_S1x1x32_2 : (⟨S32, .f32⟩ : BufTy).Contents (Elt F) → (⟨S1x1x32, .f32⟩ : BufTy).Contents (Elt F))
  :: StableHlo.unary main_v5 main_v6 (broadcastInDim S16x32x32 ![0, 1, 2] bcast_S1x1x32_S16x32x32_0_1_2 : (⟨S1x1x32, .f32⟩ : BufTy).Contents (Elt F) → (⟨S16x32x32, .f32⟩ : BufTy).Contents (Elt F))
  :: StableHlo.binary main_v4 main_v6 main_v7 (addf : (⟨S16x32x32, .f32⟩ : BufTy).Contents (Elt F) → (⟨S16x32x32, .f32⟩ : BufTy).Contents (Elt F) → (⟨S16x32x32, .f32⟩ : BufTy).Contents (Elt F))
  :: StableHlo.unary main_arg7 main_v8 ((transpose S64x32 [1, 0] · transposes_S32x64_S64x32_1_0) : (⟨S32x64, .f32⟩ : BufTy).Contents (Elt F) → (⟨S64x32, .f32⟩ : BufTy).Contents (Elt F))
  :: StableHlo.binary main_v2_6 main_v8 main_v9 ((fun l r => Host.dotGeneral dot_S16x32x64_S64x32_S16x32x32_2_0_01_1_n_n none l r) : (⟨S16x32x64, .f32⟩ : BufTy).Contents (Elt F) → (⟨S64x32, .f32⟩ : BufTy).Contents (Elt F) → (⟨S16x32x32, .f32⟩ : BufTy).Contents (Elt F))
  :: StableHlo.unary main_arg8 main_v10 (broadcastInDim S1x1x32 ![2] bcast_S32_S1x1x32_2 : (⟨S32, .f32⟩ : BufTy).Contents (Elt F) → (⟨S1x1x32, .f32⟩ : BufTy).Contents (Elt F))
  :: StableHlo.unary main_v10 main_v11 (broadcastInDim S16x32x32 ![0, 1, 2] bcast_S1x1x32_S16x32x32_0_1_2 : (⟨S1x1x32, .f32⟩ : BufTy).Contents (Elt F) → (⟨S16x32x32, .f32⟩ : BufTy).Contents (Elt F))
  :: StableHlo.binary main_v9 main_v11 main_v12 (addf : (⟨S16x32x32, .f32⟩ : BufTy).Contents (Elt F) → (⟨S16x32x32, .f32⟩ : BufTy).Contents (Elt F) → (⟨S16x32x32, .f32⟩ : BufTy).Contents (Elt F))
  :: StableHlo.unary main_v12 main_v13 ((transpose S16x32x32 [0, 2, 1] · transposes_S16x32x32_S16x32x32_0_2_1) : (⟨S16x32x32, .f32⟩ : BufTy).Contents (Elt F) → (⟨S16x32x32, .f32⟩ : BufTy).Contents (Elt F))
  :: StableHlo.binary main_v7 main_v13 main_v14 ((fun l r => Host.dotGeneral dot_S16x32x32_S16x32x32_S16x32x32_2_1_1_2_0_0 none l r) : (⟨S16x32x32, .f32⟩ : BufTy).Contents (Elt F) → (⟨S16x32x32, .f32⟩ : BufTy).Contents (Elt F) → (⟨S16x32x32, .f32⟩ : BufTy).Contents (Elt F))
  :: StableHlo.nullary main_cst_0 (constant S_ .f32 0x42000000#32)
  :: StableHlo.unary main_cst_0 main_v15 (Host.sqrt : (⟨S_, .f32⟩ : BufTy).Contents (Elt F) → (⟨S_, .f32⟩ : BufTy).Contents (Elt F))
  :: StableHlo.unary main_v15 main_v16 (broadcastInDim S16x32x32 ![] bcast_S_S16x32x32 : (⟨S_, .f32⟩ : BufTy).Contents (Elt F) → (⟨S16x32x32, .f32⟩ : BufTy).Contents (Elt F))
  :: StableHlo.binary main_v14 main_v16 main_v17 (Host.divf : (⟨S16x32x32, .f32⟩ : BufTy).Contents (Elt F) → (⟨S16x32x32, .f32⟩ : BufTy).Contents (Elt F) → (⟨S16x32x32, .f32⟩ : BufTy).Contents (Elt F))
  :: StableHlo.nullary main_cst_1 (constant S_ .f32 0xFF800000#32)
  :: StableHlo.binary main_v17 main_cst_1 main_v18 ((fun x v => Host.reduce FloatOps.maximumf x v reducesTo_S16x32x32_S16x32_d2 h_S_) : (⟨S16x32x32, .f32⟩ : BufTy).Contents (Elt F) → (⟨S_, .f32⟩ : BufTy).Contents (Elt F) → (⟨S16x32, .f32⟩ : BufTy).Contents (Elt F))
  :: StableHlo.nullary main_cst_2 (constant S_ .f32 0xFF800000#32)
  :: StableHlo.unary main_cst_2 main_v19 (broadcastInDim S16x32 ![] bcast_S_S16x32 : (⟨S_, .f32⟩ : BufTy).Contents (Elt F) → (⟨S16x32, .f32⟩ : BufTy).Contents (Elt F))
  :: StableHlo.binary main_v19 main_v18 main_v20 (maximumf : (⟨S16x32, .f32⟩ : BufTy).Contents (Elt F) → (⟨S16x32, .f32⟩ : BufTy).Contents (Elt F) → (⟨S16x32, .f32⟩ : BufTy).Contents (Elt F))
  :: StableHlo.unary main_v20 main_v21 (broadcastInDim S16x32x1 ![0, 1] bcast_S16x32_S16x32x1_0_1 : (⟨S16x32, .f32⟩ : BufTy).Contents (Elt F) → (⟨S16x32x1, .f32⟩ : BufTy).Contents (Elt F))
  :: StableHlo.unary main_v21 main_v22 (broadcastInDim S16x32x32 ![0, 1, 2] bcast_S16x32x1_S16x32x32_0_1_2 : (⟨S16x32x1, .f32⟩ : BufTy).Contents (Elt F) → (⟨S16x32x32, .f32⟩ : BufTy).Contents (Elt F))
  :: StableHlo.binary main_v17 main_v22 main_v23 (subf : (⟨S16x32x32, .f32⟩ : BufTy).Contents (Elt F) → (⟨S16x32x32, .f32⟩ : BufTy).Contents (Elt F) → (⟨S16x32x32, .f32⟩ : BufTy).Contents (Elt F))
  :: StableHlo.unary main_v23 main_v24 (Host.exp : (⟨S16x32x32, .f32⟩ : BufTy).Contents (Elt F) → (⟨S16x32x32, .f32⟩ : BufTy).Contents (Elt F))
  :: StableHlo.nullary main_cst_3 (constant S_ .f32 0x00000000#32)
  :: StableHlo.binary main_v24 main_cst_3 main_v25 ((fun x v => Host.reduceAdd x v reducesTo_S16x32x32_S16x32_d2 h_S_) : (⟨S16x32x32, .f32⟩ : BufTy).Contents (Elt F) → (⟨S_, .f32⟩ : BufTy).Contents (Elt F) → (⟨S16x32, .f32⟩ : BufTy).Contents (Elt F))
  :: StableHlo.unary main_v25 main_v26 (broadcastInDim S16x32x1 ![0, 1] bcast_S16x32_S16x32x1_0_1 : (⟨S16x32, .f32⟩ : BufTy).Contents (Elt F) → (⟨S16x32x1, .f32⟩ : BufTy).Contents (Elt F))
  :: StableHlo.unary main_v26 main_v27 (broadcastInDim S16x32x32 ![0, 1, 2] bcast_S16x32x1_S16x32x32_0_1_2 : (⟨S16x32x1, .f32⟩ : BufTy).Contents (Elt F) → (⟨S16x32x32, .f32⟩ : BufTy).Contents (Elt F))
  :: StableHlo.binary main_v24 main_v27 main_v28 (Host.divf : (⟨S16x32x32, .f32⟩ : BufTy).Contents (Elt F) → (⟨S16x32x32, .f32⟩ : BufTy).Contents (Elt F) → (⟨S16x32x32, .f32⟩ : BufTy).Contents (Elt F))
  :: StableHlo.nullary main_cst_4 (constant S_ .f32 0x00000000#32)
  :: StableHlo.binary main_v28 main_cst_4 main_v29 ((fun x v => Host.reduceAdd x v reducesTo_S16x32x32_S16x32_d1 h_S_) : (⟨S16x32x32, .f32⟩ : BufTy).Contents (Elt F) → (⟨S_, .f32⟩ : BufTy).Contents (Elt F) → (⟨S16x32, .f32⟩ : BufTy).Contents (Elt F))
  :: StableHlo.nullary main_cst_5 (constant S_ .f32 0x00000000#32)
  :: StableHlo.unary main_cst_5 main_v30 (broadcastInDim S16x32 ![] bcast_S_S16x32 : (⟨S_, .f32⟩ : BufTy).Contents (Elt F) → (⟨S16x32, .f32⟩ : BufTy).Contents (Elt F))
  :: StableHlo.binary main_v29 main_v30 main_v31 (cmpf .ogt : (⟨S16x32, .f32⟩ : BufTy).Contents (Elt F) → (⟨S16x32, .f32⟩ : BufTy).Contents (Elt F) → (⟨S16x32, .i1⟩ : BufTy).Contents (Elt F))
  :: StableHlo.unary main_v29 main_v32 (Host.sqrt : (⟨S16x32, .f32⟩ : BufTy).Contents (Elt F) → (⟨S16x32, .f32⟩ : BufTy).Contents (Elt F))
  :: StableHlo.nullary main_cst_6 (constant S_ .f32 0x3F800000#32)
  :: StableHlo.unary main_cst_6 main_v33 (broadcastInDim S16x32 ![] bcast_S_S16x32 : (⟨S_, .f32⟩ : BufTy).Contents (Elt F) → (⟨S16x32, .f32⟩ : BufTy).Contents (Elt F))
  :: StableHlo.binary main_v33 main_v32 main_v34 (Host.divf : (⟨S16x32, .f32⟩ : BufTy).Contents (Elt F) → (⟨S16x32, .f32⟩ : BufTy).Contents (Elt F) → (⟨S16x32, .f32⟩ : BufTy).Contents (Elt F))
  :: StableHlo.nullary main_cst_7 (constant S_ .f32 0x00000000#32)
  :: [] )
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩
/-- 3 host operations of @_where (main_call1), window 0 (statements 1 … 60), in order. -/
abbrev main_part0_ops2 : List (HloOp τ sig (Elt F)) :=
  [ StableHlo.TRef.unary (.of main_cst_7 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S16x32, .f32⟩) (broadcastInDim S16x32 ![] bcast_S_S16x32),
    StableHlo.TRef.ternary (.of main_v31 : StableHlo.TRef sig ⟨S16x32, .i1⟩) (.of main_v34 : StableHlo.TRef sig ⟨S16x32, .f32⟩) (.of main_call1_v1 : StableHlo.TRef sig ⟨S16x32, .f32⟩) (.of main_v35 : StableHlo.TRef sig ⟨S16x32, .f32⟩) select ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.unary_bufs_sub .., StableHlo.unary_bufs_sub .., StableHlo.ternary_bufs_sub ..⟩
/-- 7 host operations of @main, window 0 (statements 1 … 60), in order. -/
abbrev main_part0_ops3 : List (HloOp τ sig (Elt F)) :=
  [ StableHlo.unary main_v35 main_v36 (broadcastInDim S16x32x1 ![0, 1] bcast_S16x32_S16x32x1_0_1 : (⟨S16x32, .f32⟩ : BufTy).Contents (Elt F) → (⟨S16x32x1, .f32⟩ : BufTy).Contents (Elt F)),
    StableHlo.unary main_v36 main_v37 (broadcastInDim S16x32x32 ![0, 1, 2] bcast_S16x32x1_S16x32x32_0_1_2 : (⟨S16x32x1, .f32⟩ : BufTy).Contents (Elt F) → (⟨S16x32x32, .f32⟩ : BufTy).Contents (Elt F)),
    StableHlo.binary main_v37 main_v28 main_v38 (mulf : (⟨S16x32x32, .f32⟩ : BufTy).Contents (Elt F) → (⟨S16x32x32, .f32⟩ : BufTy).Contents (Elt F) → (⟨S16x32x32, .f32⟩ : BufTy).Contents (Elt F)),
    StableHlo.unary main_v35 main_v39 (broadcastInDim S16x1x32 ![0, 2] bcast_S16x32_S16x1x32_0_2 : (⟨S16x32, .f32⟩ : BufTy).Contents (Elt F) → (⟨S16x1x32, .f32⟩ : BufTy).Contents (Elt F)),
    StableHlo.unary main_v39 main_v40 (broadcastInDim S16x32x32 ![0, 1, 2] bcast_S16x1x32_S16x32x32_0_1_2 : (⟨S16x1x32, .f32⟩ : BufTy).Contents (Elt F) → (⟨S16x32x32, .f32⟩ : BufTy).Contents (Elt F)),
    StableHlo.binary main_v38 main_v40 main_v41 (mulf : (⟨S16x32x32, .f32⟩ : BufTy).Contents (Elt F) → (⟨S16x32x32, .f32⟩ : BufTy).Contents (Elt F) → (⟨S16x32x32, .f32⟩ : BufTy).Contents (Elt F)),
    StableHlo.unary main_arg0 main_v42 (broadcastInDim S16x64x32x1 ![0, 1, 2] bcast_S16x64x32_S16x64x32x1_0_1_2 : (⟨S16x64x32, .f32⟩ : BufTy).Contents (Elt F) → (⟨S16x64x32x1, .f32⟩ : BufTy).Contents (Elt F)) ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0,
    StableHlo.seq main_part0_ops1,
    StableHlo.seq main_part0_ops2 ]
  (StableHlo.seq main_part0_ops3) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons]
  chain_rfl

/-- 15 host operations of @main, window 1 (statements 61 … 120), in order. -/
abbrev main_part1_ops0 : List (HloOp τ sig (Elt F)) :=
  [ StableHlo.reshape main_arg9 main_v43 (rfl : (.f32 : EltTy) = .f32) shapeCasts_S64x1x1_S1x1x1x64,
    StableHlo.unary main_v42 main_v44 (broadcastInDim S16x64x32x64 ![0, 1, 2, 3] bcast_S16x64x32x1_S16x64x32x64_0_1_2_3 : (⟨S16x64x32x1, .f32⟩ : BufTy).Contents (Elt F) → (⟨S16x64x32x64, .f32⟩ : BufTy).Contents (Elt F)),
    StableHlo.unary main_v43 main_v45 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F)),
    StableHlo.binary main_v44 main_v45 main_v46 (mulf : (⟨S16x64x32x64, .f32⟩ : BufTy).Contents (Elt F) → (⟨S16x64x32x64, .f32⟩ : BufTy).Contents (Elt F) → (⟨S16x64x32x64, .f32⟩ : BufTy).Contents (Elt F)),
    StableHlo.unary main_arg10 main_v47 (broadcastInDim S1x1x1x64 ![3] bcast_S64_S1x1x1x64_3 : (⟨S64, .f32⟩ : BufTy).Contents (Elt F) → (⟨S1x1x1x64, .f32⟩ : BufTy).Contents (Elt F)),
    StableHlo.unary main_v47 main_v48 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F)),
    StableHlo.binary main_v46 main_v48 main_v49 (addf : (⟨S16x64x32x64, .f32⟩ : BufTy).Contents (Elt F) → (⟨S16x64x32x64, .f32⟩ : BufTy).Contents (Elt F) → (⟨S16x64x32x64, .f32⟩ : BufTy).Contents (Elt F)),
    StableHlo.unary main_arg11 main_v50 ((transpose S64x64 [1, 0] · transposes_S64x64_S64x64_1_0) : (⟨S64x64, .f32⟩ : BufTy).Contents (Elt F) → (⟨S64x64, .f32⟩ : BufTy).Contents (Elt F)),
    StableHlo.binary main_v49 main_v50 main_v51 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F)),
    StableHlo.binary main_v51 main_v41 main_v52 ((fun l r => Host.dotGeneral dot_S16x64x32x64_S16x32x32_S16x64x64x32_2_1_13_2_0_0 none l r) : (⟨S16x64x32x64, .f32⟩ : BufTy).Contents (Elt F) → (⟨S16x32x32, .f32⟩ : BufTy).Contents (Elt F) → (⟨S16x64x64x32, .f32⟩ : BufTy).Contents (Elt F)),
    StableHlo.unary main_v52 main_v53 ((transpose S16x64x32x64 [0, 1, 3, 2] · transposes_S16x64x64x32_S16x64x32x64_0_1_3_2) : (⟨S16x64x64x32, .f32⟩ : BufTy).Contents (Elt F) → (⟨S16x64x32x64, .f32⟩ : BufTy).Contents (Elt F)),
    StableHlo.unary main_arg12 main_v54 (broadcastInDim S1x1x1x64 ![3] bcast_S64_S1x1x1x64_3 : (⟨S64, .f32⟩ : BufTy).Contents (Elt F) → (⟨S1x1x1x64, .f32⟩ : BufTy).Contents (Elt F)),
    StableHlo.unary main_v54 main_v55 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F)),
    StableHlo.binary main_v53 main_v55 main_v56 (addf : (⟨S16x64x32x64, .f32⟩ : BufTy).Contents (Elt F) → (⟨S16x64x32x64, .f32⟩ : BufTy).Contents (Elt F) → (⟨S16x64x32x64, .f32⟩ : BufTy).Contents (Elt F)),
    StableHlo.nullary main_c_8 (constantI S_ 32 0#32) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub ..⟩
/-- 2 host operations of @_pad (main_call2), window 1 (statements 61 … 120), in order. -/
abbrev main_part1_ops1 : List (HloOp τ sig (Elt F)) :=
  [ StableHlo.TRef.unary (.of main_c_8 : StableHlo.TRef sig ⟨S_, .i32⟩) (.of main_call2_v0 : StableHlo.TRef sig ⟨S_, .f32⟩) (sitofp .f32),
    StableHlo.TRef.binary (.of main_v56 : StableHlo.TRef sig ⟨S16x64x32x64, .f32⟩) (.of main_call2_v0 : StableHlo.TRef sig ⟨S_, .f32⟩) (.of main_v57 : StableHlo.TRef sig ⟨S16x66x32x64, .f32⟩) (fun x v => pad S16x66x32x64 ![0, 1, 0, 0] ![0, 1, 0, 0] ![0, 0, 0, 0] x v pads_S16x64x32x64_S16x66x32x64_000_110_000_000 h_S_) ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.unary_bufs_sub .., StableHlo.binary_bufs_sub ..⟩
/-- 29 host operations of @main, window 1 (statements 61 … 120), in order. -/
abbrev main_part1_ops2 : List (HloOp τ sig (Elt F)) :=
  [ StableHlo.unary main_v57 main_v58 ((extractStridedSlice S16x64x32x64 ![0, 0, 0, 0] · slices_S16x66x32x64_S16x64x32x64_0_0_0_0) : (⟨S16x66x32x64, .f32⟩ : BufTy).Contents (Elt F) → (⟨S16x64x32x64, .f32⟩ : BufTy).Contents (Elt F)),
    StableHlo.unary main_arg13 main_v59 ((extractStridedSlice S64x64x1 ![0, 0, 0] · slices_S64x64x3_S64x64x1_0_0_0) : (⟨S64x64x3, .f32⟩ : BufTy).Contents (Elt F) → (⟨S64x64x1, .f32⟩ : BufTy).Contents (Elt F)),
    StableHlo.reshape main_v59 main_v60 (rfl : (.f32 : EltTy) = .f32) shapeCasts_S64x64x1_S64x64,
    StableHlo.unary main_v60 main_v61 ((transpose S64x64 [1, 0] · transposes_S64x64_S64x64_1_0) : (⟨S64x64, .f32⟩ : BufTy).Contents (Elt F) → (⟨S64x64, .f32⟩ : BufTy).Contents (Elt F)),
    StableHlo.binary main_v58 main_v61 main_v62 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F)),
    StableHlo.nullary main_cst_9 (constant S_ .f32 0x00000000#32),
    StableHlo.unary main_cst_9 main_v63 (broadcastInDim S16x64x32x64 ![] bcast_S_S16x64x32x64 : (⟨S_, .f32⟩ : BufTy).Contents (Elt F) → (⟨S16x64x32x64, .f32⟩ : BufTy).Contents (Elt F)),
    StableHlo.binary main_v63 main_v62 main_v64 (addf : (⟨S16x64x32x64, .f32⟩ : BufTy).Contents (Elt F) → (⟨S16x64x32x64, .f32⟩ : BufTy).Contents (Elt F) → (⟨S16x64x32x64, .f32⟩ : BufTy).Contents (Elt F)),
    StableHlo.unary main_v57 main_v65 ((extractStridedSlice S16x64x32x64 ![0, 1, 0, 0] · slices_S16x66x32x64_S16x64x32x64_0_1_0_0) : (⟨S16x66x32x64, .f32⟩ : BufTy).Contents (Elt F) → (⟨S16x64x32x64, .f32⟩ : BufTy).Contents (Elt F)),
    StableHlo.unary main_arg13 main_v66 ((extractStridedSlice S64x64x1 ![0, 0, 1] · slices_S64x64x3_S64x64x1_0_0_1) : (⟨S64x64x3, .f32⟩ : BufTy).Contents (Elt F) → (⟨S64x64x1, .f32⟩ : BufTy).Contents (Elt F)),
    StableHlo.reshape main_v66 main_v67 (rfl : (.f32 : EltTy) = .f32) shapeCasts_S64x64x1_S64x64,
    StableHlo.unary main_v67 main_v68 ((transpose S64x64 [1, 0] · transposes_S64x64_S64x64_1_0) : (⟨S64x64, .f32⟩ : BufTy).Contents (Elt F) → (⟨S64x64, .f32⟩ : BufTy).Contents (Elt F)),
    StableHlo.binary main_v65 main_v68 main_v69 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F)),
    StableHlo.binary main_v64 main_v69 main_v70 (addf : (⟨S16x64x32x64, .f32⟩ : BufTy).Contents (Elt F) → (⟨S16x64x32x64, .f32⟩ : BufTy).Contents (Elt F) → (⟨S16x64x32x64, .f32⟩ : BufTy).Contents (Elt F)),
    StableHlo.unary main_v57 main_v71 ((extractStridedSlice S16x64x32x64 ![0, 2, 0, 0] · slices_S16x66x32x64_S16x64x32x64_0_2_0_0) : (⟨S16x66x32x64, .f32⟩ : BufTy).Contents (Elt F) → (⟨S16x64x32x64, .f32⟩ : BufTy).Contents (Elt F)),
    StableHlo.unary main_arg13 main_v72 ((extractStridedSlice S64x64x1 ![0, 0, 2] · slices_S64x64x3_S64x64x1_0_0_2) : (⟨S64x64x3, .f32⟩ : BufTy).Contents (Elt F) → (⟨S64x64x1, .f32⟩ : BufTy).Contents (Elt F)),
    StableHlo.reshape main_v72 main_v73 (rfl : (.f32 : EltTy) = .f32) shapeCasts_S64x64x1_S64x64,
    StableHlo.unary main_v73 main_v74 ((transpose S64x64 [1, 0] · transposes_S64x64_S64x64_1_0) : (⟨S64x64, .f32⟩ : BufTy).Contents (Elt F) → (⟨S64x64, .f32⟩ : BufTy).Contents (Elt F)),
    StableHlo.binary main_v71 main_v74 main_v75 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F)),
    StableHlo.binary main_v70 main_v75 main_v76 (addf : (⟨S16x64x32x64, .f32⟩ : BufTy).Contents (Elt F) → (⟨S16x64x32x64, .f32⟩ : BufTy).Contents (Elt F) → (⟨S16x64x32x64, .f32⟩ : BufTy).Contents (Elt F)),
    StableHlo.unary main_arg14 main_v77 (broadcastInDim S1x1x1x64 ![3] bcast_S64_S1x1x1x64_3 : (⟨S64, .f32⟩ : BufTy).Contents (Elt F) → (⟨S1x1x1x64, .f32⟩ : BufTy).Contents (Elt F)),
    StableHlo.unary main_v77 main_v78 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F)),
    StableHlo.binary main_v76 main_v78 main_v79 (addf : (⟨S16x64x32x64, .f32⟩ : BufTy).Contents (Elt F) → (⟨S16x64x32x64, .f32⟩ : BufTy).Contents (Elt F) → (⟨S16x64x32x64, .f32⟩ : BufTy).Contents (Elt F)),
    StableHlo.nullary main_cst_10 (constant S_ .f32 0x00000000#32),
    StableHlo.unary main_cst_10 main_v80 (broadcastInDim S16x64x32x64 ![] bcast_S_S16x64x32x64 : (⟨S_, .f32⟩ : BufTy).Contents (Elt F) → (⟨S16x64x32x64, .f32⟩ : BufTy).Contents (Elt F)),
    StableHlo.binary main_v79 main_v80 main_v81 (cmpf .ogt : (⟨S16x64x32x64, .f32⟩ : BufTy).Contents (Elt F) → (⟨S16x64x32x64, .f32⟩ : BufTy).Contents (Elt F) → (⟨S16x64x32x64, .i1⟩ : BufTy).Contents (Elt F)),
    StableHlo.nullary main_cst_11 (constant S_ .f32 0x3C23D70A#32),
    StableHlo.unary main_cst_11 main_v82 (broadcastInDim S16x64x32x64 ![] bcast_S_S16x64x32x64 : (⟨S_, .f32⟩ : BufTy).Contents (Elt F) → (⟨S16x64x32x64, .f32⟩ : BufTy).Contents (Elt F)),
    StableHlo.binary main_v82 main_v79 main_v83 (mulf : (⟨S16x64x32x64, .f32⟩ : BufTy).Contents (Elt F) → (⟨S16x64x32x64, .f32⟩ : BufTy).Contents (Elt F) → (⟨S16x64x32x64, .f32⟩ : BufTy).Contents (Elt F)) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
/-- 1 host operation of @_where_0 (main_call3), window 1 (statements 61 … 120), in order. -/
abbrev main_part1_ops3 : List (HloOp τ sig (Elt F)) :=
  [ StableHlo.TRef.ternary (.of main_v81 : StableHlo.TRef sig ⟨S16x64x32x64, .i1⟩) (.of main_v79 : StableHlo.TRef sig ⟨S16x64x32x64, .f32⟩) (.of main_v83 : StableHlo.TRef sig ⟨S16x64x32x64, .f32⟩) (.of main_v84 : StableHlo.TRef sig ⟨S16x64x32x64, .f32⟩) select ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  StableHlo.ternary_bufs_sub ..
/-- 8 host operations of @main, window 1 (statements 61 … 120), in order. -/
abbrev main_part1_ops4 : List (HloOp τ sig (Elt F)) :=
  [ StableHlo.unary main_arg15 main_v85 ((transpose S64x64 [1, 0] · transposes_S64x64_S64x64_1_0) : (⟨S64x64, .f32⟩ : BufTy).Contents (Elt F) → (⟨S64x64, .f32⟩ : BufTy).Contents (Elt F)),
    StableHlo.binary main_v84 main_v85 main_v86 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F)),
    StableHlo.binary main_v86 main_v41 main_v87 ((fun l r => Host.dotGeneral dot_S16x64x32x64_S16x32x32_S16x64x64x32_2_1_13_2_0_0 none l r) : (⟨S16x64x32x64, .f32⟩ : BufTy).Contents (Elt F) → (⟨S16x32x32, .f32⟩ : BufTy).Contents (Elt F) → (⟨S16x64x64x32, .f32⟩ : BufTy).Contents (Elt F)),
    StableHlo.unary main_v87 main_v88 ((transpose S16x64x32x64 [0, 1, 3, 2] · transposes_S16x64x64x32_S16x64x32x64_0_1_3_2) : (⟨S16x64x64x32, .f32⟩ : BufTy).Contents (Elt F) → (⟨S16x64x32x64, .f32⟩ : BufTy).Contents (Elt F)),
    StableHlo.unary main_arg16 main_v89 (broadcastInDim S1x1x1x64 ![3] bcast_S64_S1x1x1x64_3 : (⟨S64, .f32⟩ : BufTy).Contents (Elt F) → (⟨S1x1x1x64, .f32⟩ : BufTy).Contents (Elt F)),
    StableHlo.unary main_v89 main_v90 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F)),
    StableHlo.binary main_v88 main_v90 main_v91 (addf : (⟨S16x64x32x64, .f32⟩ : BufTy).Contents (Elt F) → (⟨S16x64x32x64, .f32⟩ : BufTy).Contents (Elt F) → (⟨S16x64x32x64, .f32⟩ : BufTy).Contents (Elt F)),
    StableHlo.nullary main_c_12 (constantI S_ 32 0#32) ]
/-- Each touches TensorCore references only (`HostSeg.ofOps` over `StableHlo.tcRefs`, or a subset by `sub_ucRefs`). -/
theorem main_part1_ops4_sub : (main_part1_ops4 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub ..⟩
/-- 2 host operations of @_pad_1 (main_call4), window 1 (statements 61 … 120), in order. -/
abbrev main_part1_ops5 : List (HloOp τ sig (Elt F)) :=
  [ StableHlo.TRef.unary (.of main_c_12 : StableHlo.TRef sig ⟨S_, .i32⟩) (.of main_call4_v0 : StableHlo.TRef sig ⟨S_, .f32⟩) (sitofp .f32),
    StableHlo.TRef.binary (.of main_v91 : StableHlo.TRef sig ⟨S16x64x32x64, .f32⟩) (.of main_call4_v0 : StableHlo.TRef sig ⟨S_, .f32⟩) (.of main_v92 : StableHlo.TRef sig ⟨S16x68x32x64, .f32⟩) (fun x v => pad S16x68x32x64 ![0, 2, 0, 0] ![0, 2, 0, 0] ![0, 0, 0, 0] x v pads_S16x64x32x64_S16x68x32x64_000_220_000_000 h_S_) ]
/-- Each touches TensorCore references only (`HostSeg.ofOps` over `StableHlo.tcRefs`, or a subset by `sub_ucRefs`). -/
theorem main_part1_ops5_sub : (main_part1_ops5 : List (HloOp τ sig (Elt F))).Forall fun op => op.bufs ⊆ StableHlo.tcRefs τ sig :=
  ⟨StableHlo.unary_bufs_sub .., StableHlo.binary_bufs_sub ..⟩
/-- 5 host operations of @main, window 1 (statements 61 … 120), in order. -/
abbrev main_part1_ops6 : List (HloOp τ sig (Elt F)) :=
  [ StableHlo.unary main_v92 main_v93 ((extractStridedSlice S16x64x32x64 ![0, 0, 0, 0] · slices_S16x68x32x64_S16x64x32x64_0_0_0_0) : (⟨S16x68x32x64, .f32⟩ : BufTy).Contents (Elt F) → (⟨S16x64x32x64, .f32⟩ : BufTy).Contents (Elt F)),
    StableHlo.unary main_arg17 main_v94 ((extractStridedSlice S64x64x1 ![0, 0, 0] · slices_S64x64x5_S64x64x1_0_0_0) : (⟨S64x64x5, .f32⟩ : BufTy).Contents (Elt F) → (⟨S64x64x1, .f32⟩ : BufTy).Contents (Elt F)),
    StableHlo.reshape main_v94 main_v95 (rfl : (.f32 : EltTy) = .f32) shapeCasts_S64x64x1_S64x64,
    StableHlo.unary main_v95 main_v96 ((transpose S64x64 [1, 0] · transposes_S64x64_S64x64_1_0) : (⟨S64x64, .f32⟩ : BufTy).Contents (Elt F) → (⟨S64x64, .f32⟩ : BufTy).Contents (Elt F)),
    StableHlo.binary main_v93 main_v96 main_v97 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F)) ]
/-- Each touches TensorCore references only (`HostSeg.ofOps` over `StableHlo.tcRefs`, or a subset by `sub_ucRefs`). -/
theorem main_part1_ops6_sub : (main_part1_ops6 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.binary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5 ]
  (StableHlo.seq main_part1_ops6) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons]
  chain_rfl

/-- 36 host operations of @main, window 2 (statements 121 … 165), in order. -/
abbrev main_part2_ops0 : List (HloOp τ sig (Elt F)) :=
  ( StableHlo.nullary main_cst_13 (constant S_ .f32 0x00000000#32)
  :: StableHlo.unary main_cst_13 main_v98 (broadcastInDim S16x64x32x64 ![] bcast_S_S16x64x32x64 : (⟨S_, .f32⟩ : BufTy).Contents (Elt F) → (⟨S16x64x32x64, .f32⟩ : BufTy).Contents (Elt F))
  :: StableHlo.binary main_v98 main_v97 main_v99 (addf : (⟨S16x64x32x64, .f32⟩ : BufTy).Contents (Elt F) → (⟨S16x64x32x64, .f32⟩ : BufTy).Contents (Elt F) → (⟨S16x64x32x64, .f32⟩ : BufTy).Contents (Elt F))
  :: StableHlo.unary main_v92 main_v100 ((extractStridedSlice S16x64x32x64 ![0, 1, 0, 0] · slices_S16x68x32x64_S16x64x32x64_0_1_0_0) : (⟨S16x68x32x64, .f32⟩ : BufTy).Contents (Elt F) → (⟨S16x64x32x64, .f32⟩ : BufTy).Contents (Elt F))
  :: StableHlo.unary main_arg17 main_v101 ((extractStridedSlice S64x64x1 ![0, 0, 1] · slices_S64x64x5_S64x64x1_0_0_1) : (⟨S64x64x5, .f32⟩ : BufTy).Contents (Elt F) → (⟨S64x64x1, .f32⟩ : BufTy).Contents (Elt F))
  :: StableHlo.reshape main_v101 main_v102 (rfl : (.f32 : EltTy) = .f32) shapeCasts_S64x64x1_S64x64
  :: StableHlo.unary main_v102 main_v103 ((transpose S64x64 [1, 0] · transposes_S64x64_S64x64_1_0) : (⟨S64x64, .f32⟩ : BufTy).Contents (Elt F) → (⟨S64x64, .f32⟩ : BufTy).Contents (Elt F))
  :: StableHlo.binary main_v100 main_v103 main_v104 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F))
  :: StableHlo.binary main_v99 main_v104 main_v105 (addf : (⟨S16x64x32x64, .f32⟩ : BufTy).Contents (Elt F) → (⟨S16x64x32x64, .f32⟩ : BufTy).Contents (Elt F) → (⟨S16x64x32x64, .f32⟩ : BufTy).Contents (Elt F))
  :: StableHlo.unary main_v92 main_v106 ((extractStridedSlice S16x64x32x64 ![0, 2, 0, 0] · slices_S16x68x32x64_S16x64x32x64_0_2_0_0) : (⟨S16x68x32x64, .f32⟩ : BufTy).Contents (Elt F) → (⟨S16x64x32x64, .f32⟩ : BufTy).Contents (Elt F))
  :: StableHlo.unary main_arg17 main_v107 ((extractStridedSlice S64x64x1 ![0, 0, 2] · slices_S64x64x5_S64x64x1_0_0_2) : (⟨S64x64x5, .f32⟩ : BufTy).Contents (Elt F) → (⟨S64x64x1, .f32⟩ : BufTy).Contents (Elt F))
  :: StableHlo.reshape main_v107 main_v108 (rfl : (.f32 : EltTy) = .f32) shapeCasts_S64x64x1_S64x64
  :: StableHlo.unary main_v108 main_v109 ((transpose S64x64 [1, 0] · transposes_S64x64_S64x64_1_0) : (⟨S64x64, .f32⟩ : BufTy).Contents (Elt F) → (⟨S64x64, .f32⟩ : BufTy).Contents (Elt F))
  :: StableHlo.binary main_v106 main_v109 main_v110 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F))
  :: StableHlo.binary main_v105 main_v110 main_v111 (addf : (⟨S16x64x32x64, .f32⟩ : BufTy).Contents (Elt F) → (⟨S16x64x32x64, .f32⟩ : BufTy).Contents (Elt F) → (⟨S16x64x32x64, .f32⟩ : BufTy).Contents (Elt F))
  :: StableHlo.unary main_v92 main_v112 ((extractStridedSlice S16x64x32x64 ![0, 3, 0, 0] · slices_S16x68x32x64_S16x64x32x64_0_3_0_0) : (⟨S16x68x32x64, .f32⟩ : BufTy).Contents (Elt F) → (⟨S16x64x32x64, .f32⟩ : BufTy).Contents (Elt F))
  :: StableHlo.unary main_arg17 main_v113 ((extractStridedSlice S64x64x1 ![0, 0, 3] · slices_S64x64x5_S64x64x1_0_0_3) : (⟨S64x64x5, .f32⟩ : BufTy).Contents (Elt F) → (⟨S64x64x1, .f32⟩ : BufTy).Contents (Elt F))
  :: StableHlo.reshape main_v113 main_v114 (rfl : (.f32 : EltTy) = .f32) shapeCasts_S64x64x1_S64x64
  :: StableHlo.unary main_v114 main_v115 ((transpose S64x64 [1, 0] · transposes_S64x64_S64x64_1_0) : (⟨S64x64, .f32⟩ : BufTy).Contents (Elt F) → (⟨S64x64, .f32⟩ : BufTy).Contents (Elt F))
  :: StableHlo.binary main_v112 main_v115 main_v116 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F))
  :: StableHlo.binary main_v111 main_v116 main_v117 (addf : (⟨S16x64x32x64, .f32⟩ : BufTy).Contents (Elt F) → (⟨S16x64x32x64, .f32⟩ : BufTy).Contents (Elt F) → (⟨S16x64x32x64, .f32⟩ : BufTy).Contents (Elt F))
  :: StableHlo.unary main_v92 main_v118 ((extractStridedSlice S16x64x32x64 ![0, 4, 0, 0] · slices_S16x68x32x64_S16x64x32x64_0_4_0_0) : (⟨S16x68x32x64, .f32⟩ : BufTy).Contents (Elt F) → (⟨S16x64x32x64, .f32⟩ : BufTy).Contents (Elt F))
  :: StableHlo.unary main_arg17 main_v119 ((extractStridedSlice S64x64x1 ![0, 0, 4] · slices_S64x64x5_S64x64x1_0_0_4) : (⟨S64x64x5, .f32⟩ : BufTy).Contents (Elt F) → (⟨S64x64x1, .f32⟩ : BufTy).Contents (Elt F))
  :: StableHlo.reshape main_v119 main_v120 (rfl : (.f32 : EltTy) = .f32) shapeCasts_S64x64x1_S64x64
  :: StableHlo.unary main_v120 main_v121 ((transpose S64x64 [1, 0] · transposes_S64x64_S64x64_1_0) : (⟨S64x64, .f32⟩ : BufTy).Contents (Elt F) → (⟨S64x64, .f32⟩ : BufTy).Contents (Elt F))
  :: StableHlo.binary main_v118 main_v121 main_v122 ((fun l r => Host.dotGeneral dot_S16x64x32x64_S64x64_S16x64x32x64_3_0_012_1_n_n none l r) : (⟨S16x64x32x64, .f32⟩ : BufTy).Contents (Elt F) → (⟨S64x64, .f32⟩ : BufTy).Contents (Elt F) → (⟨S16x64x32x64, .f32⟩ : BufTy).Contents (Elt F))
  :: StableHlo.binary main_v117 main_v122 main_v123 (addf : (⟨S16x64x32x64, .f32⟩ : BufTy).Contents (Elt F) → (⟨S16x64x32x64, .f32⟩ : BufTy).Contents (Elt F) → (⟨S16x64x32x64, .f32⟩ : BufTy).Contents (Elt F))
  :: StableHlo.unary main_arg18 main_v124 (broadcastInDim S1x1x1x64 ![3] bcast_S64_S1x1x1x64_3 : (⟨S64, .f32⟩ : BufTy).Contents (Elt F) → (⟨S1x1x1x64, .f32⟩ : BufTy).Contents (Elt F))
  :: StableHlo.unary main_v124 main_v125 (broadcastInDim S16x64x32x64 ![0, 1, 2, 3] bcast_S1x1x1x64_S16x64x32x64_0_1_2_3 : (⟨S1x1x1x64, .f32⟩ : BufTy).Contents (Elt F) → (⟨S16x64x32x64, .f32⟩ : BufTy).Contents (Elt F))
  :: StableHlo.binary main_v123 main_v125 main_v126 (addf : (⟨S16x64x32x64, .f32⟩ : BufTy).Contents (Elt F) → (⟨S16x64x32x64, .f32⟩ : BufTy).Contents (Elt F) → (⟨S16x64x32x64, .f32⟩ : BufTy).Contents (Elt F))
  :: StableHlo.nullary main_cst_14 (constant S_ .f32 0x00000000#32)
  :: StableHlo.unary main_cst_14 main_v127 (broadcastInDim S16x64x32x64 ![] bcast_S_S16x64x32x64 : (⟨S_, .f32⟩ : BufTy).Contents (Elt F) → (⟨S16x64x32x64, .f32⟩ : BufTy).Contents (Elt F))
  :: StableHlo.binary main_v126 main_v127 main_v128 (cmpf .ogt : (⟨S16x64x32x64, .f32⟩ : BufTy).Contents (Elt F) → (⟨S16x64x32x64, .f32⟩ : BufTy).Contents (Elt F) → (⟨S16x64x32x64, .i1⟩ : BufTy).Contents (Elt F))
  :: StableHlo.nullary main_cst_15 (constant S_ .f32 0x3C23D70A#32)
  :: StableHlo.unary main_cst_15 main_v129 (broadcastInDim S16x64x32x64 ![] bcast_S_S16x64x32x64 : (⟨S_, .f32⟩ : BufTy).Contents (Elt F) → (⟨S16x64x32x64, .f32⟩ : BufTy).Contents (Elt F))
  :: StableHlo.binary main_v129 main_v126 main_v130 (mulf : (⟨S16x64x32x64, .f32⟩ : BufTy).Contents (Elt F) → (⟨S16x64x32x64, .f32⟩ : BufTy).Contents (Elt F) → (⟨S16x64x32x64, .f32⟩ : BufTy).Contents (Elt F))
  :: [] )
/-- Each touches TensorCore references only (`HostSeg.ofOps` over `StableHlo.tcRefs`, or a subset by `sub_ucRefs`). -/
theorem main_part2_ops0_sub : (main_part2_ops0 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
/-- 1 host operation of @_where_0 (main_call5), window 2 (statements 121 … 165), in order. -/
abbrev main_part2_ops1 : List (HloOp τ sig (Elt F)) :=
  [ StableHlo.TRef.ternary (.of main_v128 : StableHlo.TRef sig ⟨S16x64x32x64, .i1⟩) (.of main_v126 : StableHlo.TRef sig ⟨S16x64x32x64, .f32⟩) (.of main_v130 : StableHlo.TRef sig ⟨S16x64x32x64, .f32⟩) (.of main_v131 : StableHlo.TRef sig ⟨S16x64x32x64, .f32⟩) select ]
/-- Each touches TensorCore references only (`HostSeg.ofOps` over `StableHlo.tcRefs`, or a subset by `sub_ucRefs`). -/
theorem main_part2_ops1_sub : (main_part2_ops1 : List (HloOp τ sig (Elt F))).Forall fun op => op.bufs ⊆ StableHlo.tcRefs τ sig :=
  StableHlo.ternary_bufs_sub ..
/-- 7 host operations of @main, window 2 (statements 121 … 165), in order. -/
abbrev main_part2_ops2 : List (HloOp τ sig (Elt F)) :=
  [ StableHlo.reshape main_v131 main_v132 (rfl : (.f32 : EltTy) = .f32) shapeCasts_S16x64x32x64_S16x131072,
    StableHlo.unary main_arg19 main_v133 ((transpose S131072x256 [1, 0] · transposes_S256x131072_S131072x256_1_0) : (⟨S256x131072, .f32⟩ : BufTy).Contents (Elt F) → (⟨S131072x256, .f32⟩ : BufTy).Contents (Elt F)),
    StableHlo.binary main_v132 main_v133 main_v134 ((fun l r => Host.dotGeneral dot_S16x131072_S131072x256_S16x256_1_0_0_1_n_n none l r) : (⟨S16x131072, .f32⟩ : BufTy).Contents (Elt F) → (⟨S131072x256, .f32⟩ : BufTy).Contents (Elt F) → (⟨S16x256, .f32⟩ : BufTy).Contents (Elt F)),
    StableHlo.unary main_arg20 main_v135 (broadcastInDim S1x256 ![1] bcast_S256_S1x256_1 : (⟨S256, .f32⟩ : BufTy).Contents (Elt F) → (⟨S1x256, .f32⟩ : BufTy).Contents (Elt F)),
    StableHlo.unary main_v135 main_v136 (broadcastInDim S16x256 ![0, 1] bcast_S1x256_S16x256_0_1 : (⟨S1x256, .f32⟩ : BufTy).Contents (Elt F) → (⟨S16x256, .f32⟩ : BufTy).Contents (Elt F)),
    StableHlo.binary main_v134 main_v136 main_v137 (addf : (⟨S16x256, .f32⟩ : BufTy).Contents (Elt F) → (⟨S16x256, .f32⟩ : BufTy).Contents (Elt F) → (⟨S16x256, .f32⟩ : BufTy).Contents (Elt F)),
    StableHlo.reshape main_v137 main_v138 (rfl : (.f32 : EltTy) = .f32) shapeCasts_S16x256_S16x8x32 ]
/-- Each touches TensorCore references only (`HostSeg.ofOps` over `StableHlo.tcRefs`, or a subset by `sub_ucRefs`). -/
theorem main_part2_ops2_sub : (main_part2_ops2 : List (HloOp τ sig (Elt F))).Forall fun op => op.bufs ⊆ StableHlo.tcRefs τ sig :=
  ⟨StableHlo.reshape_bufs_sub .., StableHlo.unary_bufs_sub .., StableHlo.binary_bufs_sub .., StableHlo.unary_bufs_sub .., StableHlo.unary_bufs_sub .., StableHlo.binary_bufs_sub .., StableHlo.reshape_bufs_sub ..⟩
/-- The last window of `main` (`main_part2`, statements 121 … 165) is the chain of ITS items, each item aligned with the window's
    statements, then `chain_rfl`. -/
theorem main_part2_chain (c : Dev nD) : main_part2 (F := F) c = (Pipeline.chain
  [ StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part0_ops2,
    StableHlo.seq main_part0_ops3,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1],
    .ops [main_part0_ops2],
    .ops [main_part0_ops3, main_part1_ops0],
    .ops [main_part1_ops1],
    .ops [main_part1_ops2],
    .ops [main_part1_ops3],
    .ops [main_part1_ops4],
    .ops [main_part1_ops5],
    .ops [main_part1_ops6, main_part2_ops0],
    .ops [main_part2_ops1],
    .ops [main_part2_ops2] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part0_ops2,
    StableHlo.seq main_part0_ops3,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 3 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 4 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v2_0 : StableHlo.TRef sig ⟨S64x16x32, .f32⟩) ![(.of main_v2_5 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x16x32, .f32⟩) (fun x i => Host.dynamicSlice S1x16x32 x (fun k => (i k (Shape.Idx.first h_S_)).toInt) sliceFits_S64x16x32_S1x16x32),
    StableHlo.TRef.reshape (.of main_while0b_call0_v0 : StableHlo.TRef sig ⟨S1x16x32, .f32⟩) (.of main_while0b_v139 : StableHlo.TRef sig ⟨S16x32, .f32⟩) (rfl : (.f32 : EltTy) = .f32) shapeCasts_S1x16x32_S16x32 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 48 host operations of host loop 0's body region, in order. -/
abbrev while0Ops0_1 : List (HloOp τ sig (Elt F)) :=
  ( StableHlo.unary main_while0b_v139 main_while0b_v140 (broadcastInDim S16x32x1 ![0, 1] bcast_S16x32_S16x32x1_0_1 : (⟨S16x32, .f32⟩ : BufTy).Contents (Elt F) → (⟨S16x32x1, .f32⟩ : BufTy).Contents (Elt F))
  :: StableHlo.unary main_v2_1 main_while0b_v141 ((transpose S1x192 [1, 0] · transposes_S192x1_S1x192_1_0) : (⟨S192x1, .f32⟩ : BufTy).Contents (Elt F) → (⟨S1x192, .f32⟩ : BufTy).Contents (Elt F))
  :: StableHlo.binary main_while0b_v140 main_while0b_v141 main_while0b_v142 ((fun l r => Host.dotGeneral dot_S16x32x1_S1x192_S16x32x192_2_0_01_1_n_n none l r) : (⟨S16x32x1, .f32⟩ : BufTy).Contents (Elt F) → (⟨S1x192, .f32⟩ : BufTy).Contents (Elt F) → (⟨S16x32x192, .f32⟩ : BufTy).Contents (Elt F))
  :: StableHlo.unary main_v2_2 main_while0b_v143 (broadcastInDim S1x1x192 ![2] bcast_S192_S1x1x192_2 : (⟨S192, .f32⟩ : BufTy).Contents (Elt F) → (⟨S1x1x192, .f32⟩ : BufTy).Contents (Elt F))
  :: StableHlo.unary main_while0b_v143 main_while0b_v144 (broadcastInDim S16x32x192 ![0, 1, 2] bcast_S1x1x192_S16x32x192_0_1_2 : (⟨S1x1x192, .f32⟩ : BufTy).Contents (Elt F) → (⟨S16x32x192, .f32⟩ : BufTy).Contents (Elt F))
  :: StableHlo.binary main_while0b_v142 main_while0b_v144 main_while0b_v145 (addf : (⟨S16x32x192, .f32⟩ : BufTy).Contents (Elt F) → (⟨S16x32x192, .f32⟩ : BufTy).Contents (Elt F) → (⟨S16x32x192, .f32⟩ : BufTy).Contents (Elt F))
  :: StableHlo.unary main_v2_3 main_while0b_v146 ((transpose S64x192 [1, 0] · transposes_S192x64_S64x192_1_0) : (⟨S192x64, .f32⟩ : BufTy).Contents (Elt F) → (⟨S64x192, .f32⟩ : BufTy).Contents (Elt F))
  :: StableHlo.binary main_v2_6 main_while0b_v146 main_while0b_v147 ((fun l r => Host.dotGeneral dot_S16x32x64_S64x192_S16x32x192_2_0_01_1_n_n none l r) : (⟨S16x32x64, .f32⟩ : BufTy).Contents (Elt F) → (⟨S64x192, .f32⟩ : BufTy).Contents (Elt F) → (⟨S16x32x192, .f32⟩ : BufTy).Contents (Elt F))
  :: StableHlo.unary main_v2_4 main_while0b_v148 (broadcastInDim S1x1x192 ![2] bcast_S192_S1x1x192_2 : (⟨S192, .f32⟩ : BufTy).Contents (Elt F) → (⟨S1x1x192, .f32⟩ : BufTy).Contents (Elt F))
  :: StableHlo.unary main_while0b_v148 main_while0b_v149 (broadcastInDim S16x32x192 ![0, 1, 2] bcast_S1x1x192_S16x32x192_0_1_2 : (⟨S1x1x192, .f32⟩ : BufTy).Contents (Elt F) → (⟨S16x32x192, .f32⟩ : BufTy).Contents (Elt F))
  :: StableHlo.binary main_while0b_v147 main_while0b_v149 main_while0b_v150 (addf : (⟨S16x32x192, .f32⟩ : BufTy).Contents (Elt F) → (⟨S16x32x192, .f32⟩ : BufTy).Contents (Elt F) → (⟨S16x32x192, .f32⟩ : BufTy).Contents (Elt F))
  :: StableHlo.unary main_while0b_v145 main_while0b_v151 ((extractStridedSlice S16x32x64 ![0, 0, 0] · slices_S16x32x192_S16x32x64_0_0_0) : (⟨S16x32x192, .f32⟩ : BufTy).Contents (Elt F) → (⟨S16x32x64, .f32⟩ : BufTy).Contents (Elt F))
  :: StableHlo.unary main_while0b_v145 main_while0b_v152 ((extractStridedSlice S16x32x64 ![0, 0, 64] · slices_S16x32x192_S16x32x64_0_0_64) : (⟨S16x32x192, .f32⟩ : BufTy).Contents (Elt F) → (⟨S16x32x64, .f32⟩ : BufTy).Contents (Elt F))
  :: StableHlo.unary main_while0b_v145 main_while0b_v153 ((extractStridedSlice S16x32x64 ![0, 0, 128] · slices_S16x32x192_S16x32x64_0_0_128) : (⟨S16x32x192, .f32⟩ : BufTy).Contents (Elt F) → (⟨S16x32x64, .f32⟩ : BufTy).Contents (Elt F))
  :: StableHlo.unary main_while0b_v150 main_while0b_v154 ((extractStridedSlice S16x32x64 ![0, 0, 0] · slices_S16x32x192_S16x32x64_0_0_0) : (⟨S16x32x192, .f32⟩ : BufTy).Contents (Elt F) → (⟨S16x32x64, .f32⟩ : BufTy).Contents (Elt F))
  :: StableHlo.unary main_while0b_v150 main_while0b_v155 ((extractStridedSlice S16x32x64 ![0, 0, 64] · slices_S16x32x192_S16x32x64_0_0_64) : (⟨S16x32x192, .f32⟩ : BufTy).Contents (Elt F) → (⟨S16x32x64, .f32⟩ : BufTy).Contents (Elt F))
  :: StableHlo.unary main_while0b_v150 main_while0b_v156 ((extractStridedSlice S16x32x64 ![0, 0, 128] · slices_S16x32x192_S16x32x64_0_0_128) : (⟨S16x32x192, .f32⟩ : BufTy).Contents (Elt F) → (⟨S16x32x64, .f32⟩ : BufTy).Contents (Elt F))
  :: StableHlo.binary main_while0b_v151 main_while0b_v154 main_while0b_v157 (addf : (⟨S16x32x64, .f32⟩ : BufTy).Contents (Elt F) → (⟨S16x32x64, .f32⟩ : BufTy).Contents (Elt F) → (⟨S16x32x64, .f32⟩ : BufTy).Contents (Elt F))
  :: StableHlo.unary main_while0b_v157 main_while0b_v158 (Host.negf : (⟨S16x32x64, .f32⟩ : BufTy).Contents (Elt F) → (⟨S16x32x64, .f32⟩ : BufTy).Contents (Elt F))
  :: StableHlo.unary main_while0b_v158 main_while0b_v159 (Host.exp : (⟨S16x32x64, .f32⟩ : BufTy).Contents (Elt F) → (⟨S16x32x64, .f32⟩ : BufTy).Contents (Elt F))
  :: StableHlo.nullary main_while0b_cst_22 (constant S_ .f32 0x3F800000#32)
  :: StableHlo.unary main_while0b_cst_22 main_while0b_v160 (broadcastInDim S16x32x64 ![] bcast_S_S16x32x64 : (⟨S_, .f32⟩ : BufTy).Contents (Elt F) → (⟨S16x32x64, .f32⟩ : BufTy).Contents (Elt F))
  :: StableHlo.binary main_while0b_v160 main_while0b_v159 main_while0b_v161 (addf : (⟨S16x32x64, .f32⟩ : BufTy).Contents (Elt F) → (⟨S16x32x64, .f32⟩ : BufTy).Contents (Elt F) → (⟨S16x32x64, .f32⟩ : BufTy).Contents (Elt F))
  :: StableHlo.nullary main_while0b_cst_23 (constant S_ .f32 0x3F800000#32)
  :: StableHlo.unary main_while0b_cst_23 main_while0b_v162 (broadcastInDim S16x32x64 ![] bcast_S_S16x32x64 : (⟨S_, .f32⟩ : BufTy).Contents (Elt F) → (⟨S16x32x64, .f32⟩ : BufTy).Contents (Elt F))
  :: StableHlo.binary main_while0b_v162 main_while0b_v161 main_while0b_v163 (Host.divf : (⟨S16x32x64, .f32⟩ : BufTy).Contents (Elt F) → (⟨S16x32x64, .f32⟩ : BufTy).Contents (Elt F) → (⟨S16x32x64, .f32⟩ : BufTy).Contents (Elt F))
  :: StableHlo.binary main_while0b_v152 main_while0b_v155 main_while0b_v164 (addf : (⟨S16x32x64, .f32⟩ : BufTy).Contents (Elt F) → (⟨S16x32x64, .f32⟩ : BufTy).Contents (Elt F) → (⟨S16x32x64, .f32⟩ : BufTy).Contents (Elt F))
  :: StableHlo.unary main_while0b_v164 main_while0b_v165 (Host.negf : (⟨S16x32x64, .f32⟩ : BufTy).Contents (Elt F) → (⟨S16x32x64, .f32⟩ : BufTy).Contents (Elt F))
  :: StableHlo.unary main_while0b_v165 main_while0b_v166 (Host.exp : (⟨S16x32x64, .f32⟩ : BufTy).Contents (Elt F) → (⟨S16x32x64, .f32⟩ : BufTy).Contents (Elt F))
  :: StableHlo.nullary main_while0b_cst_24 (constant S_ .f32 0x3F800000#32)
  :: StableHlo.unary main_while0b_cst_24 main_while0b_v167 (broadcastInDim S16x32x64 ![] bcast_S_S16x32x64 : (⟨S_, .f32⟩ : BufTy).Contents (Elt F) → (⟨S16x32x64, .f32⟩ : BufTy).Contents (Elt F))
  :: StableHlo.binary main_while0b_v167 main_while0b_v166 main_while0b_v168 (addf : (⟨S16x32x64, .f32⟩ : BufTy).Contents (Elt F) → (⟨S16x32x64, .f32⟩ : BufTy).Contents (Elt F) → (⟨S16x32x64, .f32⟩ : BufTy).Contents (Elt F))
  :: StableHlo.nullary main_while0b_cst_25 (constant S_ .f32 0x3F800000#32)
  :: StableHlo.unary main_while0b_cst_25 main_while0b_v169 (broadcastInDim S16x32x64 ![] bcast_S_S16x32x64 : (⟨S_, .f32⟩ : BufTy).Contents (Elt F) → (⟨S16x32x64, .f32⟩ : BufTy).Contents (Elt F))
  :: StableHlo.binary main_while0b_v169 main_while0b_v168 main_while0b_v170 (Host.divf : (⟨S16x32x64, .f32⟩ : BufTy).Contents (Elt F) → (⟨S16x32x64, .f32⟩ : BufTy).Contents (Elt F) → (⟨S16x32x64, .f32⟩ : BufTy).Contents (Elt F))
  :: StableHlo.binary main_while0b_v163 main_while0b_v156 main_while0b_v171 (mulf : (⟨S16x32x64, .f32⟩ : BufTy).Contents (Elt F) → (⟨S16x32x64, .f32⟩ : BufTy).Contents (Elt F) → (⟨S16x32x64, .f32⟩ : BufTy).Contents (Elt F))
  :: StableHlo.binary main_while0b_v153 main_while0b_v171 main_while0b_v172 (addf : (⟨S16x32x64, .f32⟩ : BufTy).Contents (Elt F) → (⟨S16x32x64, .f32⟩ : BufTy).Contents (Elt F) → (⟨S16x32x64, .f32⟩ : BufTy).Contents (Elt F))
  :: StableHlo.unary main_while0b_v172 main_while0b_v173 (Host.tanh : (⟨S16x32x64, .f32⟩ : BufTy).Contents (Elt F) → (⟨S16x32x64, .f32⟩ : BufTy).Contents (Elt F))
  :: StableHlo.nullary main_while0b_cst_26 (constant S_ .f32 0x3F800000#32)
  :: StableHlo.unary main_while0b_cst_26 main_while0b_v174 (broadcastInDim S16x32x64 ![] bcast_S_S16x32x64 : (⟨S_, .f32⟩ : BufTy).Contents (Elt F) → (⟨S16x32x64, .f32⟩ : BufTy).Contents (Elt F))
  :: StableHlo.binary main_while0b_v174 main_while0b_v170 main_while0b_v175 (subf : (⟨S16x32x64, .f32⟩ : BufTy).Contents (Elt F) → (⟨S16x32x64, .f32⟩ : BufTy).Contents (Elt F) → (⟨S16x32x64, .f32⟩ : BufTy).Contents (Elt F))
  :: StableHlo.binary main_while0b_v175 main_while0b_v173 main_while0b_v176 (mulf : (⟨S16x32x64, .f32⟩ : BufTy).Contents (Elt F) → (⟨S16x32x64, .f32⟩ : BufTy).Contents (Elt F) → (⟨S16x32x64, .f32⟩ : BufTy).Contents (Elt F))
  :: StableHlo.binary main_while0b_v170 main_v2_6 main_while0b_v177 (mulf : (⟨S16x32x64, .f32⟩ : BufTy).Contents (Elt F) → (⟨S16x32x64, .f32⟩ : BufTy).Contents (Elt F) → (⟨S16x32x64, .f32⟩ : BufTy).Contents (Elt F))
  :: StableHlo.binary main_while0b_v176 main_while0b_v177 main_while0b_v178 (addf : (⟨S16x32x64, .f32⟩ : BufTy).Contents (Elt F) → (⟨S16x32x64, .f32⟩ : BufTy).Contents (Elt F) → (⟨S16x32x64, .f32⟩ : BufTy).Contents (Elt F))
  :: StableHlo.nullary main_while0b_c_27 (constantI S_ 32 1#32)
  :: StableHlo.binary main_v2_5 main_while0b_c_27 main_while0b_v179 (addi : (⟨S_, .i32⟩ : BufTy).Contents (Elt F) → (⟨S_, .i32⟩ : BufTy).Contents (Elt F) → (⟨S_, .i32⟩ : BufTy).Contents (Elt F))
  :: StableHlo.unary main_while0b_v179 main_v2_5 id
  :: StableHlo.unary main_while0b_v178 main_v2_6 id
  :: [] )
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons]
  chain_rfl

end Cert.ReferenceIdeal.Gen

end
-- ==== Proof.Own.RFold.lean ====
module

public import proofs.«01_k».proof.Proof.Own.RChain

@[expose] public section

set_option maxRecDepth 1472

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_cst, main_v1, main_c, main_v2_0, main_v2_1, main_v2_2, main_v2_3, main_v2_4, main_v2_5, main_v2_6]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_c, main_while0b_call0_c_0, main_while0b_call0_v0, main_while0b_v139]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_v140, main_while0b_v141, main_while0b_v142, main_while0b_v143, main_while0b_v144, main_while0b_v145, main_while0b_v146, main_while0b_v147, main_while0b_v148, main_while0b_v149, main_while0b_v150, main_while0b_v151, main_while0b_v152, main_while0b_v153, main_while0b_v154, main_while0b_v155, main_while0b_v156, main_while0b_v157, main_while0b_v158, main_while0b_v159, main_while0b_cst_22, main_while0b_v160, main_while0b_v161, main_while0b_cst_23, main_while0b_v162, main_while0b_v163, main_while0b_v164, main_while0b_v165, main_while0b_v166, main_while0b_cst_24, main_while0b_v167, main_while0b_v168, main_while0b_cst_25, main_while0b_v169, main_while0b_v170, main_while0b_v171, main_while0b_v172, main_while0b_v173, main_while0b_cst_26, main_while0b_v174, main_while0b_v175, main_while0b_v176, main_while0b_v177, main_while0b_v178, main_while0b_c_27, main_while0b_v179, main_v2_5, main_v2_6]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl
/-- No operation of `hostOps0_7` allocates a buffer. -/
theorem hostOps0_7_fresh : (hostOps0_7 : List (HloOp τ sig (Elt F))).Forall fun op => op.fresh = ∅ :=
  StableHlo.forall_fresh_of_map rfl
/-- No operation of `hostOps0_8` allocates a buffer. -/
theorem hostOps0_8_fresh : (hostOps0_8 : List (HloOp τ sig (Elt F))).Forall fun op => op.fresh = ∅ :=
  StableHlo.forall_fresh_of_map rfl
/-- No operation of `hostOps0_9` allocates a buffer. -/
theorem hostOps0_9_fresh : (hostOps0_9 : List (HloOp τ sig (Elt F))).Forall fun op => op.fresh = ∅ :=
  StableHlo.forall_fresh_of_map rfl
/-- No operation of `hostOps0_10` allocates a buffer. -/
theorem hostOps0_10_fresh : (hostOps0_10 : List (HloOp τ sig (Elt F))).Forall fun op => op.fresh = ∅ :=
  StableHlo.forall_fresh_of_map rfl
/-- No operation of `hostOps0_11` allocates a buffer. -/
theorem hostOps0_11_fresh : (hostOps0_11 : List (HloOp τ sig (Elt F))).Forall fun op => op.fresh = ∅ :=
  StableHlo.forall_fresh_of_map rfl
/-- The reference each operation of `hostOps0_1` writes, in order. -/
abbrev hostOps0_1_W : List (Ref sig .tc) := [main_v3, main_v4, main_v5, main_v6, main_v7, main_v8, main_v9, main_v10, main_v11, main_v12, main_v13, main_v14, main_cst_0, main_v15, main_v16, main_v17, main_cst_1, main_v18, main_cst_2, main_v19, main_v20, main_v21, main_v22, main_v23, main_v24, main_cst_3, main_v25, main_v26, main_v27, main_v28, main_cst_4, main_v29, main_cst_5, main_v30, main_v31, main_v32, main_cst_6, main_v33, main_v34, main_cst_7]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call1_v0, main_call1_v1, main_v35]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_v36, main_v37, main_v38, main_v39, main_v40, main_v41, main_v42, main_v43, main_v44, main_v45, main_v46, main_v47, main_v48, main_v49, main_v50, main_v51, main_v52, main_v53, main_v54, main_v55, main_v56, main_c_8]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call2_v0, main_v57]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The reference each operation of `hostOps0_5` writes, in order. -/
abbrev hostOps0_5_W : List (Ref sig .tc) := [main_v58, main_v59, main_v60, main_v61, main_v62, main_cst_9, main_v63, main_v64, main_v65, main_v66, main_v67, main_v68, main_v69, main_v70, main_v71, main_v72, main_v73, main_v74, main_v75, main_v76, main_v77, main_v78, main_v79, main_cst_10, main_v80, main_v81, main_cst_11, main_v82, main_v83]
theorem hostOps0_5_writes : (hostOps0_5 : List (HloOp τ sig (Elt F))).Forall fun op => op.writes ⊆ (hostOps0_5_W.map (Proc.devRef (τ := τ) .tc)).toFinset :=
  StableHlo.forall_writes_sub_of_map rfl
/-- The reference each operation of `hostOps0_6` writes, in order. -/
abbrev hostOps0_6_W : List (Ref sig .tc) := [main_v84]
theorem hostOps0_6_writes : (hostOps0_6 : List (HloOp τ sig (Elt F))).Forall fun op => op.writes ⊆ (hostOps0_6_W.map (Proc.devRef (τ := τ) .tc)).toFinset :=
  StableHlo.forall_writes_sub_of_map rfl
/-- The reference each operation of `hostOps0_7` writes, in order. -/
abbrev hostOps0_7_W : List (Ref sig .tc) := [main_v85, main_v86, main_v87, main_v88, main_v89, main_v90, main_v91, main_c_12]
theorem hostOps0_7_writes : (hostOps0_7 : List (HloOp τ sig (Elt F))).Forall fun op => op.writes ⊆ (hostOps0_7_W.map (Proc.devRef (τ := τ) .tc)).toFinset :=
  StableHlo.forall_writes_sub_of_map rfl
/-- The reference each operation of `hostOps0_8` writes, in order. -/
abbrev hostOps0_8_W : List (Ref sig .tc) := [main_call4_v0, main_v92]
theorem hostOps0_8_writes : (hostOps0_8 : List (HloOp τ sig (Elt F))).Forall fun op => op.writes ⊆ (hostOps0_8_W.map (Proc.devRef (τ := τ) .tc)).toFinset :=
  StableHlo.forall_writes_sub_of_map rfl
/-- The reference each operation of `hostOps0_9` writes, in order. -/
abbrev hostOps0_9_W : List (Ref sig .tc) := [main_v93, main_v94, main_v95, main_v96, main_v97, main_cst_13, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_cst_14, main_v127, main_v128, main_cst_15, main_v129, main_v130]
theorem hostOps0_9_writes : (hostOps0_9 : List (HloOp τ sig (Elt F))).Forall fun op => op.writes ⊆ (hostOps0_9_W.map (Proc.devRef (τ := τ) .tc)).toFinset :=
  StableHlo.forall_writes_sub_of_map rfl
/-- The reference each operation of `hostOps0_10` writes, in order. -/
abbrev hostOps0_10_W : List (Ref sig .tc) := [main_v131]
theorem hostOps0_10_writes : (hostOps0_10 : List (HloOp τ sig (Elt F))).Forall fun op => op.writes ⊆ (hostOps0_10_W.map (Proc.devRef (τ := τ) .tc)).toFinset :=
  StableHlo.forall_writes_sub_of_map rfl
/-- The reference each operation of `hostOps0_11` writes, in order. -/
abbrev hostOps0_11_W : List (Ref sig .tc) := [main_v132, main_v133, main_v134, main_v135, main_v136, main_v137, main_v138]
theorem hostOps0_11_writes : (hostOps0_11 : List (HloOp τ sig (Elt F))).Forall fun op => op.writes ⊆ (hostOps0_11_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_22 (constantI S_ 32 64#32),
    StableHlo.binary main_v2_5 main_while0c_c_22 main_while0c_v139 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1]
abbrev postI : List (List (HloOp τ sig (Elt F))) := [hostOps0_1, hostOps0_2, hostOps0_3, hostOps0_4, hostOps0_5, hostOps0_6, hostOps0_7, hostOps0_8, hostOps0_9, hostOps0_10, hostOps0_11]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.nil))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.cons hostOps0_11_sub (hf := List.forall_iff_forall_mem.mp hostOps0_11_fresh) (.nil)))))))))))

/-- The reference each operation of `condOps` writes, in order. -/
abbrev condOps_W : List (Ref sig .tc) := [main_while0c_c_22, main_while0c_v139]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v2_5`) is written by one stretch of the body, `while0Ops0_1`: not by the condition, nor by the
    body's other stretches. -/
theorem ctr_cond (V : Valuation τ sig (Elt F)) : after condOps V (Proc.devRef .tc main_v2_5) = V (Proc.devRef .tc main_v2_5) :=
  after_of_writes_sub condOps V condOps_writes (by decide +kernel)
theorem ctr_while0Ops0 (V : Valuation τ sig (Elt F)) : after while0Ops0 V (Proc.devRef .tc main_v2_5) = V (Proc.devRef .tc main_v2_5) :=
  after_of_writes_sub while0Ops0 V while0Ops0_writes (by decide +kernel)

/-- The body's operations 1 … 3 of 52. -/
abbrev trip_w0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v2_0 : StableHlo.TRef sig ⟨S64x16x32, .f32⟩) ![(.of main_v2_5 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x16x32, .f32⟩) (fun x i => Host.dynamicSlice S1x16x32 x (fun k => (i k (Shape.Idx.first h_S_)).toInt) sliceFits_S64x16x32_S1x16x32) ]

/-- The body's operations 4 … 4 of 52. -/
abbrev trip_w1 : List (HloOp τ sig (Elt F)) :=
  [ StableHlo.TRef.reshape (.of main_while0b_call0_v0 : StableHlo.TRef sig ⟨S1x16x32, .f32⟩) (.of main_while0b_v139 : StableHlo.TRef sig ⟨S16x32, .f32⟩) (rfl : (.f32 : EltTy) = .f32) shapeCasts_S1x16x32_S16x32 ]

/-- The body's operations 5 … 28 of 52. -/
abbrev trip_w2 : List (HloOp τ sig (Elt F)) :=
  [ StableHlo.unary main_while0b_v139 main_while0b_v140 (broadcastInDim S16x32x1 ![0, 1] bcast_S16x32_S16x32x1_0_1 : (⟨S16x32, .f32⟩ : BufTy).Contents (Elt F) → (⟨S16x32x1, .f32⟩ : BufTy).Contents (Elt F)),
    StableHlo.unary main_v2_1 main_while0b_v141 ((transpose S1x192 [1, 0] · transposes_S192x1_S1x192_1_0) : (⟨S192x1, .f32⟩ : BufTy).Contents (Elt F) → (⟨S1x192, .f32⟩ : BufTy).Contents (Elt F)),
    StableHlo.binary main_while0b_v140 main_while0b_v141 main_while0b_v142 ((fun l r => Host.dotGeneral dot_S16x32x1_S1x192_S16x32x192_2_0_01_1_n_n none l r) : (⟨S16x32x1, .f32⟩ : BufTy).Contents (Elt F) → (⟨S1x192, .f32⟩ : BufTy).Contents (Elt F) → (⟨S16x32x192, .f32⟩ : BufTy).Contents (Elt F)),
    StableHlo.unary main_v2_2 main_while0b_v143 (broadcastInDim S1x1x192 ![2] bcast_S192_S1x1x192_2 : (⟨S192, .f32⟩ : BufTy).Contents (Elt F) → (⟨S1x1x192, .f32⟩ : BufTy).Contents (Elt F)),
    StableHlo.unary main_while0b_v143 main_while0b_v144 (broadcastInDim S16x32x192 ![0, 1, 2] bcast_S1x1x192_S16x32x192_0_1_2 : (⟨S1x1x192, .f32⟩ : BufTy).Contents (Elt F) → (⟨S16x32x192, .f32⟩ : BufTy).Contents (Elt F)),
    StableHlo.binary main_while0b_v142 main_while0b_v144 main_while0b_v145 (addf : (⟨S16x32x192, .f32⟩ : BufTy).Contents (Elt F) → (⟨S16x32x192, .f32⟩ : BufTy).Contents (Elt F) → (⟨S16x32x192, .f32⟩ : BufTy).Contents (Elt F)),
    StableHlo.unary main_v2_3 main_while0b_v146 ((transpose S64x192 [1, 0] · transposes_S192x64_S64x192_1_0) : (⟨S192x64, .f32⟩ : BufTy).Contents (Elt F) → (⟨S64x192, .f32⟩ : BufTy).Contents (Elt F)),
    StableHlo.binary main_v2_6 main_while0b_v146 main_while0b_v147 ((fun l r => Host.dotGeneral dot_S16x32x64_S64x192_S16x32x192_2_0_01_1_n_n none l r) : (⟨S16x32x64, .f32⟩ : BufTy).Contents (Elt F) → (⟨S64x192, .f32⟩ : BufTy).Contents (Elt F) → (⟨S16x32x192, .f32⟩ : BufTy).Contents (Elt F)),
    StableHlo.unary main_v2_4 main_while0b_v148 (broadcastInDim S1x1x192 ![2] bcast_S192_S1x1x192_2 : (⟨S192, .f32⟩ : BufTy).Contents (Elt F) → (⟨S1x1x192, .f32⟩ : BufTy).Contents (Elt F)),
    StableHlo.unary main_while0b_v148 main_while0b_v149 (broadcastInDim S16x32x192 ![0, 1, 2] bcast_S1x1x192_S16x32x192_0_1_2 : (⟨S1x1x192, .f32⟩ : BufTy).Contents (Elt F) → (⟨S16x32x192, .f32⟩ : BufTy).Contents (Elt F)),
    StableHlo.binary main_while0b_v147 main_while0b_v149 main_while0b_v150 (addf : (⟨S16x32x192, .f32⟩ : BufTy).Contents (Elt F) → (⟨S16x32x192, .f32⟩ : BufTy).Contents (Elt F) → (⟨S16x32x192, .f32⟩ : BufTy).Contents (Elt F)),
    StableHlo.unary main_while0b_v145 main_while0b_v151 ((extractStridedSlice S16x32x64 ![0, 0, 0] · slices_S16x32x192_S16x32x64_0_0_0) : (⟨S16x32x192, .f32⟩ : BufTy).Contents (Elt F) → (⟨S16x32x64, .f32⟩ : BufTy).Contents (Elt F)),
    StableHlo.unary main_while0b_v145 main_while0b_v152 ((extractStridedSlice S16x32x64 ![0, 0, 64] · slices_S16x32x192_S16x32x64_0_0_64) : (⟨S16x32x192, .f32⟩ : BufTy).Contents (Elt F) → (⟨S16x32x64, .f32⟩ : BufTy).Contents (Elt F)),
    StableHlo.unary main_while0b_v145 main_while0b_v153 ((extractStridedSlice S16x32x64 ![0, 0, 128] · slices_S16x32x192_S16x32x64_0_0_128) : (⟨S16x32x192, .f32⟩ : BufTy).Contents (Elt F) → (⟨S16x32x64, .f32⟩ : BufTy).Contents (Elt F)),
    StableHlo.unary main_while0b_v150 main_while0b_v154 ((extractStridedSlice S16x32x64 ![0, 0, 0] · slices_S16x32x192_S16x32x64_0_0_0) : (⟨S16x32x192, .f32⟩ : BufTy).Contents (Elt F) → (⟨S16x32x64, .f32⟩ : BufTy).Contents (Elt F)),
    StableHlo.unary main_while0b_v150 main_while0b_v155 ((extractStridedSlice S16x32x64 ![0, 0, 64] · slices_S16x32x192_S16x32x64_0_0_64) : (⟨S16x32x192, .f32⟩ : BufTy).Contents (Elt F) → (⟨S16x32x64, .f32⟩ : BufTy).Contents (Elt F)),
    StableHlo.unary main_while0b_v150 main_while0b_v156 ((extractStridedSlice S16x32x64 ![0, 0, 128] · slices_S16x32x192_S16x32x64_0_0_128) : (⟨S16x32x192, .f32⟩ : BufTy).Contents (Elt F) → (⟨S16x32x64, .f32⟩ : BufTy).Contents (Elt F)),
    StableHlo.binary main_while0b_v151 main_while0b_v154 main_while0b_v157 (addf : (⟨S16x32x64, .f32⟩ : BufTy).Contents (Elt F) → (⟨S16x32x64, .f32⟩ : BufTy).Contents (Elt F) → (⟨S16x32x64, .f32⟩ : BufTy).Contents (Elt F)),
    StableHlo.unary main_while0b_v157 main_while0b_v158 (Host.negf : (⟨S16x32x64, .f32⟩ : BufTy).Contents (Elt F) → (⟨S16x32x64, .f32⟩ : BufTy).Contents (Elt F)),
    StableHlo.unary main_while0b_v158 main_while0b_v159 (Host.exp : (⟨S16x32x64, .f32⟩ : BufTy).Contents (Elt F) → (⟨S16x32x64, .f32⟩ : BufTy).Contents (Elt F)),
    StableHlo.nullary main_while0b_cst_22 (constant S_ .f32 0x3F800000#32),
    StableHlo.unary main_while0b_cst_22 main_while0b_v160 (broadcastInDim S16x32x64 ![] bcast_S_S16x32x64 : (⟨S_, .f32⟩ : BufTy).Contents (Elt F) → (⟨S16x32x64, .f32⟩ : BufTy).Contents (Elt F)),
    StableHlo.binary main_while0b_v160 main_while0b_v159 main_while0b_v161 (addf : (⟨S16x32x64, .f32⟩ : BufTy).Contents (Elt F) → (⟨S16x32x64, .f32⟩ : BufTy).Contents (Elt F) → (⟨S16x32x64, .f32⟩ : BufTy).Contents (Elt F)),
    StableHlo.nullary main_while0b_cst_23 (constant S_ .f32 0x3F800000#32) ]

/-- The body's operations 29 … 48 of 52. -/
abbrev trip_w3 : List (HloOp τ sig (Elt F)) :=
  [ StableHlo.unary main_while0b_cst_23 main_while0b_v162 (broadcastInDim S16x32x64 ![] bcast_S_S16x32x64 : (⟨S_, .f32⟩ : BufTy).Contents (Elt F) → (⟨S16x32x64, .f32⟩ : BufTy).Contents (Elt F)),
    StableHlo.binary main_while0b_v162 main_while0b_v161 main_while0b_v163 (Host.divf : (⟨S16x32x64, .f32⟩ : BufTy).Contents (Elt F) → (⟨S16x32x64, .f32⟩ : BufTy).Contents (Elt F) → (⟨S16x32x64, .f32⟩ : BufTy).Contents (Elt F)),
    StableHlo.binary main_while0b_v152 main_while0b_v155 main_while0b_v164 (addf : (⟨S16x32x64, .f32⟩ : BufTy).Contents (Elt F) → (⟨S16x32x64, .f32⟩ : BufTy).Contents (Elt F) → (⟨S16x32x64, .f32⟩ : BufTy).Contents (Elt F)),
    StableHlo.unary main_while0b_v164 main_while0b_v165 (Host.negf : (⟨S16x32x64, .f32⟩ : BufTy).Contents (Elt F) → (⟨S16x32x64, .f32⟩ : BufTy).Contents (Elt F)),
    StableHlo.unary main_while0b_v165 main_while0b_v166 (Host.exp : (⟨S16x32x64, .f32⟩ : BufTy).Contents (Elt F) → (⟨S16x32x64, .f32⟩ : BufTy).Contents (Elt F)),
    StableHlo.nullary main_while0b_cst_24 (constant S_ .f32 0x3F800000#32),
    StableHlo.unary main_while0b_cst_24 main_while0b_v167 (broadcastInDim S16x32x64 ![] bcast_S_S16x32x64 : (⟨S_, .f32⟩ : BufTy).Contents (Elt F) → (⟨S16x32x64, .f32⟩ : BufTy).Contents (Elt F)),
    StableHlo.binary main_while0b_v167 main_while0b_v166 main_while0b_v168 (addf : (⟨S16x32x64, .f32⟩ : BufTy).Contents (Elt F) → (⟨S16x32x64, .f32⟩ : BufTy).Contents (Elt F) → (⟨S16x32x64, .f32⟩ : BufTy).Contents (Elt F)),
    StableHlo.nullary main_while0b_cst_25 (constant S_ .f32 0x3F800000#32),
    StableHlo.unary main_while0b_cst_25 main_while0b_v169 (broadcastInDim S16x32x64 ![] bcast_S_S16x32x64 : (⟨S_, .f32⟩ : BufTy).Contents (Elt F) → (⟨S16x32x64, .f32⟩ : BufTy).Contents (Elt F)),
    StableHlo.binary main_while0b_v169 main_while0b_v168 main_while0b_v170 (Host.divf : (⟨S16x32x64, .f32⟩ : BufTy).Contents (Elt F) → (⟨S16x32x64, .f32⟩ : BufTy).Contents (Elt F) → (⟨S16x32x64, .f32⟩ : BufTy).Contents (Elt F)),
    StableHlo.binary main_while0b_v163 main_while0b_v156 main_while0b_v171 (mulf : (⟨S16x32x64, .f32⟩ : BufTy).Contents (Elt F) → (⟨S16x32x64, .f32⟩ : BufTy).Contents (Elt F) → (⟨S16x32x64, .f32⟩ : BufTy).Contents (Elt F)),
    StableHlo.binary main_while0b_v153 main_while0b_v171 main_while0b_v172 (addf : (⟨S16x32x64, .f32⟩ : BufTy).Contents (Elt F) → (⟨S16x32x64, .f32⟩ : BufTy).Contents (Elt F) → (⟨S16x32x64, .f32⟩ : BufTy).Contents (Elt F)),
    StableHlo.unary main_while0b_v172 main_while0b_v173 (Host.tanh : (⟨S16x32x64, .f32⟩ : BufTy).Contents (Elt F) → (⟨S16x32x64, .f32⟩ : BufTy).Contents (Elt F)),
    StableHlo.nullary main_while0b_cst_26 (constant S_ .f32 0x3F800000#32),
    StableHlo.unary main_while0b_cst_26 main_while0b_v174 (broadcastInDim S16x32x64 ![] bcast_S_S16x32x64 : (⟨S_, .f32⟩ : BufTy).Contents (Elt F) → (⟨S16x32x64, .f32⟩ : BufTy).Contents (Elt F)),
    StableHlo.binary main_while0b_v174 main_while0b_v170 main_while0b_v175 (subf : (⟨S16x32x64, .f32⟩ : BufTy).Contents (Elt F) → (⟨S16x32x64, .f32⟩ : BufTy).Contents (Elt F) → (⟨S16x32x64, .f32⟩ : BufTy).Contents (Elt F)),
    StableHlo.binary main_while0b_v175 main_while0b_v173 main_while0b_v176 (mulf : (⟨S16x32x64, .f32⟩ : BufTy).Contents (Elt F) → (⟨S16x32x64, .f32⟩ : BufTy).Contents (Elt F) → (⟨S16x32x64, .f32⟩ : BufTy).Contents (Elt F)),
    StableHlo.binary main_while0b_v170 main_v2_6 main_while0b_v177 (mulf : (⟨S16x32x64, .f32⟩ : BufTy).Contents (Elt F) → (⟨S16x32x64, .f32⟩ : BufTy).Contents (Elt F) → (⟨S16x32x64, .f32⟩ : BufTy).Contents (Elt F)),
    StableHlo.binary main_while0b_v176 main_while0b_v177 main_while0b_v178 (addf : (⟨S16x32x64, .f32⟩ : BufTy).Contents (Elt F) → (⟨S16x32x64, .f32⟩ : BufTy).Contents (Elt F) → (⟨S16x32x64, .f32⟩ : BufTy).Contents (Elt F)) ]

/-- The body's operations 49 … 52 of 52: the counter's step and the copies back into the carried buffers. -/
abbrev while0Ops0_1_step : List (HloOp τ sig (Elt F)) :=
  [ StableHlo.nullary main_while0b_c_27 (constantI S_ 32 1#32),
    StableHlo.binary main_v2_5 main_while0b_c_27 main_while0b_v179 (addi : (⟨S_, .i32⟩ : BufTy).Contents (Elt F) → (⟨S_, .i32⟩ : BufTy).Contents (Elt F) → (⟨S_, .i32⟩ : BufTy).Contents (Elt F)),
    StableHlo.unary main_while0b_v179 main_v2_5 id,
    StableHlo.unary main_while0b_v178 main_v2_6 id ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order, then the step. -/
theorem while0Ops0_1_cut : (while0Ops0_1 : List (HloOp τ sig (Elt F))) = trip_w2 ++ (trip_w3 ++ (while0Ops0_1_step)) := rfl

/-- The buffers that window `trip_w0`'s operations write. -/
abbrev trip_w0_W : List (Ref sig .tc) := [main_while0b_call0_c, main_while0b_call0_c_0, main_while0b_call0_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_v139]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w2`'s operations write. -/
abbrev trip_w2_W : List (Ref sig .tc) := [main_while0b_v140, main_while0b_v141, main_while0b_v142, main_while0b_v143, main_while0b_v144, main_while0b_v145, main_while0b_v146, main_while0b_v147, main_while0b_v148, main_while0b_v149, main_while0b_v150, main_while0b_v151, main_while0b_v152, main_while0b_v153, main_while0b_v154, main_while0b_v155, main_while0b_v156, main_while0b_v157, main_while0b_v158, main_while0b_v159, main_while0b_cst_22, main_while0b_v160, main_while0b_v161, main_while0b_cst_23]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_v162, main_while0b_v163, main_while0b_v164, main_while0b_v165, main_while0b_v166, main_while0b_cst_24, main_while0b_v167, main_while0b_v168, main_while0b_cst_25, main_while0b_v169, main_while0b_v170, main_while0b_v171, main_while0b_v172, main_while0b_v173, main_while0b_cst_26, main_while0b_v174, main_while0b_v175, main_while0b_v176, main_while0b_v177, main_while0b_v178]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w2 (V : Valuation τ sig (Elt F)) : after trip_w2 V (Proc.devRef .tc main_v2_5) = V (Proc.devRef .tc main_v2_5) :=
  after_of_writes_sub trip_w2 V trip_w2_writes (by decide +kernel)
theorem ctr_trip_w3 (V : Valuation τ sig (Elt F)) : after trip_w3 V (Proc.devRef .tc main_v2_5) = V (Proc.devRef .tc main_v2_5) :=
  after_of_writes_sub trip_w3 V trip_w3_writes (by decide +kernel)

set_option maxRecDepth 100000 in
/-- `while0Ops0_1_step` leaves the counter one step on. -/
theorem ctr_while0Ops0_1_step (Y : Valuation τ sig (Elt F)) :
    after while0Ops0_1_step Y (Proc.devRef .tc main_v2_5) = addi (Y (Proc.devRef .tc main_v2_5)) (constantI S_ 32 1#32) := by
  after_results
  rfl

set_option maxRecDepth 100000 in
/-- `while0Ops0_1` leaves the counter one step on: its windows do not write the counter, and `while0Ops0_1_step` steps it. -/
theorem ctr_step (X : Valuation τ sig (Elt F)) :
    after while0Ops0_1 X (Proc.devRef .tc main_v2_5) = addi (X (Proc.devRef .tc main_v2_5)) (constantI S_ 32 1#32) := by
  simp only [while0Ops0_1_cut, after_append]
  rw [ctr_while0Ops0_1_step, ctr_trip_w3, ctr_trip_w2]

/-- The counter is the loop's lower bound at the loop's entry: its last writer before the loop read back. -/
theorem ctr_entry (c : Dev nD) : entryContents preI m c (Proc.devRef .tc main_v2_5) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v2_5) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 64 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v2_5 HostLoop.idx0)
        (HloOp.result _ (atK m k c) main_while0c_c_22 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 64 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 64 m ρ (cond_spec m)

end Cert.ReferenceIdeal.Value

end
-- ==== Proof.Own.RTrip.lean ====
module

public import proofs.«01_k».proof.Proof.Own.RFold

@[expose] public section

set_option maxRecDepth 1472

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]
/-! ## One trip's values -/

set_option maxRecDepth 8192 in
/-- `main_while0b_v145`'s composed term of the carried buffers (named: it is used 3 times). -/
def res_main_while0b_v145 (V0 : Valuation τ sig (Elt F)) : (Proc.devRef .tc main_while0b_v145 : DevRef τ sig).ty.Contents (Elt F) :=
  addf (Host.dotGeneral dot_S16x32x1_S1x192_S16x32x192_2_0_01_1_n_n none (broadcastInDim S16x32x1 ![0, 1] bcast_S16x32_S16x32x1_0_1 (shapeCast S16x32 (Host.dynamicSlice S1x16x32 (V0 (Proc.devRef .tc main_v2_0)) (fun k => (((![V0 (Proc.devRef .tc main_v2_5), constantI S_ 32 0#32, constantI S_ 32 0#32] : Fin 3 → (⟨S_, .i32⟩ : BufTy).Contents (Elt F))) k (Shape.Idx.first h_S_)).toInt) sliceFits_S64x16x32_S1x16x32) shapeCasts_S1x16x32_S16x32)) (transpose S1x192 [1, 0] (V0 (Proc.devRef .tc main_v2_1)) transposes_S192x1_S1x192_1_0)) (broadcastInDim S16x32x192 ![0, 1, 2] bcast_S1x1x192_S16x32x192_0_1_2 (broadcastInDim S1x1x192 ![2] bcast_S192_S1x1x192_2 (V0 (Proc.devRef .tc main_v2_2))))

set_option maxRecDepth 8192 in
/-- `main_while0b_v150`'s composed term of the carried buffers (named: it is used 3 times). -/
def res_main_while0b_v150 (V0 : Valuation τ sig (Elt F)) : (Proc.devRef .tc main_while0b_v150 : DevRef τ sig).ty.Contents (Elt F) :=
  addf (Host.dotGeneral dot_S16x32x64_S64x192_S16x32x192_2_0_01_1_n_n none (V0 (Proc.devRef .tc main_v2_6)) (transpose S64x192 [1, 0] (V0 (Proc.devRef .tc main_v2_3)) transposes_S192x64_S64x192_1_0)) (broadcastInDim S16x32x192 ![0, 1, 2] bcast_S1x1x192_S16x32x192_0_1_2 (broadcastInDim S1x1x192 ![2] bcast_S192_S1x1x192_2 (V0 (Proc.devRef .tc main_v2_4))))

set_option maxRecDepth 8192 in
/-- `main_while0b_v170`'s composed term of the carried buffers (named: it is used 2 times). -/
def res_main_while0b_v170 (V0 : Valuation τ sig (Elt F)) : (Proc.devRef .tc main_while0b_v170 : DevRef τ sig).ty.Contents (Elt F) :=
  Host.divf (broadcastInDim S16x32x64 ![] bcast_S_S16x32x64 (constant S_ .f32 0x3F800000#32)) (addf (broadcastInDim S16x32x64 ![] bcast_S_S16x32x64 (constant S_ .f32 0x3F800000#32)) (Host.exp (Host.negf (addf (extractStridedSlice S16x32x64 ![0, 0, 64] (res_main_while0b_v145 V0) slices_S16x32x192_S16x32x64_0_0_64) (extractStridedSlice S16x32x64 ![0, 0, 64] (res_main_while0b_v150 V0) slices_S16x32x192_S16x32x64_0_0_64)))))

/-- The device's buffer contents before the body's first window. -/
def val0 (V0 : Valuation τ sig (Elt F)) : Valuation τ sig (Elt F) := V0
theorem val0_main_v2_0 (V0 : Valuation τ sig (Elt F)) : val0 V0 (no_index (Proc.devRef .tc main_v2_0)) = V0 (Proc.devRef .tc main_v2_0) := rfl
theorem val0_main_v2_5 (V0 : Valuation τ sig (Elt F)) : val0 V0 (no_index (Proc.devRef .tc main_v2_5)) = V0 (Proc.devRef .tc main_v2_5) := rfl
theorem val0_main_v2_1 (V0 : Valuation τ sig (Elt F)) : val0 V0 (no_index (Proc.devRef .tc main_v2_1)) = V0 (Proc.devRef .tc main_v2_1) := rfl
theorem val0_main_v2_2 (V0 : Valuation τ sig (Elt F)) : val0 V0 (no_index (Proc.devRef .tc main_v2_2)) = V0 (Proc.devRef .tc main_v2_2) := rfl
theorem val0_main_v2_3 (V0 : Valuation τ sig (Elt F)) : val0 V0 (no_index (Proc.devRef .tc main_v2_3)) = V0 (Proc.devRef .tc main_v2_3) := rfl
theorem val0_main_v2_6 (V0 : Valuation τ sig (Elt F)) : val0 V0 (no_index (Proc.devRef .tc main_v2_6)) = V0 (Proc.devRef .tc main_v2_6) := rfl
theorem val0_main_v2_4 (V0 : Valuation τ sig (Elt F)) : val0 V0 (no_index (Proc.devRef .tc main_v2_4)) = V0 (Proc.devRef .tc main_v2_4) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v2_0 (V0 : Valuation τ sig (Elt F)) : val1 V0 (no_index (Proc.devRef .tc main_v2_0)) = V0 (Proc.devRef .tc main_v2_0) :=
  (val1_keep V0 main_v2_0 (by decide)).trans (val0_main_v2_0 V0)
theorem val1_main_v2_5 (V0 : Valuation τ sig (Elt F)) : val1 V0 (no_index (Proc.devRef .tc main_v2_5)) = V0 (Proc.devRef .tc main_v2_5) :=
  (val1_keep V0 main_v2_5 (by decide)).trans (val0_main_v2_5 V0)
theorem val1_main_v2_1 (V0 : Valuation τ sig (Elt F)) : val1 V0 (no_index (Proc.devRef .tc main_v2_1)) = V0 (Proc.devRef .tc main_v2_1) :=
  (val1_keep V0 main_v2_1 (by decide)).trans (val0_main_v2_1 V0)
theorem val1_main_v2_2 (V0 : Valuation τ sig (Elt F)) : val1 V0 (no_index (Proc.devRef .tc main_v2_2)) = V0 (Proc.devRef .tc main_v2_2) :=
  (val1_keep V0 main_v2_2 (by decide)).trans (val0_main_v2_2 V0)
theorem val1_main_v2_3 (V0 : Valuation τ sig (Elt F)) : val1 V0 (no_index (Proc.devRef .tc main_v2_3)) = V0 (Proc.devRef .tc main_v2_3) :=
  (val1_keep V0 main_v2_3 (by decide)).trans (val0_main_v2_3 V0)
theorem val1_main_v2_6 (V0 : Valuation τ sig (Elt F)) : val1 V0 (no_index (Proc.devRef .tc main_v2_6)) = V0 (Proc.devRef .tc main_v2_6) :=
  (val1_keep V0 main_v2_6 (by decide)).trans (val0_main_v2_6 V0)
theorem val1_main_v2_4 (V0 : Valuation τ sig (Elt F)) : val1 V0 (no_index (Proc.devRef .tc main_v2_4)) = V0 (Proc.devRef .tc main_v2_4) :=
  (val1_keep V0 main_v2_4 (by decide)).trans (val0_main_v2_4 V0)
set_option maxRecDepth 8192 in
theorem val1_main_while0b_call0_v0 (V0 : Valuation τ sig (Elt F)) : val1 V0 (no_index (Proc.devRef .tc main_while0b_call0_v0)) = Host.dynamicSlice S1x16x32 (V0 (Proc.devRef .tc main_v2_0)) (fun k => (((![V0 (Proc.devRef .tc main_v2_5), constantI S_ 32 0#32, constantI S_ 32 0#32] : Fin 3 → (⟨S_, .i32⟩ : BufTy).Contents (Elt F))) k (Shape.Idx.first h_S_)).toInt) sliceFits_S64x16x32_S1x16x32 := by
  unfold val1
  simp only [trip_w0]
  after_results_entrywise [val0_main_v2_5, val0_main_v2_0, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v2_0 (V0 : Valuation τ sig (Elt F)) : val2 V0 (no_index (Proc.devRef .tc main_v2_0)) = V0 (Proc.devRef .tc main_v2_0) :=
  (val2_keep V0 main_v2_0 (by decide)).trans (val1_main_v2_0 V0)
theorem val2_main_v2_5 (V0 : Valuation τ sig (Elt F)) : val2 V0 (no_index (Proc.devRef .tc main_v2_5)) = V0 (Proc.devRef .tc main_v2_5) :=
  (val2_keep V0 main_v2_5 (by decide)).trans (val1_main_v2_5 V0)
theorem val2_main_v2_1 (V0 : Valuation τ sig (Elt F)) : val2 V0 (no_index (Proc.devRef .tc main_v2_1)) = V0 (Proc.devRef .tc main_v2_1) :=
  (val2_keep V0 main_v2_1 (by decide)).trans (val1_main_v2_1 V0)
theorem val2_main_v2_2 (V0 : Valuation τ sig (Elt F)) : val2 V0 (no_index (Proc.devRef .tc main_v2_2)) = V0 (Proc.devRef .tc main_v2_2) :=
  (val2_keep V0 main_v2_2 (by decide)).trans (val1_main_v2_2 V0)
theorem val2_main_v2_3 (V0 : Valuation τ sig (Elt F)) : val2 V0 (no_index (Proc.devRef .tc main_v2_3)) = V0 (Proc.devRef .tc main_v2_3) :=
  (val2_keep V0 main_v2_3 (by decide)).trans (val1_main_v2_3 V0)
theorem val2_main_v2_6 (V0 : Valuation τ sig (Elt F)) : val2 V0 (no_index (Proc.devRef .tc main_v2_6)) = V0 (Proc.devRef .tc main_v2_6) :=
  (val2_keep V0 main_v2_6 (by decide)).trans (val1_main_v2_6 V0)
theorem val2_main_v2_4 (V0 : Valuation τ sig (Elt F)) : val2 V0 (no_index (Proc.devRef .tc main_v2_4)) = V0 (Proc.devRef .tc main_v2_4) :=
  (val2_keep V0 main_v2_4 (by decide)).trans (val1_main_v2_4 V0)
set_option maxRecDepth 8192 in
theorem val2_main_while0b_v139 (V0 : Valuation τ sig (Elt F)) : val2 V0 (no_index (Proc.devRef .tc main_while0b_v139)) = shapeCast S16x32 (Host.dynamicSlice S1x16x32 (V0 (Proc.devRef .tc main_v2_0)) (fun k => (((![V0 (Proc.devRef .tc main_v2_5), constantI S_ 32 0#32, constantI S_ 32 0#32] : Fin 3 → (⟨S_, .i32⟩ : BufTy).Contents (Elt F))) k (Shape.Idx.first h_S_)).toInt) sliceFits_S64x16x32_S1x16x32) shapeCasts_S1x16x32_S16x32 := by
  unfold val2
  simp only [trip_w1]
  after_results_entrywise [val1_main_while0b_call0_v0, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v2_0 (V0 : Valuation τ sig (Elt F)) : val3 V0 (no_index (Proc.devRef .tc main_v2_0)) = V0 (Proc.devRef .tc main_v2_0) :=
  (val3_keep V0 main_v2_0 (by decide)).trans (val2_main_v2_0 V0)
theorem val3_main_v2_5 (V0 : Valuation τ sig (Elt F)) : val3 V0 (no_index (Proc.devRef .tc main_v2_5)) = V0 (Proc.devRef .tc main_v2_5) :=
  (val3_keep V0 main_v2_5 (by decide)).trans (val2_main_v2_5 V0)
theorem val3_main_v2_1 (V0 : Valuation τ sig (Elt F)) : val3 V0 (no_index (Proc.devRef .tc main_v2_1)) = V0 (Proc.devRef .tc main_v2_1) :=
  (val3_keep V0 main_v2_1 (by decide)).trans (val2_main_v2_1 V0)
theorem val3_main_v2_2 (V0 : Valuation τ sig (Elt F)) : val3 V0 (no_index (Proc.devRef .tc main_v2_2)) = V0 (Proc.devRef .tc main_v2_2) :=
  (val3_keep V0 main_v2_2 (by decide)).trans (val2_main_v2_2 V0)
theorem val3_main_v2_3 (V0 : Valuation τ sig (Elt F)) : val3 V0 (no_index (Proc.devRef .tc main_v2_3)) = V0 (Proc.devRef .tc main_v2_3) :=
  (val3_keep V0 main_v2_3 (by decide)).trans (val2_main_v2_3 V0)
theorem val3_main_v2_6 (V0 : Valuation τ sig (Elt F)) : val3 V0 (no_index (Proc.devRef .tc main_v2_6)) = V0 (Proc.devRef .tc main_v2_6) :=
  (val3_keep V0 main_v2_6 (by decide)).trans (val2_main_v2_6 V0)
theorem val3_main_v2_4 (V0 : Valuation τ sig (Elt F)) : val3 V0 (no_index (Proc.devRef .tc main_v2_4)) = V0 (Proc.devRef .tc main_v2_4) :=
  (val3_keep V0 main_v2_4 (by decide)).trans (val2_main_v2_4 V0)
set_option maxRecDepth 8192 in
set_option maxHeartbeats 2000000 in
theorem val3_main_while0b_v152 (V0 : Valuation τ sig (Elt F)) : val3 V0 (no_index (Proc.devRef .tc main_while0b_v152)) = extractStridedSlice S16x32x64 ![0, 0, 64] (res_main_while0b_v145 V0) slices_S16x32x192_S16x32x64_0_0_64 := by
  unfold val3
  simp only [trip_w2]
  after_results_entrywise [val2_main_v2_2, val2_main_v2_1, val2_main_while0b_v139, res_main_while0b_v145, cast_eq]
set_option maxRecDepth 8192 in
set_option maxHeartbeats 2000000 in
theorem val3_main_while0b_v153 (V0 : Valuation τ sig (Elt F)) : val3 V0 (no_index (Proc.devRef .tc main_while0b_v153)) = extractStridedSlice S16x32x64 ![0, 0, 128] (res_main_while0b_v145 V0) slices_S16x32x192_S16x32x64_0_0_128 := by
  unfold val3
  simp only [trip_w2]
  after_results_entrywise [val2_main_v2_2, val2_main_v2_1, val2_main_while0b_v139, res_main_while0b_v145, cast_eq]
set_option maxRecDepth 8192 in
set_option maxHeartbeats 2000000 in
theorem val3_main_while0b_v155 (V0 : Valuation τ sig (Elt F)) : val3 V0 (no_index (Proc.devRef .tc main_while0b_v155)) = extractStridedSlice S16x32x64 ![0, 0, 64] (res_main_while0b_v150 V0) slices_S16x32x192_S16x32x64_0_0_64 := by
  unfold val3
  simp only [trip_w2]
  after_results_entrywise [val2_main_v2_4, val2_main_v2_3, val2_main_v2_6, res_main_while0b_v150, cast_eq]
set_option maxRecDepth 8192 in
set_option maxHeartbeats 2000000 in
theorem val3_main_while0b_v156 (V0 : Valuation τ sig (Elt F)) : val3 V0 (no_index (Proc.devRef .tc main_while0b_v156)) = extractStridedSlice S16x32x64 ![0, 0, 128] (res_main_while0b_v150 V0) slices_S16x32x192_S16x32x64_0_0_128 := by
  unfold val3
  simp only [trip_w2]
  after_results_entrywise [val2_main_v2_4, val2_main_v2_3, val2_main_v2_6, res_main_while0b_v150, cast_eq]
set_option maxRecDepth 8192 in
set_option maxHeartbeats 2000000 in
theorem val3_main_while0b_v161 (V0 : Valuation τ sig (Elt F)) : val3 V0 (no_index (Proc.devRef .tc main_while0b_v161)) = addf (broadcastInDim S16x32x64 ![] bcast_S_S16x32x64 (constant S_ .f32 0x3F800000#32)) (Host.exp (Host.negf (addf (extractStridedSlice S16x32x64 ![0, 0, 0] (res_main_while0b_v145 V0) slices_S16x32x192_S16x32x64_0_0_0) (extractStridedSlice S16x32x64 ![0, 0, 0] (res_main_while0b_v150 V0) slices_S16x32x192_S16x32x64_0_0_0)))) := by
  unfold val3
  simp only [trip_w2]
  after_results_entrywise [val2_main_v2_4, val2_main_v2_3, val2_main_v2_6, val2_main_v2_2, val2_main_v2_1, val2_main_while0b_v139, res_main_while0b_v145, res_main_while0b_v150, cast_eq]
set_option maxRecDepth 8192 in
set_option maxHeartbeats 2000000 in
theorem val3_main_while0b_cst_23 (V0 : Valuation τ sig (Elt F)) : val3 V0 (no_index (Proc.devRef .tc main_while0b_cst_23)) = constant S_ .f32 0x3F800000#32 := by
  unfold val3
  simp only [trip_w2]
  after_results_entrywise [cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v2_0 (V0 : Valuation τ sig (Elt F)) : val4 V0 (no_index (Proc.devRef .tc main_v2_0)) = V0 (Proc.devRef .tc main_v2_0) :=
  (val4_keep V0 main_v2_0 (by decide)).trans (val3_main_v2_0 V0)
theorem val4_main_v2_5 (V0 : Valuation τ sig (Elt F)) : val4 V0 (no_index (Proc.devRef .tc main_v2_5)) = V0 (Proc.devRef .tc main_v2_5) :=
  (val4_keep V0 main_v2_5 (by decide)).trans (val3_main_v2_5 V0)
theorem val4_main_v2_1 (V0 : Valuation τ sig (Elt F)) : val4 V0 (no_index (Proc.devRef .tc main_v2_1)) = V0 (Proc.devRef .tc main_v2_1) :=
  (val4_keep V0 main_v2_1 (by decide)).trans (val3_main_v2_1 V0)
theorem val4_main_v2_2 (V0 : Valuation τ sig (Elt F)) : val4 V0 (no_index (Proc.devRef .tc main_v2_2)) = V0 (Proc.devRef .tc main_v2_2) :=
  (val4_keep V0 main_v2_2 (by decide)).trans (val3_main_v2_2 V0)
theorem val4_main_v2_3 (V0 : Valuation τ sig (Elt F)) : val4 V0 (no_index (Proc.devRef .tc main_v2_3)) = V0 (Proc.devRef .tc main_v2_3) :=
  (val4_keep V0 main_v2_3 (by decide)).trans (val3_main_v2_3 V0)
theorem val4_main_v2_6 (V0 : Valuation τ sig (Elt F)) : val4 V0 (no_index (Proc.devRef .tc main_v2_6)) = V0 (Proc.devRef .tc main_v2_6) :=
  (val4_keep V0 main_v2_6 (by decide)).trans (val3_main_v2_6 V0)
theorem val4_main_v2_4 (V0 : Valuation τ sig (Elt F)) : val4 V0 (no_index (Proc.devRef .tc main_v2_4)) = V0 (Proc.devRef .tc main_v2_4) :=
  (val4_keep V0 main_v2_4 (by decide)).trans (val3_main_v2_4 V0)
set_option maxRecDepth 8192 in
set_option maxHeartbeats 2000000 in
theorem val4_main_while0b_v178 (V0 : Valuation τ sig (Elt F)) : val4 V0 (no_index (Proc.devRef .tc main_while0b_v178)) = addf (mulf (subf (broadcastInDim S16x32x64 ![] bcast_S_S16x32x64 (constant S_ .f32 0x3F800000#32)) (res_main_while0b_v170 V0)) (Host.tanh (addf (extractStridedSlice S16x32x64 ![0, 0, 128] (res_main_while0b_v145 V0) slices_S16x32x192_S16x32x64_0_0_128) (mulf (Host.divf (broadcastInDim S16x32x64 ![] bcast_S_S16x32x64 (constant S_ .f32 0x3F800000#32)) (addf (broadcastInDim S16x32x64 ![] bcast_S_S16x32x64 (constant S_ .f32 0x3F800000#32)) (Host.exp (Host.negf (addf (extractStridedSlice S16x32x64 ![0, 0, 0] (res_main_while0b_v145 V0) slices_S16x32x192_S16x32x64_0_0_0) (extractStridedSlice S16x32x64 ![0, 0, 0] (res_main_while0b_v150 V0) slices_S16x32x192_S16x32x64_0_0_0)))))) (extractStridedSlice S16x32x64 ![0, 0, 128] (res_main_while0b_v150 V0) slices_S16x32x192_S16x32x64_0_0_128))))) (mulf (res_main_while0b_v170 V0) (V0 (Proc.devRef .tc main_v2_6))) := by
  unfold val4
  simp only [trip_w3]
  after_results_entrywise [val3_main_v2_6, val3_main_while0b_v155, val3_main_while0b_v152, val3_main_while0b_v156, val3_main_while0b_v161, val3_main_while0b_cst_23, val3_main_while0b_v153, res_main_while0b_v170, cast_eq]

set_option maxRecDepth 8192 in
/-- The body's stretches, from any contents: the trip's windows in order, then `while0Ops0_1`'s step. -/
theorem trip_windows (V0 : Valuation τ sig (Elt F)) : after while0Ops0_1 (after while0Ops0 (V0)) = after while0Ops0_1_step (val4 V0) := by
  simp only [while0Ops0_cut, while0Ops0_1_cut, after_append]
  rfl

set_option maxRecDepth 8192 in
set_option maxHeartbeats 2000000 in
/-- `main_v2_0` after one trip's body, from any contents. -/
theorem trip_main_v2_0 (V0 : Valuation τ sig (Elt F)) : afterL bodyI V0 (no_index (Proc.devRef .tc main_v2_0)) = V0 (Proc.devRef .tc main_v2_0) := by
  simp only [bodyI, afterL_cons, afterL_nil, trip_windows]
  after_results
  all_goals (try simp only [val4_main_while0b_v178, val4_main_v2_0, val4_main_v2_1, val4_main_v2_2, val4_main_v2_3, val4_main_v2_4, val4_main_v2_5, val4_main_v2_6]) <;> rfl
set_option maxRecDepth 8192 in
set_option maxHeartbeats 2000000 in
/-- `main_v2_1` after one trip's body, from any contents. -/
theorem trip_main_v2_1 (V0 : Valuation τ sig (Elt F)) : afterL bodyI V0 (no_index (Proc.devRef .tc main_v2_1)) = V0 (Proc.devRef .tc main_v2_1) := by
  simp only [bodyI, afterL_cons, afterL_nil, trip_windows]
  after_results
  all_goals (try simp only [val4_main_while0b_v178, val4_main_v2_0, val4_main_v2_1, val4_main_v2_2, val4_main_v2_3, val4_main_v2_4, val4_main_v2_5, val4_main_v2_6]) <;> rfl
set_option maxRecDepth 8192 in
set_option maxHeartbeats 2000000 in
/-- `main_v2_2` after one trip's body, from any contents. -/
theorem trip_main_v2_2 (V0 : Valuation τ sig (Elt F)) : afterL bodyI V0 (no_index (Proc.devRef .tc main_v2_2)) = V0 (Proc.devRef .tc main_v2_2) := by
  simp only [bodyI, afterL_cons, afterL_nil, trip_windows]
  after_results
  all_goals (try simp only [val4_main_while0b_v178, val4_main_v2_0, val4_main_v2_1, val4_main_v2_2, val4_main_v2_3, val4_main_v2_4, val4_main_v2_5, val4_main_v2_6]) <;> rfl
set_option maxRecDepth 8192 in
set_option maxHeartbeats 2000000 in
/-- `main_v2_3` after one trip's body, from any contents. -/
theorem trip_main_v2_3 (V0 : Valuation τ sig (Elt F)) : afterL bodyI V0 (no_index (Proc.devRef .tc main_v2_3)) = V0 (Proc.devRef .tc main_v2_3) := by
  simp only [bodyI, afterL_cons, afterL_nil, trip_windows]
  after_results
  all_goals (try simp only [val4_main_while0b_v178, val4_main_v2_0, val4_main_v2_1, val4_main_v2_2, val4_main_v2_3, val4_main_v2_4, val4_main_v2_5, val4_main_v2_6]) <;> rfl
set_option maxRecDepth 8192 in
set_option maxHeartbeats 2000000 in
/-- `main_v2_4` after one trip's body, from any contents. -/
theorem trip_main_v2_4 (V0 : Valuation τ sig (Elt F)) : afterL bodyI V0 (no_index (Proc.devRef .tc main_v2_4)) = V0 (Proc.devRef .tc main_v2_4) := by
  simp only [bodyI, afterL_cons, afterL_nil, trip_windows]
  after_results
  all_goals (try simp only [val4_main_while0b_v178, val4_main_v2_0, val4_main_v2_1, val4_main_v2_2, val4_main_v2_3, val4_main_v2_4, val4_main_v2_5, val4_main_v2_6]) <;> rfl
set_option maxRecDepth 8192 in
set_option maxHeartbeats 2000000 in
/-- `main_v2_5` after one trip's body, from any contents. -/
theorem trip_main_v2_5 (V0 : Valuation τ sig (Elt F)) : afterL bodyI V0 (no_index (Proc.devRef .tc main_v2_5)) = id (addi (V0 (Proc.devRef .tc main_v2_5)) (constantI S_ 32 1#32)) := by
  simp only [bodyI, afterL_cons, afterL_nil, trip_windows]
  after_results
  all_goals (try simp only [val4_main_while0b_v178, val4_main_v2_0, val4_main_v2_1, val4_main_v2_2, val4_main_v2_3, val4_main_v2_4, val4_main_v2_5, val4_main_v2_6]) <;> rfl
set_option maxRecDepth 8192 in
set_option maxHeartbeats 2000000 in
/-- `main_v2_6` after one trip's body, from any contents. -/
theorem trip_main_v2_6 (V0 : Valuation τ sig (Elt F)) : afterL bodyI V0 (no_index (Proc.devRef .tc main_v2_6)) = id (addf (mulf (subf (broadcastInDim S16x32x64 ![] bcast_S_S16x32x64 (constant S_ .f32 0x3F800000#32)) (res_main_while0b_v170 V0)) (Host.tanh (addf (extractStridedSlice S16x32x64 ![0, 0, 128] (res_main_while0b_v145 V0) slices_S16x32x192_S16x32x64_0_0_128) (mulf (Host.divf (broadcastInDim S16x32x64 ![] bcast_S_S16x32x64 (constant S_ .f32 0x3F800000#32)) (addf (broadcastInDim S16x32x64 ![] bcast_S_S16x32x64 (constant S_ .f32 0x3F800000#32)) (Host.exp (Host.negf (addf (extractStridedSlice S16x32x64 ![0, 0, 0] (res_main_while0b_v145 V0) slices_S16x32x192_S16x32x64_0_0_0) (extractStridedSlice S16x32x64 ![0, 0, 0] (res_main_while0b_v150 V0) slices_S16x32x192_S16x32x64_0_0_0)))))) (extractStridedSlice S16x32x64 ![0, 0, 128] (res_main_while0b_v150 V0) slices_S16x32x192_S16x32x64_0_0_128))))) (mulf (res_main_while0b_v170 V0) (V0 (Proc.devRef .tc main_v2_6)))) := by
  simp only [bodyI, afterL_cons, afterL_nil, trip_windows]
  after_results
  all_goals (try simp only [val4_main_while0b_v178, val4_main_v2_0, val4_main_v2_1, val4_main_v2_2, val4_main_v2_3, val4_main_v2_4, val4_main_v2_5, val4_main_v2_6]) <;> rfl

end Cert.ReferenceIdeal.Value

end
-- ==== Proof.Own.RVal.lean ====
module

public import proofs.«01_k».proof.Proof.Own.RTrip

@[expose] public section

set_option maxRecDepth 8192

noncomputable section

namespace Cert.ReferenceIdeal.Value

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-! ## The stages of the reference after its loop, as functions of arrays -/

/-- An affine map of the hidden states: queries and keys. -/
def refAffine (h : FVec F S16x32x64 .f32) (w : FVec F S32x64 .f32) (b : FVec F S32 .f32) : FVec F S16x32x32 .f32 :=
  addf (Host.dotGeneral dot_S16x32x64_S64x32_S16x32x32_2_0_01_1_n_n none h
      (transpose S64x32 [1, 0] w transposes_S32x64_S64x32_1_0))
    (broadcastInDim S16x32x32 ![0, 1, 2] bcast_S1x1x32_S16x32x32_0_1_2 (broadcastInDim S1x1x32 ![2] bcast_S32_S1x1x32_2 b))

/-- The attention scores: queries against keys, over the square root of their width. -/
def refScores (q k : FVec F S16x32x32 .f32) : FVec F S16x32x32 .f32 :=
  Host.divf (Host.dotGeneral dot_S16x32x32_S16x32x32_S16x32x32_2_1_1_2_0_0 none q
      (transpose S16x32x32 [0, 2, 1] k transposes_S16x32x32_S16x32x32_0_2_1))
    (broadcastInDim S16x32x32 ![] bcast_S_S16x32x32 (Host.sqrt (constant S_ .f32 0x42000000#32)))

/-- The exponentials of the scores less their row's greatest. -/
def refExps (s : FVec F S16x32x32 .f32) : FVec F S16x32x32 .f32 :=
  Host.exp (subf s (broadcastInDim S16x32x32 ![0, 1, 2] bcast_S16x32x1_S16x32x32_0_1_2
    (broadcastInDim S16x32x1 ![0, 1] bcast_S16x32_S16x32x1_0_1
      (maximumf (broadcastInDim S16x32 ![] bcast_S_S16x32 (constant S_ .f32 0xFF800000#32))
        (Host.reduce FloatOps.maximumf s (constant S_ .f32 0xFF800000#32) reducesTo_S16x32x32_S16x32_d2 h_S_)))))

/-- The rows divided by their sums: the weights. -/
def refWeights (e : FVec F S16x32x32 .f32) : FVec F S16x32x32 .f32 :=
  Host.divf e (broadcastInDim S16x32x32 ![0, 1, 2] bcast_S16x32x1_S16x32x32_0_1_2
    (broadcastInDim S16x32x1 ![0, 1] bcast_S16x32_S16x32x1_0_1
      (Host.reduceAdd e (constant S_ .f32 0x00000000#32) reducesTo_S16x32x32_S16x32_d2 h_S_)))

/-- The degrees: the weights summed over their sources. -/
def refDeg (w : FVec F S16x32x32 .f32) : FVec F S16x32 .f32 :=
  Host.reduceAdd w (constant S_ .f32 0x00000000#32) reducesTo_S16x32x32_S16x32_d1 h_S_

/-- The reciprocal root of a positive degree, zero of any other. -/
def refDinv (deg : FVec F S16x32 .f32) : FVec F S16x32 .f32 :=
  select (cmpf .ogt deg (broadcastInDim S16x32 ![] bcast_S_S16x32 (constant S_ .f32 0x00000000#32)))
    (Host.divf (broadcastInDim S16x32 ![] bcast_S_S16x32 (constant S_ .f32 0x3F800000#32)) (Host.sqrt deg))
    (broadcastInDim S16x32 ![] bcast_S_S16x32 (constant S_ .f32 0x00000000#32))

/-- The weights normalised on both sides. -/
def refNorm (w : FVec F S16x32x32 .f32) (d : FVec F S16x32 .f32) : FVec F S16x32x32 .f32 :=
  mulf (mulf (broadcastInDim S16x32x32 ![0, 1, 2] bcast_S16x32x1_S16x32x32_0_1_2 (broadcastInDim S16x32x1 ![0, 1] bcast_S16x32_S16x32x1_0_1 d)) w)
    (broadcastInDim S16x32x32 ![0, 1, 2] bcast_S16x1x32_S16x32x32_0_1_2 (broadcastInDim S16x1x32 ![0, 2] bcast_S16x32_S16x1x32_0_2 d))

/-- A bias along the last axis. -/
def refBias (b : FVec F S64 .f32) : FVec F S16x64x32x64 .f32 :=
  broadcastInDim S16x64x32x64 ![0, 1, 2, 3] bcast_S1x1x1x64_S16x64x32x64_0_1_2_3 (broadcastInDim S1x1x1x64 ![3] bcast_S64_S1x1x1x64_3 b)

/-- The input features of every node at every time. -/
def refNodes (x : FVec F S16x64x32 .f32) (w : FVec F S64x1x1 .f32) (b : FVec F S64 .f32) : FVec F S16x64x32x64 .f32 :=
  addf (mulf (broadcastInDim S16x64x32x64 ![0, 1, 2, 3] bcast_S16x64x32x1_S16x64x32x64_0_1_2_3
      (broadcastInDim S16x64x32x1 ![0, 1, 2] bcast_S16x64x32_S16x64x32x1_0_1_2 x))
    (broadcastInDim S16x64x32x64 ![0, 1, 2, 3] bcast_S1x1x1x64_S16x64x32x64_0_1_2_3 (shapeCast S1x1x1x64 w shapeCasts_S64x1x1_S1x1x1x64)))
    (refBias b)

/-- A product of the features with a square matrix. -/
def refMix (h : FVec F S16x64x32x64 .f32) (w : FVec F S64x64 .f32) : FVec F S16x64x32x64 .f32 :=
  Host.dotGeneral dot_S16x64x32x64_S64x64_S16x64x32x64_3_0_012_1_n_n none h (transpose S64x64 [1, 0] w transposes_S64x64_S64x64_1_0)

/-- One graph convolution. -/
def refGcn (h : FVec F S16x64x32x64 .f32) (g : FVec F S64x64 .f32) (n : FVec F S16x32x32 .f32) (b : FVec F S64 .f32) : FVec F S16x64x32x64 .f32 :=
  addf (transpose S16x64x32x64 [0, 1, 3, 2]
      (Host.dotGeneral dot_S16x64x32x64_S16x32x32_S16x64x64x32_2_1_13_2_0_0 none (refMix h g) n)
      transposes_S16x64x64x32_S16x64x32x64_0_1_3_2)
    (refBias b)

/-- A time axis longer by one row of zeros at either end. -/
def refPad1 (g : FVec F S16x64x32x64 .f32) : FVec F S16x66x32x64 .f32 :=
  pad S16x66x32x64 ![0, 1, 0, 0] ![0, 1, 0, 0] ![0, 0, 0, 0] g (sitofp .f32 (constantI S_ 32 0#32)) pads_S16x64x32x64_S16x66x32x64_000_110_000_000 h_S_

/-- A time axis longer by two rows of zeros at either end. -/
def refPad2 (g : FVec F S16x64x32x64 .f32) : FVec F S16x68x32x64 .f32 :=
  pad S16x68x32x64 ![0, 2, 0, 0] ![0, 2, 0, 0] ![0, 0, 0, 0] g (sitofp .f32 (constantI S_ 32 0#32)) pads_S16x64x32x64_S16x68x32x64_000_220_000_000 h_S_

/-- The convolution along time with three taps. -/
def refConv3 (p : FVec F S16x66x32x64 .f32) (w : FVec F S64x64x3 .f32) (b : FVec F S64 .f32) : FVec F S16x64x32x64 .f32 :=
  addf (addf (addf (addf (broadcastInDim S16x64x32x64 ![] bcast_S_S16x64x32x64 (constant S_ .f32 0x00000000#32))
    (refMix (extractStridedSlice S16x64x32x64 ![0, 0, 0, 0] p slices_S16x66x32x64_S16x64x32x64_0_0_0_0)
      (shapeCast S64x64 (extractStridedSlice S64x64x1 ![0, 0, 0] w slices_S64x64x3_S64x64x1_0_0_0) shapeCasts_S64x64x1_S64x64)))
    (refMix (extractStridedSlice S16x64x32x64 ![0, 1, 0, 0] p slices_S16x66x32x64_S16x64x32x64_0_1_0_0)
      (shapeCast S64x64 (extractStridedSlice S64x64x1 ![0, 0, 1] w slices_S64x64x3_S64x64x1_0_0_1) shapeCasts_S64x64x1_S64x64)))
    (refMix (extractStridedSlice S16x64x32x64 ![0, 2, 0, 0] p slices_S16x66x32x64_S16x64x32x64_0_2_0_0)
      (shapeCast S64x64 (extractStridedSlice S64x64x1 ![0, 0, 2] w slices_S64x64x3_S64x64x1_0_0_2) shapeCasts_S64x64x1_S64x64)))
    (refBias b)

/-- The convolution along time with five taps. -/
def refConv5 (p : FVec F S16x68x32x64 .f32) (w : FVec F S64x64x5 .f32) (b : FVec F S64 .f32) : FVec F S16x64x32x64 .f32 :=
  addf (addf (addf (addf (addf (addf (broadcastInDim S16x64x32x64 ![] bcast_S_S16x64x32x64 (constant S_ .f32 0x00000000#32))
    (refMix (extractStridedSlice S16x64x32x64 ![0, 0, 0, 0] p slices_S16x68x32x64_S16x64x32x64_0_0_0_0)
      (shapeCast S64x64 (extractStridedSlice S64x64x1 ![0, 0, 0] w slices_S64x64x5_S64x64x1_0_0_0) shapeCasts_S64x64x1_S64x64)))
    (refMix (extractStridedSlice S16x64x32x64 ![0, 1, 0, 0] p slices_S16x68x32x64_S16x64x32x64_0_1_0_0)
      (shapeCast S64x64 (extractStridedSlice S64x64x1 ![0, 0, 1] w slices_S64x64x5_S64x64x1_0_0_1) shapeCasts_S64x64x1_S64x64)))
    (refMix (extractStridedSlice S16x64x32x64 ![0, 2, 0, 0] p slices_S16x68x32x64_S16x64x32x64_0_2_0_0)
      (shapeCast S64x64 (extractStridedSlice S64x64x1 ![0, 0, 2] w slices_S64x64x5_S64x64x1_0_0_2) shapeCasts_S64x64x1_S64x64)))
    (refMix (extractStridedSlice S16x64x32x64 ![0, 3, 0, 0] p slices_S16x68x32x64_S16x64x32x64_0_3_0_0)
      (shapeCast S64x64 (extractStridedSlice S64x64x1 ![0, 0, 3] w slices_S64x64x5_S64x64x1_0_0_3) shapeCasts_S64x64x1_S64x64)))
    (refMix (extractStridedSlice S16x64x32x64 ![0, 4, 0, 0] p slices_S16x68x32x64_S16x64x32x64_0_4_0_0)
      (shapeCast S64x64 (extractStridedSlice S64x64x1 ![0, 0, 4] w slices_S64x64x5_S64x64x1_0_0_4) shapeCasts_S64x64x1_S64x64)))
    (refBias b)

/-- The leaky rectifier. -/
def refLeaky (r : FVec F S16x64x32x64 .f32) : FVec F S16x64x32x64 .f32 :=
  select (cmpf .ogt r (broadcastInDim S16x64x32x64 ![] bcast_S_S16x64x32x64 (constant S_ .f32 0x00000000#32))) r
    (mulf (broadcastInDim S16x64x32x64 ![] bcast_S_S16x64x32x64 (constant S_ .f32 0x3C23D70A#32)) r)

/-- The last layer over all features of a sample. -/
def refHead (h : FVec F S16x64x32x64 .f32) (w : FVec F S256x131072 .f32) (b : FVec F S256 .f32) : FVec F S16x8x32 .f32 :=
  shapeCast S16x8x32 (addf (Host.dotGeneral dot_S16x131072_S131072x256_S16x256_1_0_0_1_n_n none
      (shapeCast S16x131072 h shapeCasts_S16x64x32x64_S16x131072) (transpose S131072x256 [1, 0] w transposes_S256x131072_S131072x256_1_0))
    (broadcastInDim S16x256 ![0, 1] bcast_S1x256_S16x256_0_1 (broadcastInDim S1x256 ![1] bcast_S256_S1x256_1 b)))
    shapeCasts_S16x256_S16x8x32

/-! ## Each stretch's results are the stages -/

/-- A device's buffers, read by their names. -/
abbrev rd (V : Valuation τ sig (Elt F)) (b : Ref sig .tc) : (Proc.devRef (τ := τ) .tc b : DevRef τ sig).ty.Contents (Elt F) := V (Proc.devRef .tc b)

variable (V : Valuation τ sig (Elt F))

set_option maxHeartbeats 4000000

/-- The first stretch's weights. -/
theorem post1_weights : rd (after hostOps0_1 V) main_v28
    = refWeights (refExps (refScores (refAffine (rd V main_v2_6) (rd V main_arg5) (rd V main_arg6)) (refAffine (rd V main_v2_6) (rd V main_arg7) (rd V main_arg8)))) := by
  unfold rd
  simp only [hostOps0_1]
  after_results_entrywise []

/-- Which degrees are positive. -/
theorem post1_pos : rd (after hostOps0_1 V) main_v31
    = cmpf .ogt (refDeg (refWeights (refExps (refScores (refAffine (rd V main_v2_6) (rd V main_arg5) (rd V main_arg6)) (refAffine (rd V main_v2_6) (rd V main_arg7) (rd V main_arg8)))))) (broadcastInDim S16x32 ![] bcast_S_S16x32 (constant S_ .f32 0x00000000#32)) := by
  unfold rd
  simp only [hostOps0_1]
  after_results_entrywise []

/-- The reciprocal roots of the degrees. -/
theorem post1_inv : rd (after hostOps0_1 V) main_v34
    = Host.divf (broadcastInDim S16x32 ![] bcast_S_S16x32 (constant S_ .f32 0x3F800000#32)) (Host.sqrt (refDeg (refWeights (refExps (refScores (refAffine (rd V main_v2_6) (rd V main_arg5) (rd V main_arg6)) (refAffine (rd V main_v2_6) (rd V main_arg7) (rd V main_arg8))))))) := by
  unfold rd
  simp only [hostOps0_1]
  after_results_entrywise []

/-- The zero the selection falls back to. -/
theorem post1_zero : rd (after hostOps0_1 V) main_cst_7
    = constant S_ .f32 0x00000000#32 := by
  unfold rd
  simp only [hostOps0_1]
  after_results_entrywise []

/-- The selection by the sign of the degree. -/
theorem post2 : rd (after hostOps0_2 V) main_v35
    = select (rd V main_v31) (rd V main_v34) (broadcastInDim S16x32 ![] bcast_S_S16x32 (rd V main_cst_7)) := by
  unfold rd
  simp only [hostOps0_2]
  after_results_entrywise []

/-- The normalised weights. -/
theorem post3_norm : rd (after hostOps0_3 V) main_v41
    = refNorm (rd V main_v28) (rd V main_v35) := by
  unfold rd
  simp only [hostOps0_3]
  after_results_entrywise []

/-- The first graph convolution. -/
theorem post3_gcn : rd (after hostOps0_3 V) main_v56
    = refGcn (refNodes (rd V main_arg0) (rd V main_arg9) (rd V main_arg10)) (rd V main_arg11) (refNorm (rd V main_v28) (rd V main_v35)) (rd V main_arg12) := by
  unfold rd
  simp only [hostOps0_3]
  after_results_entrywise []

/-- Zeros at either end of the first time axis. -/
theorem post4 : rd (after hostOps0_4 V) main_v57
    = pad S16x66x32x64 ![0, 1, 0, 0] ![0, 1, 0, 0] ![0, 0, 0, 0] (rd V main_v56) (sitofp .f32 (rd V main_c_8)) pads_S16x64x32x64_S16x66x32x64_000_110_000_000 h_S_ := by
  unfold rd
  simp only [hostOps0_4]
  after_results_entrywise []

/-- The convolution of three taps. -/
theorem post5_conv : rd (after hostOps0_5 V) main_v79
    = refConv3 (rd V main_v57) (rd V main_arg13) (rd V main_arg14) := by
  unfold rd
  simp only [hostOps0_5]
  after_results_entrywise []

/-- Where it is positive. -/
theorem post5_pos : rd (after hostOps0_5 V) main_v81
    = cmpf .ogt (refConv3 (rd V main_v57) (rd V main_arg13) (rd V main_arg14)) (broadcastInDim S16x64x32x64 ![] bcast_S_S16x64x32x64 (constant S_ .f32 0x00000000#32)) := by
  unfold rd
  simp only [hostOps0_5]
  after_results_entrywise []

/-- Its hundredth. -/
theorem post5_small : rd (after hostOps0_5 V) main_v83
    = mulf (broadcastInDim S16x64x32x64 ![] bcast_S_S16x64x32x64 (constant S_ .f32 0x3C23D70A#32)) (refConv3 (rd V main_v57) (rd V main_arg13) (rd V main_arg14)) := by
  unfold rd
  simp only [hostOps0_5]
  after_results_entrywise []

/-- The selection by its sign. -/
theorem post6 : rd (after hostOps0_6 V) main_v84
    = select (rd V main_v81) (rd V main_v79) (rd V main_v83) := by
  unfold rd
  simp only [hostOps0_6]
  after_results_entrywise []

/-- The second graph convolution. -/
theorem post7 : rd (after hostOps0_7 V) main_v91
    = refGcn (rd V main_v84) (rd V main_arg15) (rd V main_v41) (rd V main_arg16) := by
  unfold rd
  simp only [hostOps0_7]
  after_results_entrywise []

/-- Zeros at either end of the second time axis. -/
theorem post8 : rd (after hostOps0_8 V) main_v92
    = pad S16x68x32x64 ![0, 2, 0, 0] ![0, 2, 0, 0] ![0, 0, 0, 0] (rd V main_v91) (sitofp .f32 (rd V main_c_12)) pads_S16x64x32x64_S16x68x32x64_000_220_000_000 h_S_ := by
  unfold rd
  simp only [hostOps0_8]
  after_results_entrywise []

/-- The convolution of five taps. -/
theorem post9_conv : rd (after hostOps0_9 V) main_v126
    = refConv5 (rd V main_v92) (rd V main_arg17) (rd V main_arg18) := by
  unfold rd
  simp only [hostOps0_9]
  after_results_entrywise []

/-- Where it is positive. -/
theorem post9_pos : rd (after hostOps0_9 V) main_v128
    = cmpf .ogt (refConv5 (rd V main_v92) (rd V main_arg17) (rd V main_arg18)) (broadcastInDim S16x64x32x64 ![] bcast_S_S16x64x32x64 (constant S_ .f32 0x00000000#32)) := by
  unfold rd
  simp only [hostOps0_9]
  after_results_entrywise []

/-- Its hundredth. -/
theorem post9_small : rd (after hostOps0_9 V) main_v130
    = mulf (broadcastInDim S16x64x32x64 ![] bcast_S_S16x64x32x64 (constant S_ .f32 0x3C23D70A#32)) (refConv5 (rd V main_v92) (rd V main_arg17) (rd V main_arg18)) := by
  unfold rd
  simp only [hostOps0_9]
  after_results_entrywise []

/-- The selection by its sign. -/
theorem post10 : rd (after hostOps0_10 V) main_v131
    = select (rd V main_v128) (rd V main_v126) (rd V main_v130) := by
  unfold rd
  simp only [hostOps0_10]
  after_results_entrywise []

/-- The last layer. -/
theorem post11 : rd (after hostOps0_11 V) main_v138
    = refHead (rd V main_v131) (rd V main_arg19) (rd V main_arg20) := by
  unfold rd
  simp only [hostOps0_11]
  after_results_entrywise []

/-- The zeros the first padding is made of. -/
theorem post3_pad : rd (after hostOps0_3 V) main_c_8 = constantI S_ 32 0#32 := by
  unfold rd
  simp only [hostOps0_3]
  after_results_entrywise []

/-- The zeros the second padding is made of. -/
theorem post7_pad : rd (after hostOps0_7 V) main_c_12 = constantI S_ 32 0#32 := by
  unfold rd
  simp only [hostOps0_7]
  after_results_entrywise []

/-! ## The loop -/

/-- The input's share of the gates. -/
def refGi (x : FVec F S16x32 .f32) (w : FVec F S192x1 .f32) (b : FVec F S192 .f32) : FVec F S16x32x192 .f32 :=
  addf (Host.dotGeneral dot_S16x32x1_S1x192_S16x32x192_2_0_01_1_n_n none (broadcastInDim S16x32x1 ![0, 1] bcast_S16x32_S16x32x1_0_1 x)
      (transpose S1x192 [1, 0] w transposes_S192x1_S1x192_1_0))
    (broadcastInDim S16x32x192 ![0, 1, 2] bcast_S1x1x192_S16x32x192_0_1_2 (broadcastInDim S1x1x192 ![2] bcast_S192_S1x1x192_2 b))

/-- The hidden state's share of the gates. -/
def refGh (h : FVec F S16x32x64 .f32) (w : FVec F S192x64 .f32) (b : FVec F S192 .f32) : FVec F S16x32x192 .f32 :=
  addf (Host.dotGeneral dot_S16x32x64_S64x192_S16x32x192_2_0_01_1_n_n none h (transpose S64x192 [1, 0] w transposes_S192x64_S64x192_1_0))
    (broadcastInDim S16x32x192 ![0, 1, 2] bcast_S1x1x192_S16x32x192_0_1_2 (broadcastInDim S1x1x192 ![2] bcast_S192_S1x1x192_2 b))

/-- One over one and the exponential of the negation. -/
def refSig (v : FVec F S16x32x64 .f32) : FVec F S16x32x64 .f32 :=
  Host.divf (broadcastInDim S16x32x64 ![] bcast_S_S16x32x64 (constant S_ .f32 0x3F800000#32))
    (addf (broadcastInDim S16x32x64 ![] bcast_S_S16x32x64 (constant S_ .f32 0x3F800000#32)) (Host.exp (Host.negf v)))

/-- The first, second and third 64 of the gates. -/
def refCut0 (v : FVec F S16x32x192 .f32) : FVec F S16x32x64 .f32 := extractStridedSlice S16x32x64 ![0, 0, 0] v slices_S16x32x192_S16x32x64_0_0_0
@[inherit_doc refCut0] def refCut1 (v : FVec F S16x32x192 .f32) : FVec F S16x32x64 .f32 := extractStridedSlice S16x32x64 ![0, 0, 64] v slices_S16x32x192_S16x32x64_0_0_64
@[inherit_doc refCut0] def refCut2 (v : FVec F S16x32x192 .f32) : FVec F S16x32x64 .f32 := extractStridedSlice S16x32x64 ![0, 0, 128] v slices_S16x32x192_S16x32x64_0_0_128

/-- One step of the gated recurrent unit from its two shares of the gates. -/
def refGate (gi gh : FVec F S16x32x192 .f32) (h : FVec F S16x32x64 .f32) : FVec F S16x32x64 .f32 :=
  addf (mulf (subf (broadcastInDim S16x32x64 ![] bcast_S_S16x32x64 (constant S_ .f32 0x3F800000#32)) (refSig (addf (refCut1 gi) (refCut1 gh))))
      (Host.tanh (addf (refCut2 gi) (mulf (refSig (addf (refCut0 gi) (refCut0 gh))) (refCut2 gh)))))
    (mulf (refSig (addf (refCut1 gi) (refCut1 gh))) h)

/-- The inputs with time first, and one time's row of them. -/
def refTimes (x : FVec F S16x64x32 .f32) : FVec F S64x16x32 .f32 := transpose S64x16x32 [1, 0, 2] x transposes_S16x64x32_S64x16x32_1_0_2
@[inherit_doc refTimes] def refRow (x : FVec F S64x16x32 .f32) (t : Vec F S_ .i32) : FVec F S16x32 .f32 :=
  shapeCast S16x32 (Host.dynamicSlice S1x16x32 x (fun k => (((![t, constantI S_ 32 0#32, constantI S_ 32 0#32] : Fin 3 → (⟨S_, .i32⟩ : BufTy).Contents (Elt F))) k (Shape.Idx.first h_S_)).toInt) sliceFits_S64x16x32_S1x16x32)
    shapeCasts_S1x16x32_S16x32

/-- The hidden state after some steps, from zero. -/
def refH (x : FVec F S16x64x32 .f32) (wih : FVec F S192x1 .f32) (whh : FVec F S192x64 .f32) (bih bhh : FVec F S192 .f32) : ℕ → FVec F S16x32x64 .f32
  | 0 => broadcastInDim S16x32x64 ![] bcast_S_S16x32x64 (constant S_ .f32 0x00000000#32)
  | k + 1 => refGate (refGi (refRow (refTimes x) fun _ => Scf.iv 0#32 1#32 k) wih bih) (refGh (refH x wih whh bih bhh k) whh bhh) (refH x wih whh bih bhh k)

/-- One trip of the loop is one step. -/
theorem trip_gate : rd (afterL bodyI V) main_v2_6
    = refGate (refGi (refRow (rd V main_v2_0) (rd V main_v2_5)) (rd V main_v2_1) (rd V main_v2_2))
      (refGh (rd V main_v2_6) (rd V main_v2_3) (rd V main_v2_4)) (rd V main_v2_6) :=
  (trip_main_v2_6 V).trans rfl

variable (m : (ℓ : Loc nD τ sig) → Buf (Elt F) ℓ) (c : Dev nD)

/-- What the loop starts from. -/
abbrev V00 : Valuation τ sig (Elt F) := launchContents m c

/-- A buffer nothing before or in the loop writes. -/
theorem keep_loop (b : Ref sig .tc) (h0 : b ∉ hostOps0_W) (h1 : b ∉ condOps_W) (h2 : b ∉ while0Ops0_W) (h3 : b ∉ while0Ops0_1_W) :
    ∀ k, rd (atK m k c) b = rd (V00 m c) b
  | 0 => by
    show afterL preI (launchContents m c) _ = _
    rw [afterL_cons, afterL_nil]; exact after_of_writes_sub hostOps0 _ hostOps0_writes h0
  | k + 1 => by
    refine Eq.trans ?_ (keep_loop b h0 h1 h2 h3 k)
    show afterL bodyI (after condOps (atK m k c)) _ = _
    rw [afterL_cons, afterL_cons, afterL_nil]
    exact (after_of_writes_sub while0Ops0_1 _ while0Ops0_1_writes h3).trans
      ((after_of_writes_sub while0Ops0 _ while0Ops0_writes h2).trans (after_of_writes_sub condOps _ condOps_writes h1))

/-- The loop's buffer v2_0 keeps what it starts from. -/
theorem carried_v2_0 : ∀ k, rd (atK m k c) main_v2_0 = refTimes (rd (V00 m c) main_arg0)
  | 0 => by
    show afterL preI (launchContents m c) _ = _
    rw [afterL_cons, afterL_nil]
    simp only [hostOps0]
    after_results_entrywise []
  | k + 1 => ((trip_main_v2_0 _).trans (after_of_writes_sub condOps _ condOps_writes (by decide +kernel))).trans (carried_v2_0 k)

/-- The loop's buffer v2_1 keeps what it starts from. -/
theorem carried_v2_1 : ∀ k, rd (atK m k c) main_v2_1 = rd (V00 m c) main_arg1
  | 0 => by
    show afterL preI (launchContents m c) _ = _
    rw [afterL_cons, afterL_nil]
    simp only [hostOps0]
    after_results_entrywise []
  | k + 1 => ((trip_main_v2_1 _).trans (after_of_writes_sub condOps _ condOps_writes (by decide +kernel))).trans (carried_v2_1 k)

/-- The loop's buffer v2_2 keeps what it starts from. -/
theorem carried_v2_2 : ∀ k, rd (atK m k c) main_v2_2 = rd (V00 m c) main_arg3
  | 0 => by
    show afterL preI (launchContents m c) _ = _
    rw [afterL_cons, afterL_nil]
    simp only [hostOps0]
    after_results_entrywise []
  | k + 1 => ((trip_main_v2_2 _).trans (after_of_writes_sub condOps _ condOps_writes (by decide +kernel))).trans (carried_v2_2 k)

/-- The loop's buffer v2_3 keeps what it starts from. -/
theorem carried_v2_3 : ∀ k, rd (atK m k c) main_v2_3 = rd (V00 m c) main_arg2
  | 0 => by
    show afterL preI (launchContents m c) _ = _
    rw [afterL_cons, afterL_nil]
    simp only [hostOps0]
    after_results_entrywise []
  | k + 1 => ((trip_main_v2_3 _).trans (after_of_writes_sub condOps _ condOps_writes (by decide +kernel))).trans (carried_v2_3 k)

/-- The loop's buffer v2_4 keeps what it starts from. -/
theorem carried_v2_4 : ∀ k, rd (atK m k c) main_v2_4 = rd (V00 m c) main_arg4
  | 0 => by
    show afterL preI (launchContents m c) _ = _
    rw [afterL_cons, afterL_nil]
    simp only [hostOps0]
    after_results_entrywise []
  | k + 1 => ((trip_main_v2_4 _).trans (after_of_writes_sub condOps _ condOps_writes (by decide +kernel))).trans (carried_v2_4 k)

/-- The loop carries the hidden state. -/
theorem carried_h : ∀ k, rd (atK m k c) main_v2_6
    = refH (rd (V00 m c) main_arg0) (rd (V00 m c) main_arg1) (rd (V00 m c) main_arg2) (rd (V00 m c) main_arg3) (rd (V00 m c) main_arg4) k
  | 0 => by
    show afterL preI (launchContents m c) _ = _
    rw [afterL_cons, afterL_nil]
    simp only [hostOps0]
    after_results_entrywise []
  | k + 1 => by
    have hc : ∀ b, b ∉ condOps_W → rd (after condOps (atK m k c)) b = rd (atK m k c) b := fun b h => after_of_writes_sub condOps _ condOps_writes h
    refine (trip_gate _).trans ?_
    rw [hc main_v2_0 (by decide +kernel), hc main_v2_1 (by decide +kernel), hc main_v2_2 (by decide +kernel), hc main_v2_3 (by decide +kernel),
      hc main_v2_4 (by decide +kernel), hc main_v2_5 (by decide +kernel), hc main_v2_6 (by decide +kernel), carried_v2_0, carried_v2_1, carried_v2_2,
      carried_v2_3, carried_v2_4, carried_h k, show rd (atK m k c) main_v2_5 = _ from atK_ctr m c k, refH]
    rfl

/-! ## The whole result -/

/-- The stages after the loop in one. -/
def refTail (h : FVec F S16x32x64 .f32) (x : FVec F S16x64x32 .f32) (qw : FVec F S32x64 .f32) (qb : FVec F S32 .f32) (kw : FVec F S32x64 .f32) (kb : FVec F S32 .f32)
    (cw : FVec F S64x1x1 .f32) (cb : FVec F S64 .f32) (g0 : FVec F S64x64 .f32) (gb0 : FVec F S64 .f32) (c0 : FVec F S64x64x3 .f32) (cb0 : FVec F S64 .f32)
    (g1 : FVec F S64x64 .f32) (gb1 : FVec F S64 .f32) (c1 : FVec F S64x64x5 .f32) (cb1 : FVec F S64 .f32) (ow : FVec F S256x131072 .f32) (ob : FVec F S256 .f32) :
    FVec F S16x8x32 .f32 :=
  let w := refWeights (refExps (refScores (refAffine h qw qb) (refAffine h kw kb)))
  let n := refNorm w (refDinv (refDeg w))
  refHead (refLeaky (refConv5 (refPad2 (refGcn (refLeaky (refConv3 (refPad1 (refGcn (refNodes x cw cb) g0 n gb0)) c0 cb0)) g1 n gb1)) c1 cb1)) ow ob

/-- A buffer no stretch after the loop writes. -/
def KeptAfter (b : Ref sig .tc) : Prop :=
  b ∉ hostOps0_1_W ∧ b ∉ hostOps0_2_W ∧ b ∉ hostOps0_3_W ∧ b ∉ hostOps0_4_W ∧ b ∉ hostOps0_5_W ∧ b ∉ hostOps0_6_W
    ∧ b ∉ hostOps0_7_W ∧ b ∉ hostOps0_8_W ∧ b ∉ hostOps0_9_W ∧ b ∉ hostOps0_10_W ∧ b ∉ hostOps0_11_W

theorem keep_post1 (b : Ref sig .tc) (h : b ∉ hostOps0_1_W) : rd (after hostOps0_1 V) b = rd V b := after_of_writes_sub hostOps0_1 _ hostOps0_1_writes h
theorem keep_post2 (b : Ref sig .tc) (h : b ∉ hostOps0_2_W) : rd (after hostOps0_2 V) b = rd V b := after_of_writes_sub hostOps0_2 _ hostOps0_2_writes h
theorem keep_post3 (b : Ref sig .tc) (h : b ∉ hostOps0_3_W) : rd (after hostOps0_3 V) b = rd V b := after_of_writes_sub hostOps0_3 _ hostOps0_3_writes h
theorem keep_post4 (b : Ref sig .tc) (h : b ∉ hostOps0_4_W) : rd (after hostOps0_4 V) b = rd V b := after_of_writes_sub hostOps0_4 _ hostOps0_4_writes h
theorem keep_post5 (b : Ref sig .tc) (h : b ∉ hostOps0_5_W) : rd (after hostOps0_5 V) b = rd V b := after_of_writes_sub hostOps0_5 _ hostOps0_5_writes h
theorem keep_post6 (b : Ref sig .tc) (h : b ∉ hostOps0_6_W) : rd (after hostOps0_6 V) b = rd V b := after_of_writes_sub hostOps0_6 _ hostOps0_6_writes h
theorem keep_post7 (b : Ref sig .tc) (h : b ∉ hostOps0_7_W) : rd (after hostOps0_7 V) b = rd V b := after_of_writes_sub hostOps0_7 _ hostOps0_7_writes h
theorem keep_post8 (b : Ref sig .tc) (h : b ∉ hostOps0_8_W) : rd (after hostOps0_8 V) b = rd V b := after_of_writes_sub hostOps0_8 _ hostOps0_8_writes h
theorem keep_post9 (b : Ref sig .tc) (h : b ∉ hostOps0_9_W) : rd (after hostOps0_9 V) b = rd V b := after_of_writes_sub hostOps0_9 _ hostOps0_9_writes h
theorem keep_post10 (b : Ref sig .tc) (h : b ∉ hostOps0_10_W) : rd (after hostOps0_10 V) b = rd V b := after_of_writes_sub hostOps0_10 _ hostOps0_10_writes h
theorem keep_post11 (b : Ref sig .tc) (h : b ∉ hostOps0_11_W) : rd (after hostOps0_11 V) b = rd V b := after_of_writes_sub hostOps0_11 _ hostOps0_11_writes h

/-- The stretches after the loop keep what none of them writes. -/
theorem keep_post (b : Ref sig .tc) (h : KeptAfter b) : rd (afterL postI V) b = rd V b := by
  obtain ⟨h1, h2, h3, h4, h5, h6, h7, h8, h9, h10, h11⟩ := h
  simp only [postI, afterL_cons, afterL_nil]
  rw [keep_post11 _ b h11, keep_post10 _ b h10, keep_post9 _ b h9, keep_post8 _ b h8, keep_post7 _ b h7, keep_post6 _ b h6,
    keep_post5 _ b h5, keep_post4 _ b h4, keep_post3 _ b h3, keep_post2 _ b h2, keep_post1 _ b h1]

/-- The result after the loop is the stages'. -/
theorem post_value : rd (afterL postI V) main_v138
    = refTail (rd V main_v2_6) (rd V main_arg0) (rd V main_arg5) (rd V main_arg6) (rd V main_arg7) (rd V main_arg8) (rd V main_arg9) (rd V main_arg10) (rd V main_arg11) (rd V main_arg12) (rd V main_arg13) (rd V main_arg14) (rd V main_arg15) (rd V main_arg16) (rd V main_arg17) (rd V main_arg18) (rd V main_arg19) (rd V main_arg20) := by
  simp only [postI, afterL_cons, afterL_nil]
  rw [post11,
    keep_post10 _ main_arg19 (by decide +kernel),
    keep_post10 _ main_arg20 (by decide +kernel),
    post10,
    keep_post9 _ main_arg19 (by decide +kernel),
    keep_post9 _ main_arg20 (by decide +kernel),
    post9_pos,
    post9_conv,
    post9_small,
    keep_post8 _ main_arg17 (by decide +kernel),
    keep_post8 _ main_arg18 (by decide +kernel),
    keep_post8 _ main_arg19 (by decide +kernel),
    keep_post8 _ main_arg20 (by decide +kernel),
    post8,
    post7_pad,
    keep_post7 _ main_arg17 (by decide +kernel),
    keep_post7 _ main_arg18 (by decide +kernel),
    keep_post7 _ main_arg19 (by decide +kernel),
    keep_post7 _ main_arg20 (by decide +kernel),
    post7,
    keep_post6 _ main_arg15 (by decide +kernel),
    keep_post6 _ main_arg16 (by decide +kernel),
    keep_post6 _ main_arg17 (by decide +kernel),
    keep_post6 _ main_arg18 (by decide +kernel),
    keep_post6 _ main_arg19 (by decide +kernel),
    keep_post6 _ main_arg20 (by decide +kernel),
    keep_post6 _ main_v41 (by decide +kernel),
    post6,
    keep_post5 _ main_arg15 (by decide +kernel),
    keep_post5 _ main_arg16 (by decide +kernel),
    keep_post5 _ main_arg17 (by decide +kernel),
    keep_post5 _ main_arg18 (by decide +kernel),
    keep_post5 _ main_arg19 (by decide +kernel),
    keep_post5 _ main_arg20 (by decide +kernel),
    keep_post5 _ main_v41 (by decide +kernel),
    post5_pos,
    post5_conv,
    post5_small,
    keep_post4 _ main_arg13 (by decide +kernel),
    keep_post4 _ main_arg14 (by decide +kernel),
    keep_post4 _ main_arg15 (by decide +kernel),
    keep_post4 _ main_arg16 (by decide +kernel),
    keep_post4 _ main_arg17 (by decide +kernel),
    keep_post4 _ main_arg18 (by decide +kernel),
    keep_post4 _ main_arg19 (by decide +kernel),
    keep_post4 _ main_arg20 (by decide +kernel),
    keep_post4 _ main_v41 (by decide +kernel),
    post4,
    post3_pad,
    keep_post3 _ main_arg13 (by decide +kernel),
    keep_post3 _ main_arg14 (by decide +kernel),
    keep_post3 _ main_arg15 (by decide +kernel),
    keep_post3 _ main_arg16 (by decide +kernel),
    keep_post3 _ main_arg17 (by decide +kernel),
    keep_post3 _ main_arg18 (by decide +kernel),
    keep_post3 _ main_arg19 (by decide +kernel),
    keep_post3 _ main_arg20 (by decide +kernel),
    post3_norm,
    post3_gcn,
    keep_post2 _ main_arg0 (by decide +kernel),
    keep_post2 _ main_arg9 (by decide +kernel),
    keep_post2 _ main_arg10 (by decide +kernel),
    keep_post2 _ main_arg11 (by decide +kernel),
    keep_post2 _ main_arg12 (by decide +kernel),
    keep_post2 _ main_v28 (by decide +kernel),
    keep_post2 _ main_arg13 (by decide +kernel),
    keep_post2 _ main_arg14 (by decide +kernel),
    keep_post2 _ main_arg15 (by decide +kernel),
    keep_post2 _ main_arg16 (by decide +kernel),
    keep_post2 _ main_arg17 (by decide +kernel),
    keep_post2 _ main_arg18 (by decide +kernel),
    keep_post2 _ main_arg19 (by decide +kernel),
    keep_post2 _ main_arg20 (by decide +kernel),
    post2,
    keep_post1 _ main_arg0 (by decide +kernel),
    keep_post1 _ main_arg9 (by decide +kernel),
    keep_post1 _ main_arg10 (by decide +kernel),
    keep_post1 _ main_arg11 (by decide +kernel),
    keep_post1 _ main_arg12 (by decide +kernel),
    keep_post1 _ main_arg13 (by decide +kernel),
    keep_post1 _ main_arg14 (by decide +kernel),
    keep_post1 _ main_arg15 (by decide +kernel),
    keep_post1 _ main_arg16 (by decide +kernel),
    keep_post1 _ main_arg17 (by decide +kernel),
    keep_post1 _ main_arg18 (by decide +kernel),
    keep_post1 _ main_arg19 (by decide +kernel),
    keep_post1 _ main_arg20 (by decide +kernel),
    post1_pos,
    post1_inv,
    post1_zero,
    post1_weights]
  rfl

/-- A buffer nothing of the program writes. -/
theorem keep_all (b : Ref sig .tc) (h0 : b ∉ hostOps0_W) (h1 : b ∉ condOps_W) (h2 : b ∉ while0Ops0_W) (h3 : b ∉ while0Ops0_1_W) (h : KeptAfter b) :
    rd (finalContents condOps preI bodyI postI 64 m c) b = rd (V00 m c) b :=
  (keep_post _ b h).trans ((after_of_writes_sub condOps _ condOps_writes h1).trans (keep_loop m c b h0 h1 h2 h3 64))

/-- The reference's result as one function of its arguments. -/
def refOut (a : (b : Ref sig .tc) → (Proc.devRef (τ := τ) .tc b : DevRef τ sig).ty.Contents (Elt F)) : FVec F S16x8x32 .f32 :=
  refTail (refH (a main_arg0) (a main_arg1) (a main_arg2) (a main_arg3) (a main_arg4) 64) (a main_arg0) (a main_arg5) (a main_arg6) (a main_arg7) (a main_arg8) (a main_arg9) (a main_arg10) (a main_arg11) (a main_arg12) (a main_arg13) (a main_arg14) (a main_arg15) (a main_arg16) (a main_arg17) (a main_arg18) (a main_arg19) (a main_arg20)

/-- The result's buffer at the end. -/
theorem final_value : rd (finalContents condOps preI bodyI postI 64 m c) main_v138 = refOut (rd (V00 m c)) := by
  have hk : ∀ b, b ∉ hostOps0_W → b ∉ condOps_W → b ∉ while0Ops0_W → b ∉ while0Ops0_1_W →
      rd (after condOps (atK m 64 c)) b = rd (V00 m c) b := fun b h0 h1 h2 h3 =>
    (after_of_writes_sub condOps _ condOps_writes h1).trans (keep_loop m c b h0 h1 h2 h3 64)
  refine (post_value _).trans ?_
  rw [hk main_arg0 (by decide +kernel) (by decide +kernel) (by decide +kernel) (by decide +kernel), hk main_arg5 (by decide +kernel) (by decide +kernel) (by decide +kernel) (by decide +kernel), hk main_arg6 (by decide +kernel) (by decide +kernel) (by decide +kernel) (by decide +kernel), hk main_arg7 (by decide +kernel) (by decide +kernel) (by decide +kernel) (by decide +kernel), hk main_arg8 (by decide +kernel) (by decide +kernel) (by decide +kernel) (by decide +kernel), hk main_arg9 (by decide +kernel) (by decide +kernel) (by decide +kernel) (by decide +kernel), hk main_arg10 (by decide +kernel) (by decide +kernel) (by decide +kernel) (by decide +kernel), hk main_arg11 (by decide +kernel) (by decide +kernel) (by decide +kernel) (by decide +kernel), hk main_arg12 (by decide +kernel) (by decide +kernel) (by decide +kernel) (by decide +kernel), hk main_arg13 (by decide +kernel) (by decide +kernel) (by decide +kernel) (by decide +kernel), hk main_arg14 (by decide +kernel) (by decide +kernel) (by decide +kernel) (by decide +kernel), hk main_arg15 (by decide +kernel) (by decide +kernel) (by decide +kernel) (by decide +kernel), hk main_arg16 (by decide +kernel) (by decide +kernel) (by decide +kernel) (by decide +kernel), hk main_arg17 (by decide +kernel) (by decide +kernel) (by decide +kernel) (by decide +kernel), hk main_arg18 (by decide +kernel) (by decide +kernel) (by decide +kernel) (by decide +kernel), hk main_arg19 (by decide +kernel) (by decide +kernel) (by decide +kernel) (by decide +kernel), hk main_arg20 (by decide +kernel) (by decide +kernel) (by decide +kernel) (by decide +kernel),
    show rd (after condOps (atK m 64 c)) main_v2_6 = _ from (after_of_writes_sub condOps _ condOps_writes (by decide +kernel)).trans (carried_h m c 64)]
  rfl

set_option maxRecDepth 100000 in
/-- The reference's run: its result is `refOut` of its arguments, and they are unchanged. -/
theorem ref_run (ρ : Dev nD → PrngReg) : θ_run (defs (F := F)) (onTc (τ := τ) (main (F := F))) ⟨m, fun _ => 0, ρ⟩ (fun r => ∀ c : Dev nD,
    r.2.mem ((c.tc : Thread nD τ).loc main_v138) = refOut (fun b => m ((c.tc : Thread nD τ).loc b))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)) := by
  refine (θ_run _ _ _).mono (fun r h c => ?_) (run_fold m ρ)
  have hk : ∀ b : Ref sig .tc, (Proc.devRef .tc b : DevRef τ sig).isScoped = false → b ∉ hostOps0_W → b ∉ condOps_W → b ∉ while0Ops0_W → b ∉ while0Ops0_1_W → KeptAfter b →
      r.2.mem ((c.tc : Thread nD τ).loc b) = m ((c.tc : Thread nD τ).loc b) := fun b hb h0 h1 h2 h3 ha =>
    (h c b hb).trans (keep_all m c b h0 h1 h2 h3 ha)
  refine ⟨(h c main_v138 (by decide +kernel)).trans (final_value m c), hk main_arg0 ?_ ?_ ?_ ?_ ?_ ?_, hk main_arg1 ?_ ?_ ?_ ?_ ?_ ?_, hk main_arg2 ?_ ?_ ?_ ?_ ?_ ?_, hk main_arg3 ?_ ?_ ?_ ?_ ?_ ?_, hk main_arg4 ?_ ?_ ?_ ?_ ?_ ?_, hk main_arg5 ?_ ?_ ?_ ?_ ?_ ?_, hk main_arg6 ?_ ?_ ?_ ?_ ?_ ?_, hk main_arg7 ?_ ?_ ?_ ?_ ?_ ?_, hk main_arg8 ?_ ?_ ?_ ?_ ?_ ?_, hk main_arg9 ?_ ?_ ?_ ?_ ?_ ?_, hk main_arg10 ?_ ?_ ?_ ?_ ?_ ?_, hk main_arg11 ?_ ?_ ?_ ?_ ?_ ?_, hk main_arg12 ?_ ?_ ?_ ?_ ?_ ?_, hk main_arg13 ?_ ?_ ?_ ?_ ?_ ?_, hk main_arg14 ?_ ?_ ?_ ?_ ?_ ?_, hk main_arg15 ?_ ?_ ?_ ?_ ?_ ?_, hk main_arg16 ?_ ?_ ?_ ?_ ?_ ?_, hk main_arg17 ?_ ?_ ?_ ?_ ?_ ?_, hk main_arg18 ?_ ?_ ?_ ?_ ?_ ?_, hk main_arg19 ?_ ?_ ?_ ?_ ?_ ?_, hk main_arg20 ?_ ?_ ?_ ?_ ?_ ?_⟩
  all_goals first | decide +kernel | (unfold KeptAfter; decide +kernel)

end Cert.ReferenceIdeal.Value

end
-- ==== Proof.Own.Spec.lean ====
module

public import Idealize.ShloMosaic.Lib.Pointwise

@[expose] public section

noncomputable section

/-! The network of one sample, in plain mathematics over the extended reals: what the reference and the
    kernel both come to. Every array is a function of its coordinates. -/

namespace Cert.Math

open Idealize.ShloMosaic

/-- One over one and the exponential of the negation. -/
def sg (v : EReal) : EReal := Ideal.div 1 (1 + Ideal.exp (-v))

/-- One step of the gated recurrent unit at a feature: the input's share of the three gates, the hidden state's
    share of them, and the hidden state. -/
def gate (ir iz ic hr hz hc h : EReal) : EReal :=
  (1 - sg (iz + hz)) * Ideal.tanh (ic + sg (ir + hr) * hc) + sg (iz + hz) * h

/-- The first, second and third 64 of 192. -/
def at0 (e : Fin 64) : Fin 192 := ⟨e, by omega⟩
@[inherit_doc at0] def at1 (e : Fin 64) : Fin 192 := ⟨64 + e, by omega⟩
@[inherit_doc at0] def at2 (e : Fin 64) : Fin 192 := ⟨128 + e, by omega⟩

/-- A node's hidden state after some steps over its series `x`. -/
def gru (x : ℕ → EReal) (wih : Fin 192 → EReal) (whh : Fin 192 → Fin 64 → EReal) (bih bhh : Fin 192 → EReal) : ℕ → Fin 64 → EReal
  | 0 => fun _ => 0
  | k + 1 => fun e =>
    let gi j := x k * wih j + bih j
    let gh j := ∑ d, gru x wih whh bih bhh k d * whh j d + bhh j
    gate (gi (at0 e)) (gi (at1 e)) (gi (at2 e)) (gh (at0 e)) (gh (at1 e)) (gh (at2 e)) (gru x wih whh bih bhh k e)

/-- An affine map. -/
def aff (h : Fin 64 → EReal) (w : Fin 32 → Fin 64 → EReal) (b : Fin 32 → EReal) (e : Fin 32) : EReal := ∑ d, h d * w e d + b e

/-- The attention scores of a sample's nodes. -/
def score (q k : Fin 32 → Fin 32 → EReal) (i j : Fin 32) : EReal := Ideal.div (∑ e, q i e * k j e) (Ideal.sqrt (Ideal.ofBits .f32 1107296256#32))

/-- The exponentials of the scores less their row's greatest. -/
def exps (s : Fin 32 → Fin 32 → EReal) (i j : Fin 32) : EReal := Ideal.exp (s i j - Finset.univ.fold max ⊥ fun x => s i x)

/-- The rows divided by their sums. -/
def wts (e : Fin 32 → Fin 32 → EReal) (i j : Fin 32) : EReal := Ideal.div (e i j) (∑ x, e i x)

/-- The reciprocal root of a positive degree, zero of any other. -/
def dinv (d : EReal) : EReal := if 0 < d then Ideal.div 1 (Ideal.sqrt d) else 0

/-- The degree of a node: the weights of the edges into it. -/
def deg (w : Fin 32 → Fin 32 → EReal) (j : Fin 32) : EReal := ∑ i, w i j

/-- The weights normalised on both sides. -/
def adj (w : Fin 32 → Fin 32 → EReal) (i j : Fin 32) : EReal := dinv (deg w i) * w i j * dinv (deg w j)

/-- A product with a square matrix. -/
def mix (f : Fin 64 → EReal) (g : Fin 64 → Fin 64 → EReal) (d : Fin 64) : EReal := ∑ e, f e * g d e

/-- One graph convolution: mixed features summed over the edges into a node. -/
def gcn (a : Fin 32 → Fin 32 → EReal) (f : Fin 64 → Fin 32 → Fin 64 → EReal) (g : Fin 64 → Fin 64 → EReal) (b : Fin 64 → EReal)
    (t : Fin 64) (j : Fin 32) (d : Fin 64) : EReal := ∑ i, mix (f t i) g d * a i j + b d

/-- A series of 64 with zeros before and after it. -/
def padded (p : ℕ) (f : Fin 64 → Fin 32 → Fin 64 → EReal) (t : ℕ) (i : Fin 32) (d : Fin 64) : EReal :=
  if h : p ≤ t ∧ t - p < 64 then f ⟨t - p, h.2⟩ i d else 0

/-- The leaky rectifier. -/
def leaky (v : EReal) : EReal := if 0 < v then v else Ideal.ofBits .f32 1008981770#32 * v

/-- Three taps along time. -/
def conv3 (f : Fin 64 → Fin 32 → Fin 64 → EReal) (w : Fin 64 → Fin 64 → Fin 3 → EReal) (b : Fin 64 → EReal) (t : Fin 64) (i : Fin 32) (d : Fin 64) : EReal :=
  leaky (mix (padded 1 f t i) (fun d e => w d e 0) d + mix (padded 1 f (1 + t) i) (fun d e => w d e 1) d
    + mix (padded 1 f (2 + t) i) (fun d e => w d e 2) d + b d)

/-- Five taps along time. -/
def conv5 (f : Fin 64 → Fin 32 → Fin 64 → EReal) (w : Fin 64 → Fin 64 → Fin 5 → EReal) (b : Fin 64 → EReal) (t : Fin 64) (i : Fin 32) (d : Fin 64) : EReal :=
  leaky (mix (padded 2 f t i) (fun d e => w d e 0) d + mix (padded 2 f (1 + t) i) (fun d e => w d e 1) d
    + mix (padded 2 f (2 + t) i) (fun d e => w d e 2) d + mix (padded 2 f (3 + t) i) (fun d e => w d e 3) d
    + mix (padded 2 f (4 + t) i) (fun d e => w d e 4) d + b d)

/-- The last layer at one output: time, node and feature laid out in one row. -/
def head (f : Fin 64 → Fin 32 → Fin 64 → EReal) (w : Fin 131072 → EReal) (b : EReal) : EReal :=
  ∑ k : Fin 131072, f ⟨k / 2048, by omega⟩ ⟨k / 64 % 32, by omega⟩ ⟨k % 64, by omega⟩ * w k + b

/-- The hidden states of a sample's nodes after the whole series. -/
def hid (x : Fin 64 → Fin 32 → EReal) (wih : Fin 192 → EReal) (whh : Fin 192 → Fin 64 → EReal) (bih bhh : Fin 192 → EReal) (i : Fin 32) : Fin 64 → EReal :=
  gru (fun k => if h : k < 64 then x ⟨k, h⟩ i else 0) wih whh bih bhh 64

/-- The normalised attention over a sample's nodes. -/
def attn (h : Fin 32 → Fin 64 → EReal) (qw : Fin 32 → Fin 64 → EReal) (qb : Fin 32 → EReal) (kw : Fin 32 → Fin 64 → EReal) (kb : Fin 32 → EReal) : Fin 32 → Fin 32 → EReal :=
  adj (wts (exps (score (fun i => aff (h i) qw qb) (fun i => aff (h i) kw kb))))

/-- The features after both graph convolutions and both convolutions along time. -/
def feats (a : Fin 32 → Fin 32 → EReal) (x : Fin 64 → Fin 32 → EReal) (cw cb : Fin 64 → EReal) (g0 : Fin 64 → Fin 64 → EReal) (gb0 : Fin 64 → EReal)
    (c0 : Fin 64 → Fin 64 → Fin 3 → EReal) (cb0 : Fin 64 → EReal) (g1 : Fin 64 → Fin 64 → EReal) (gb1 : Fin 64 → EReal) (c1 : Fin 64 → Fin 64 → Fin 5 → EReal) (cb1 : Fin 64 → EReal) :
    Fin 64 → Fin 32 → Fin 64 → EReal :=
  conv5 (gcn a (conv3 (gcn a (fun t i d => x t i * cw d + cb d) g0 gb0) c0 cb0) g1 gb1) c1 cb1

end Cert.Math

end
-- ==== Proof.Own.KModel.lean ====
module

public import proofs.«01_k».proof.Proof.Own.KRuns
public import proofs.«01_k».proof.Proof.Own.Spec

@[expose] public section

set_option maxRecDepth 8192

noncomputable section

/-! What the kernel's body computes, stage by stage, the time step a variable. -/

namespace Cert.KernelIdeal.Model

open Cert.KernelIdeal Cert.KernelIdeal.Gen
open Idealize.ShloMosaic Idealize.ShloMosaic.TcCoe Idealize.ShloMosaic.Tactic

section Stages

variable {F : FTy → Type} [FloatOps F]

/-- A block of rows times a square matrix. -/
def kTap (x : FVec F S512x64 .f32) (w : FVec F S64x64 .f32) : FVec F S512x64 .f32 :=
  matmul dot_S512x64_S64x64_S512x64_1_0_0_1_n_n none x w (constant S512x64 .f32 0x00000000#32)

/-- A bias row added and the leaky rectifier. -/
def kAct (v : FVec F S512x64 .f32) (b : FVec F S1x64 .f32) : FVec F S512x64 .f32 :=
  let u := addf v (broadcastTo S512x64 b broadcasts_S1x64_S512x64)
  select (cmpf .ogt u (broadcast S512x64 (Scalar.ofBits .f32 0x00000000#32))) u (mulf (broadcast S512x64 (Scalar.ofBits .f32 0x3C23D70A#32)) u)

/-- The node features of one time step, mixed. -/
def kPiece (cw cb : FVec F S1x64 .f32) (g0 : FVec F S64x64 .f32) (x : FVec F S1x512x1 .f32) : FVec F S512x64 .f32 :=
  kTap (addf (mulf (broadcastTo S512x64 (shapeCast S512x1 x shapeCasts_S1x512x1_S512x1) broadcasts_S512x1_S512x64) (broadcastTo S512x64 cw broadcasts_S1x64_S512x64))
    (broadcastTo S512x64 cb broadcasts_S1x64_S512x64)) g0

theorem slabs_fit (f : Fin 64 → FVec F S512x64 .f32) :
    Shape.Concatenates ((List.ofFn fun t => (⟨S512x64, f t⟩ : (s : Shape) × (s.Idx → F .f32))).map (·.1)) S512x4096 1 := by
  rw [List.map_ofFn]
  refine ⟨by simp, fun s hs => ?_, by simp⟩
  obtain ⟨_, rfl⟩ := List.mem_ofFn.mp hs
  exact ⟨rfl, show ∀ b : Fin 2, b ≠ 1 → S512x64.size b = S512x4096.size b by decide⟩

/-- The 64 time steps side by side. -/
def kCat (f : Fin 64 → FVec F S512x64 .f32) : FVec F S512x4096 .f32 :=
  concatenate S512x4096 1 (List.ofFn fun t => ⟨S512x64, f t⟩) (slabs_fit f)

/-- The features of every time step summed over the graph, and the bias. -/
def kMix (A : FVec F S512x512 .f32) (f : Fin 64 → FVec F S512x64 .f32) (b : FVec F S1x4096 .f32) : FVec F S512x4096 .f32 :=
  addf (matmul dot_S512x512_S512x4096_S512x4096_1_0_0_1_n_n none A (kCat f) (constant S512x4096 .f32 0x00000000#32))
    (broadcastTo S512x4096 (shapeCast S1x4096 b shapeCasts_S1x4096_S1x4096) broadcasts_S1x4096_S512x4096)

/-- One time step of the features. -/
def kPart (m : FVec F S512x4096 .f32) (t : ℕ) (h : t < 64) : FVec F S512x64 .f32 :=
  extractStridedSlice S512x64 ![0, t * 64] m ⟨rfl, by
    intro a
    fin_cases a
    · show 0 + 512 ≤ 512
      omega
    · show t * 64 + 64 ≤ 4096
      omega⟩

/-- Three taps along time, the first and the last step without the tap that falls outside. -/
def kConv3 (m : FVec F S512x4096 .f32) (t0 t1 t2 : FVec F S64x64 .f32) (b : FVec F S1x64 .f32) : Fin 64 → FVec F S512x64 .f32
  | ⟨0, _⟩ => kAct (addf (kTap (kPart m 0 (by decide)) t1) (kTap (kPart m 1 (by decide)) t2)) b
  | ⟨t + 1, h⟩ =>
    if h' : t + 2 < 64 then kAct (addf (addf (kTap (kPart m t (by omega)) t0) (kTap (kPart m (t + 1) h) t1)) (kTap (kPart m (t + 2) h') t2)) b
    else kAct (addf (kTap (kPart m t (by omega)) t0) (kTap (kPart m (t + 1) h) t1)) b

/-- Five taps along time, the first two and the last two steps without the taps that fall outside. -/
def kConv5 (m : FVec F S512x4096 .f32) (t0 t1 t2 t3 t4 : FVec F S64x64 .f32) (b : FVec F S1x64 .f32) : Fin 64 → FVec F S512x64 .f32
  | ⟨0, _⟩ => kAct (addf (addf (kTap (kPart m 0 (by decide)) t2) (kTap (kPart m 1 (by decide)) t3)) (kTap (kPart m 2 (by decide)) t4)) b
  | ⟨1, _⟩ => kAct (addf (addf (addf (kTap (kPart m 0 (by decide)) t1) (kTap (kPart m 1 (by decide)) t2)) (kTap (kPart m 2 (by decide)) t3)) (kTap (kPart m 3 (by decide)) t4)) b
  | ⟨t + 2, h⟩ =>
    if h4 : t + 4 < 64 then
      kAct (addf (addf (addf (addf (kTap (kPart m t (by omega)) t0) (kTap (kPart m (t + 1) (by omega)) t1)) (kTap (kPart m (t + 2) h) t2)) (kTap (kPart m (t + 3) (by omega)) t3)) (kTap (kPart m (t + 4) h4) t4)) b
    else if h3 : t + 3 < 64 then
      kAct (addf (addf (addf (kTap (kPart m t (by omega)) t0) (kTap (kPart m (t + 1) (by omega)) t1)) (kTap (kPart m (t + 2) h) t2)) (kTap (kPart m (t + 3) h3) t3)) b
    else kAct (addf (addf (kTap (kPart m t (by omega)) t0) (kTap (kPart m (t + 1) (by omega)) t1)) (kTap (kPart m (t + 2) h) t2)) b

/-- One time step laid out a sample a row. -/
def kChunk (y : FVec F S512x64 .f32) : FVec F S16x2048 .f32 :=
  transpose S16x2048 [1, 0] (shapeCast S2048x16 (transpose S32x64x16 [0, 2, 1] (shapeCast S32x16x64 y shapeCasts_S512x64_S32x16x64) transposes_S32x16x64_p0_2_1_S32x64x16)
    shapeCasts_S32x64x16_S2048x16) transposes_S2048x16_p1_0_S16x2048

/-- Two time steps times their block of the head's weight. -/
def kTerm (x y : FVec F S16x2048 .f32) (w : FVec F S1x256x4096 .f32) : FVec F S16x256 .f32 :=
  matmul dot_S16x4096_S256x4096_S16x256_1_1_0_0_n_n none (concatenate S16x4096 1 [⟨S16x2048, x⟩, ⟨S16x2048, y⟩] concatenates_S16x2048_S16x2048_S16x4096_d1)
    (shapeCast S256x4096 w shapeCasts_S1x256x4096_S256x4096) (constant S16x256 .f32 0x00000000#32)

/-- The head's bias and the first `n` blocks of the head's sum. -/
def kAcc (lb : FVec F S1x256 .f32) (f : Fin 64 → FVec F S16x2048 .f32) (w : Fin 32 → FVec F S1x256x4096 .f32) : (n : ℕ) → n ≤ 32 → FVec F S16x256 .f32
  | 0, _ => broadcastTo S16x256 lb broadcasts_S1x256_S16x256
  | n + 1, h => addf (kAcc lb f w n (by omega)) (kTerm (f ⟨2 * n, by omega⟩) (f ⟨2 * n + 1, by omega⟩) (w ⟨n, h⟩))

end Stages

section Indexed

open Cert.Math

variable (r c : Fin 512) (t : Fin 64) (d : Fin 64) (s : Fin 16) (i j : Fin 32)

theorem kTap_at (x : FVec Ideal S512x64 .f32) (w : FVec Ideal S64x64 .f32) : kTap x w (ix2 r d) = ∑ e, x (ix2 r e) * w (ix2 e d) := by
  pointwise [kTap]

theorem kAct_at (v : FVec Ideal S512x64 .f32) (b : FVec Ideal S1x64 .f32) : kAct v b (ix2 r d) = leaky (v (ix2 r d) + b (ix2 0 d)) := by
  pointwise [kAct]
  rfl

theorem kPiece_at (cw cb : FVec Ideal S1x64 .f32) (g0 : FVec Ideal S64x64 .f32) (x : FVec Ideal S1x512x1 .f32) :
    kPiece cw cb g0 x (ix2 r d) = ∑ e, (x (ix3 0 r 0) * cw (ix2 0 e) + cb (ix2 0 e)) * g0 (ix2 e d) := by
  pointwise [kPiece, kTap]

/-- Equal slabs side by side, read at a column. -/
theorem slabs_at {α : Type} (r : Fin 512) (q : Fin 4096) : ∀ (n : ℕ) (f : Fin (n + 1) → (S512x64.Idx → α)) (xs : List ((s : Shape) × (s.Idx → α)))
    (_ : xs = List.ofFn fun k => ⟨S512x64, f k⟩) (hs : ∀ s ∈ xs.map (·.1), s.FitsOff S512x4096 1) (c : ℕ) (hc : c < (axisSizes S512x4096 1 xs).sum)
    (k : Fin (n + 1)) (d : Fin 64) (_ : c = k * 64 + d), concatenateAt S512x4096 1 (ix2 r q) xs hs c hc = f k (ix2 r d)
  | 0, f, xs, hx, hs, c, hc, k, d, e => by
    rw [List.ofFn_succ, List.ofFn_zero] at hx
    subst hx
    rw [concatenateAt_singleton]
    obtain ⟨k, hk⟩ := k
    obtain rfl : k = 0 := by omega
    refine congrArg (f 0) (funext fun b => ?_)
    fin_cases b
    · rfl
    · exact Fin.ext (show c = d by simpa using e)
  | n + 1, f, xs, hx, hs, c, hc, k, d, e => by
    rw [List.ofFn_succ, List.ofFn_succ] at hx
    subst hx
    rw [concatenateAt_cons]
    refine Fin.cases (fun e => ?_) (fun k e => ?_) k e
    · refine (dif_pos (show c < 64 by simp at e; omega)).trans ?_
      refine congrArg (f 0) (funext fun b => ?_)
      fin_cases b
      · rfl
      · exact Fin.ext (show c = d by simpa using e)
    · refine (dif_neg (show ¬c < 64 by simp at e; omega)).trans ?_
      refine slabs_at r q n (fun k => f k.succ) _ ?_ _ _ _ k d ?_
      · rw [List.ofFn_succ]
      · show c - 64 = k * 64 + d
        simp at e
        omega

theorem kCat_at (f : Fin 64 → FVec Ideal S512x64 .f32) : kCat f (ix2 r ⟨t * 64 + d, by omega⟩) = f t (ix2 r d) := by
  rw [kCat, concatenate_apply]
  exact slabs_at r _ 63 f _ rfl _ _ _ t d rfl

theorem kPart_at (m : FVec Ideal S512x4096 .f32) (h : (t : ℕ) < 64) : kPart m t h (ix2 r d) = m (ix2 r ⟨t * 64 + d, by omega⟩) := by
  pointwise [kPart]

/-- The row of a node of a sample. -/
def row (i : Fin 32) (s : Fin 16) : Fin 512 := ⟨i * 16 + s, by omega⟩

/-- A stack of time steps, read as one sample's features. -/
def feat (m : FVec Ideal S512x4096 .f32) (s : Fin 16) (t : Fin 64) (i : Fin 32) (d : Fin 64) : EReal := m (ix2 (row i s) ⟨t * 64 + d, by omega⟩)

theorem tap_at (m : FVec Ideal S512x4096 .f32) (w : FVec Ideal S64x64 .f32) (k : ℕ) (h : k < 64) :
    kTap (kPart m k h) w (ix2 (row i s) d) = mix (feat m s ⟨k, h⟩ i) (fun d e => w (ix2 e d)) d := by
  rw [kTap_at]
  exact Finset.sum_congr rfl fun e _ => congrArg (· * w (ix2 e d)) (kPart_at (row i s) ⟨k, h⟩ e m h)

theorem add_at (x y : FVec Ideal S512x64 .f32) : addf x y (ix2 r d) = x (ix2 r d) + y (ix2 r d) := rfl

theorem padded_in (p : ℕ) (f : Fin 64 → Fin 32 → Fin 64 → EReal) (k u : ℕ) (h : k < 64) (e : u = k + p) : padded p f u i = f ⟨k, h⟩ i := by
  subst e
  funext d
  rw [padded, dif_pos ⟨by omega, by omega⟩]
  exact congrArg (fun k => f k i d) (Fin.ext (Nat.add_sub_cancel k p))

theorem padded_out (p : ℕ) (f : Fin 64 → Fin 32 → Fin 64 → EReal) (u : ℕ) (h : u < p ∨ 64 + p ≤ u) (g : Fin 64 → Fin 64 → EReal) : mix (padded p f u i) g d = 0 := by
  refine Finset.sum_eq_zero fun e _ => ?_
  rw [padded, dif_neg (by omega), zero_mul]

theorem kConv3_at (m : FVec Ideal S512x4096 .f32) (t0 t1 t2 : FVec Ideal S64x64 .f32) (b : FVec Ideal S1x64 .f32) :
    kConv3 m t0 t1 t2 b t (ix2 (row i s) d)
      = conv3 (feat m s) (fun d e (u : Fin 3) => (![t0, t1, t2] u) (ix2 e d)) (fun d => b (ix2 0 d)) t i d := by
  unfold conv3
  match t with
  | ⟨0, _⟩ =>
    rw [padded_out d i 1 _ 0 (by omega), padded_in i 1 _ 0 (1 + 0) (by decide) rfl, padded_in i 1 _ 1 (2 + 0) (by decide) rfl, zero_add]
    simp only [kConv3, kAct_at, add_at, tap_at]
    rfl
  | ⟨k + 1, h⟩ =>
    rw [padded_in i 1 _ k (k + 1) (by omega) rfl, padded_in i 1 _ (k + 1) (1 + (k + 1)) h (by omega)]
    by_cases h' : k + 2 < 64
    · rw [padded_in i 1 _ (k + 2) (2 + (k + 1)) h' (by omega)]
      simp only [kConv3, dif_pos h', kAct_at, add_at, tap_at]
      rfl
    · rw [padded_out d i 1 _ (2 + (k + 1)) (by omega), add_zero]
      simp only [kConv3, dif_neg h', kAct_at, add_at, tap_at]
      rfl

theorem kConv5_at (m : FVec Ideal S512x4096 .f32) (t0 t1 t2 t3 t4 : FVec Ideal S64x64 .f32) (b : FVec Ideal S1x64 .f32) :
    kConv5 m t0 t1 t2 t3 t4 b t (ix2 (row i s) d)
      = conv5 (feat m s) (fun d e (u : Fin 5) => (![t0, t1, t2, t3, t4] u) (ix2 e d)) (fun d => b (ix2 0 d)) t i d := by
  unfold conv5
  match t with
  | ⟨0, _⟩ =>
    rw [padded_out d i 2 _ 0 (by omega), padded_out d i 2 _ (1 + 0) (by omega), padded_in i 2 _ 0 (2 + 0) (by decide) rfl, padded_in i 2 _ 1 (3 + 0) (by decide) rfl, padded_in i 2 _ 2 (4 + 0) (by decide) rfl, zero_add, zero_add]
    simp only [kConv5, kAct_at, add_at, tap_at]
    rfl
  | ⟨1, _⟩ =>
    rw [padded_out d i 2 _ 1 (by omega), padded_in i 2 _ 0 (1 + 1) (by decide) rfl, padded_in i 2 _ 1 (2 + 1) (by decide) rfl, padded_in i 2 _ 2 (3 + 1) (by decide) rfl, padded_in i 2 _ 3 (4 + 1) (by decide) rfl, zero_add]
    simp only [kConv5, kAct_at, add_at, tap_at]
    rfl
  | ⟨k + 2, h⟩ =>
    rw [padded_in i 2 _ k (k + 2) (by omega) rfl, padded_in i 2 _ (k + 1) (1 + (k + 2)) (by omega) (by omega), padded_in i 2 _ (k + 2) (2 + (k + 2)) h (by omega)]
    by_cases h4 : k + 4 < 64
    · rw [padded_in i 2 _ (k + 3) (3 + (k + 2)) (by omega) (by omega), padded_in i 2 _ (k + 4) (4 + (k + 2)) h4 (by omega)]
      simp only [kConv5, dif_pos h4, kAct_at, add_at, tap_at]
      rfl
    · rw [padded_out d i 2 _ (4 + (k + 2)) (by omega), add_zero]
      by_cases h3 : k + 3 < 64
      · rw [padded_in i 2 _ (k + 3) (3 + (k + 2)) h3 (by omega)]
        simp only [kConv5, dif_neg h4, dif_pos h3, kAct_at, add_at, tap_at]
        rfl
      · rw [padded_out d i 2 _ (3 + (k + 2)) (by omega), add_zero]
        simp only [kConv5, dif_neg h4, dif_neg h3, kAct_at, add_at, tap_at]
        rfl

theorem kChunk_at (y : FVec Ideal S512x64 .f32) : kChunk y (ix2 s ⟨i * 64 + d, by omega⟩) = y (ix2 (row i s) d) := by
  pointwise [kChunk]
  all_goals rfl

/-- A sum cut in blocks of equal length. -/
theorem sum_blocks (a b N : ℕ) (h : a * b = N) (g : Fin N → EReal) :
    ∑ k, g k = ∑ i : Fin a, ∑ q : Fin b, g ⟨i * b + q, by
      have := Nat.mul_le_mul_right b (show (i : ℕ) + 1 ≤ a from i.2)
      have := q.2
      rw [Nat.add_mul] at *
      omega⟩ := by
  subst h
  rw [← Fintype.sum_prod_type']
  refine (Fintype.sum_equiv finProdFinEquiv _ _ fun x => congrArg g (Fin.ext ?_)).symm
  show (x.1 : ℕ) * b + x.2 = x.2 + b * x.1
  rw [Nat.mul_comm, Nat.add_comm]

theorem kTerm_at (x y : FVec Ideal S16x2048 .f32) (w : FVec Ideal S1x256x4096 .f32) (o : Fin 256) :
    kTerm x y w (ix2 s o) = ∑ q : Fin 2048, x (ix2 s q) * w (ix3 0 o ⟨q, by omega⟩) + ∑ q : Fin 2048, y (ix2 s q) * w (ix3 0 o ⟨2048 + q, by omega⟩) := by
  pointwise [kTerm]

theorem kAcc_at (lb : FVec Ideal S1x256 .f32) (f : Fin 64 → FVec Ideal S16x2048 .f32) (w : Fin 32 → FVec Ideal S1x256x4096 .f32) (o : Fin 256) :
    ∀ (n : ℕ) (h : n ≤ 32), kAcc lb f w n h (ix2 s o)
      = ∑ k : Fin n, kTerm (f ⟨2 * k, by omega⟩) (f ⟨2 * k + 1, by omega⟩) (w ⟨k, by omega⟩) (ix2 s o) + lb (ix2 0 o)
  | 0, _ => by
    rw [Finset.univ_eq_empty, Finset.sum_empty, zero_add]
    pointwise [kAcc]
  | n + 1, h => by
    rw [Fin.sum_univ_castSucc, add_right_comm]
    refine (show kAcc lb f w (n + 1) h (ix2 s o) = kAcc lb f w n (by omega) (ix2 s o) + kTerm (f ⟨2 * n, by omega⟩) (f ⟨2 * n + 1, by omega⟩) (w ⟨n, h⟩) (ix2 s o) from rfl).trans ?_
    rw [kAcc_at lb f w o n]
    rfl

/-- A time step's row read at any column. -/
theorem kChunk_col (y : Fin 64 → FVec Ideal S512x64 .f32) (t t' : Fin 64) (q : Fin 2048) (i : Fin 32) (d : Fin 64) (e0 : (t : ℕ) = t') (e : (q : ℕ) = i * 64 + d) :
    kChunk (y t) (ix2 s q) = y t' (ix2 (row i s) d) := by
  obtain rfl := Fin.ext e0
  have h : (i : ℕ) * 64 + d < 2048 := by have := i.2; have := d.2; omega
  rw [show q = ⟨i * 64 + d, h⟩ from Fin.ext e]
  exact kChunk_at d s i (y t)

/-- The head's whole sum is the last layer of the sample's network. -/
theorem kHead_at (lb : FVec Ideal S1x256 .f32) (y : Fin 64 → FVec Ideal S512x64 .f32) (w : Fin 32 → FVec Ideal S1x256x4096 .f32) (o : Fin 256) (W : Fin 131072 → EReal)
    (hw : ∀ (k : Fin 32) (q : Fin 4096), w k (ix3 0 o q) = W ⟨k * 4096 + q, by omega⟩) :
    kAcc lb (fun t => kChunk (y t)) w 32 le_rfl (ix2 s o) = head (fun t i d => y t (ix2 (row i s) d)) W (lb (ix2 0 o)) := by
  rw [kAcc_at, head, sum_blocks 64 2048 131072 rfl, sum_blocks 32 2 64 rfl]
  refine congrArg (· + lb (ix2 0 o)) (Finset.sum_congr rfl fun k _ => ?_)
  rw [kTerm_at, Fin.sum_univ_two]
  refine congrArg₂ (· + ·) (Finset.sum_congr rfl fun q _ => ?_) (Finset.sum_congr rfl fun q _ => ?_)
  · rw [hw]
    refine congrArg₂ (· * ·) (kChunk_col s y _ _ q _ _ ?_ ?_) (congrArg W (Fin.ext ?_))
    · show 2 * (k : ℕ) = ((k * 2 + 0) * 2048 + q) / 2048
      omega
    · show (q : ℕ) = ((k * 2 + 0) * 2048 + q) / 64 % 32 * 64 + ((k * 2 + 0) * 2048 + q) % 64
      omega
    · show (k : ℕ) * 4096 + q = (k * 2 + 0) * 2048 + q
      omega
  · rw [hw]
    refine congrArg₂ (· * ·) (kChunk_col s y _ _ q _ _ ?_ ?_) (congrArg W (Fin.ext ?_))
    · show 2 * (k : ℕ) + 1 = ((k * 2 + 1) * 2048 + q) / 2048
      omega
    · show (q : ℕ) = ((k * 2 + 1) * 2048 + q) / 64 % 32 * 64 + ((k * 2 + 1) * 2048 + q) % 64
      omega
    · show (k : ℕ) * 4096 + (2048 + q) = (k * 2 + 1) * 2048 + q
      omega

theorem kMix_at (A : FVec Ideal S512x512 .f32) (f : Fin 64 → FVec Ideal S512x64 .f32) (b : FVec Ideal S1x4096 .f32) :
    kMix A f b (ix2 r ⟨t * 64 + d, by omega⟩) = ∑ c, A (ix2 r c) * f t (ix2 c d) + b (ix2 0 ⟨t * 64 + d, by omega⟩) := by
  rw [show kMix A f b (ix2 r ⟨t * 64 + d, by omega⟩) = ∑ c, A (ix2 r c) * kCat f (ix2 c ⟨t * 64 + d, by omega⟩) + b (ix2 0 ⟨t * 64 + d, by omega⟩) by
    pointwise [kMix]]
  simp only [kCat_at]

/-- Over a matrix that joins only rows of one sample, the sum over all rows is the sum over the sample's nodes. -/
theorem sum_sample (g : Fin 512 → EReal) (s : Fin 16) (a : Fin 512 → EReal) (ha : ∀ i s', s' ≠ s → a (row i s') = 0) :
    ∑ c, a c * g c = ∑ i, a (row i s) * g (row i s) := by
  rw [sum_blocks 32 16 512 rfl]
  refine Finset.sum_congr rfl fun i _ => ?_
  refine (Finset.sum_eq_single s (fun s' _ h => ?_) fun h => absurd (Finset.mem_univ _) h)
  rw [show (⟨i * 16 + s', _⟩ : Fin 512) = row i s' from rfl, ha i s' h, zero_mul]

end Indexed

end Cert.KernelIdeal.Model

end
-- ==== Proof.Own.KAtt.lean ====
module

public import proofs.«01_k».proof.Proof.Own.KModel

@[expose] public section

set_option maxRecDepth 8192

noncomputable section

/-! The kernel's attention matrix, read at an index. -/

namespace Cert.KernelIdeal.Model

open Cert.KernelIdeal Cert.KernelIdeal.Gen
open Idealize.ShloMosaic Idealize.ShloMosaic.TcCoe Idealize.ShloMosaic.Tactic
open Cert.Math

/-- The remainder by the batch, as the kernel takes it. -/
def kRem (v : IVec S512x512 32) : IVec S512x512 32 :=
  let n : BitVec 32 := Scalar.select (Scalar.cmpi .eq 16#32 0#32) 1#32 16#32
  let w : IVec S512x512 32 := remsi v (broadcast S512x512 n)
  select (andi (xori (cmpi .slt w (broadcast S512x512 0#32)) (broadcastTo S512x512 (broadcast S512x512 (Scalar.cmpi .slt n 0#32)) broadcasts_S512x512_S512x512))
    (cmpi .ne w (broadcast S512x512 0#32))) (addi w (broadcast S512x512 n)) w

/-- Which pairs of rows belong to one sample. -/
def kSame : IVec S512x512 1 :=
  cmpi .eq (kRem (iota .tc S512x512 32 [0] iota_S512x512_d0_w32)) (kRem (iota .tc S512x512 32 [1] iota_S512x512_d1_w32))

/-- The remainder of a small word. -/
theorem rem_small (n : ℕ) (h : n < 512) : (BitVec.ofNat 32 n).srem 16#32 = BitVec.ofNat 32 (n % 16) := by
  have : (BitVec.ofNat 32 n).msb = false := by
    rw [BitVec.msb_eq_false_iff_two_mul_lt]
    simp
    omega
  rw [BitVec.srem_eq, this, show (16#32).msb = false from rfl]
  apply BitVec.eq_of_toNat_eq
  simp
  omega

/-- The word the kernel computes from a row's number. -/
abbrev remWord (x : BitVec 32) : BitVec 32 :=
  Scalar.select
    (IntOp.andi
      (IntOp.xori (IntOp.cmpi .slt x 0#32)
        (Scalar.cmpi .slt (Scalar.select (Scalar.cmpi .eq 16#32 0#32) 1#32 16#32) 0#32))
      (IntOp.cmpi .ne x 0#32))
    (IntOp.addi x (Scalar.select (Scalar.cmpi .eq 16#32 0#32) 1#32 16#32)) x

/-- A remainder that is already in range stays. -/
theorem remWord_small : ∀ k : Fin 16, remWord (BitVec.ofNat 32 k) = BitVec.ofNat 32 k := by decide

/-- The division the kernel takes the remainder of. -/
theorem remsi_small (n : ℕ) (h : n < 512) :
    IntOp.remsi ArithUnit.vector (BitVec.ofNat 32 n) (Scalar.select (Scalar.cmpi CmpIPredicate.eq 16#32 0#32) 1#32 16#32)
      = BitVec.ofNat 32 (n % 16) := by
  rw [show Scalar.select (Scalar.cmpi CmpIPredicate.eq 16#32 0#32) 1#32 16#32 = 16#32 from by decide]
  exact (if_neg (by simp [IntOp.SDivCorner])).trans (rem_small n h)

/-- Two rows belong to one sample when their numbers agree modulo the batch. -/
theorem kSame_at (r c : Fin 512) : kSame (ix2 r c) = if (r : ℕ) % 16 = c % 16 then 1#1 else 0#1 := by
  have h : kSame (ix2 r c) = IntOp.cmpi .eq
      (remWord (IntOp.remsi ArithUnit.vector (BitVec.ofNat 32 r) (Scalar.select (Scalar.cmpi CmpIPredicate.eq 16#32 0#32) 1#32 16#32)))
      (remWord (IntOp.remsi ArithUnit.vector (BitVec.ofNat 32 c) (Scalar.select (Scalar.cmpi CmpIPredicate.eq 16#32 0#32) 1#32 16#32))) := by
    pointwise [kSame, kRem]
  rw [h, remsi_small r r.2, remsi_small c c.2,
    remWord_small ⟨r % 16, Nat.mod_lt _ (by norm_num)⟩, remWord_small ⟨c % 16, Nat.mod_lt _ (by norm_num)⟩]
  have e : (BitVec.ofNat 32 ((r : ℕ) % 16) = BitVec.ofNat 32 ((c : ℕ) % 16)) ↔ (r : ℕ) % 16 = c % 16 := by
    constructor
    · intro h
      have := congrArg BitVec.toNat h
      simp only [BitVec.toNat_ofNat] at this
      omega
    · intro h
      rw [h]
  by_cases hc : (r : ℕ) % 16 = c % 16
  · rw [if_pos hc]
    simp [IntOp.cmpi, e.2 hc]
  · rw [if_neg hc]
    have hn := beq_eq_false_iff_ne.mpr (mt e.1 hc)
    show BitVec.ofBool (BitVec.ofNat 32 ((r : ℕ) % 16) == BitVec.ofNat 32 ((c : ℕ) % 16)) = 0#1
    rw [hn]
    rfl

/-- The word of negative infinity. -/
theorem ofBits_bot : Ideal.ofBits FTy.f32 4286578688#32 = ⊥ := by
  simp [Ideal.ofBits, Ideal.ieee]

/-- The factor of the scores. -/
def kScale : EReal := Named.named (F := Ideal) (φ := .f32) κ "scale" 0x3E3504F3#32

/-- The kernel's scores. -/
def kScore (h : FVec Ideal S512x64 .f32) (wq : FVec Ideal S64x32 .f32) (bq : FVec Ideal S1x32 .f32) (wk : FVec Ideal S64x32 .f32) (bk : FVec Ideal S1x32 .f32) : FVec Ideal S512x512 .f32 :=
  k0_pay5 h wq bq wk bk

/-- The scores at a pair of rows. -/
theorem kScore_at (h : FVec Ideal S512x64 .f32) (wq : FVec Ideal S64x32 .f32) (bq : FVec Ideal S1x32 .f32) (wk : FVec Ideal S64x32 .f32) (bk : FVec Ideal S1x32 .f32) (r c : Fin 512) :
    kScore h wq bq wk bk (ix2 r c)
      = (∑ e : Fin 32, aff (fun d => h (ix2 r d)) (fun e d => wq (ix2 d e)) (fun e => bq (ix2 0 e)) e * aff (fun d => h (ix2 c d)) (fun e d => wk (ix2 d e)) (fun e => bk (ix2 0 e)) e)
        * kScale := by
  pointwise [kScore, k0_pay5, aff]
  rfl

/-- The scores off the sample masked. -/
def kMasked (v : FVec Ideal S512x512 .f32) : FVec Ideal S512x512 .f32 :=
  select kSame v (broadcast S512x512 (Named.named (F := Ideal) κ "mask" 0xF149F2CA#32))

/-- The masked scores at a pair of rows. -/
theorem kMasked_at (v : FVec Ideal S512x512 .f32) (r c : Fin 512) : kMasked v (ix2 r c) = if (r : ℕ) % 16 = c % 16 then v (ix2 r c) else ⊥ := by
  have h : kMasked v (ix2 r c) = if kSame (ix2 r c) = 1#1 then v (ix2 r c) else ⊥ := rfl
  rw [h, kSame_at]
  by_cases hc : (r : ℕ) % 16 = c % 16 <;> simp [hc]

/-- The softmax of a row. -/
def kSoft (m : FVec Ideal S512x512 .f32) : FVec Ideal S512x512 .f32 :=
  let e : FVec Ideal S512x512 .f32 := exp (subf m (broadcastTo S512x512 (shapeCast S512x1 (multiReduction .maximumf [1] S512 m 0xFF800000#32 reduces_S512x512_S512 (.inl rfl) rfl) shapeCasts_S512_S512x1) broadcasts_S512x1_S512x512))
  divf e (broadcastTo S512x512 (shapeCast S512x1 (multiReduction .add [1] S512 e 0x00000000#32 reduces_S512x512_S512 (.inl rfl) rfl) shapeCasts_S512_S512x1) broadcasts_S512x1_S512x512)

/-- An entry of the softmax. -/
theorem kSoft_at (m : FVec Ideal S512x512 .f32) (r c : Fin 512) :
    kSoft m (ix2 r c) = Ideal.div (Ideal.exp (m (ix2 r c) - Finset.univ.fold max ⊥ fun x => m (ix2 r x)))
      (∑ y, Ideal.exp (m (ix2 r y) - Finset.univ.fold max ⊥ fun x => m (ix2 r x))) := by
  pointwise [kSoft]
  rw [ofBits_bot]

/-- The transposed weights, scaled on both sides by the roots of the degrees. -/
def kNorm (w : FVec Ideal S512x512 .f32) : FVec Ideal S512x512 .f32 :=
  let u := transpose S512x512 [1, 0] w transposes_S512x512_p1_0_S512x512
  let dc := shapeCast S512x1 (multiReduction .add [1] S512 u 0x00000000#32 reduces_S512x512_S512 (.inl rfl) rfl) shapeCasts_S512_S512x1
  let dr := shapeCast S1x512 (multiReduction .add [0] S512 w 0x00000000#32 reduces_S512x512_S512_2 (.inl rfl) rfl) shapeCasts_S512_S1x512
  mulf (mulf (broadcastTo S512x512 (select (cmpf .ogt dc (broadcast S512x1 (Scalar.ofBits (F := Ideal) .f32 0x00000000#32))) (rsqrt dc) (broadcast S512x1 (Scalar.ofBits (F := Ideal) .f32 0x00000000#32))) broadcasts_S512x1_S512x512) u)
    (broadcastTo S512x512 (select (cmpf .ogt dr (broadcast S1x512 (Scalar.ofBits (F := Ideal) .f32 0x00000000#32))) (rsqrt dr) (broadcast S1x512 (Scalar.ofBits (F := Ideal) .f32 0x00000000#32))) broadcasts_S1x512_S512x512)

/-- The kernel's attention matrix from its scores. -/
def kAtt (v : FVec Ideal S512x512 .f32) : FVec Ideal S512x512 .f32 :=
  k0_pay9 v k0_pay6 (Scalar.select (Scalar.cmpi .eq 16#32 0#32) 1#32 16#32) k0_pay7 k0_pay8 0#32

/-- The attention matrix in its three stages. -/
theorem kAtt_stages (v : FVec Ideal S512x512 .f32) : kAtt v = kNorm (kSoft (kMasked v)) := rfl

/-- The reciprocal root as the kernel takes it. -/
def rinv (d : EReal) : EReal := if 0 < d then Ideal.rsqrt d else 0

/-- It is the reference's. -/
theorem rinv_eq (d : EReal) : rinv d = dinv d := by
  unfold rinv dinv
  by_cases h : 0 < d
  · rw [if_pos h, if_pos h]
    induction d with
    | bot => simp at h
    | top =>
      rw [show Ideal.rsqrt ⊤ = 0 from rfl, show Ideal.sqrt ⊤ = ⊤ from rfl]
      simp [Ideal.div]
    | coe r =>
      have hr : 0 < r := by exact_mod_cast h
      have hs : 0 < Real.sqrt r := Real.sqrt_pos.mpr hr
      rw [show Ideal.rsqrt (r : EReal) = if r < 0 then ⊥ else if r = 0 then ⊤ else (((Real.sqrt r)⁻¹ : ℝ) : EReal) from rfl,
        show Ideal.sqrt (r : EReal) = if r < 0 then ⊥ else ((Real.sqrt r : ℝ) : EReal) from rfl,
        if_neg (not_lt.mpr hr.le), if_neg (not_lt.mpr hr.le), if_neg hr.ne']
      simp [Ideal.div, hs.ne', EReal.coe_inv]
  · rw [if_neg h, if_neg h]

/-- An entry of the normalised matrix. -/
theorem kNorm_at (w : FVec Ideal S512x512 .f32) (r c : Fin 512) :
    kNorm w (ix2 r c) = rinv (∑ x, w (ix2 x r)) * w (ix2 c r) * rinv (∑ x, w (ix2 x c)) := by
  pointwise [kNorm, rinv]

/-- The root of the word of 32 divides as the named factor multiplies. -/
theorem scale_eq (x : EReal) : Ideal.div x (Ideal.sqrt (Ideal.ofBits .f32 1107296256#32)) = x * kScale := by
  have h : Ideal.ofBits .f32 1107296256#32 = ((32 : ℝ) : EReal) := by
    have e : ((1107296256#32 : BitVec 32).extractLsb' 23 8).toNat = 132 := by decide
    have f : ((1107296256#32 : BitVec 32).extractLsb' 0 23).toNat = 0 := by decide
    have n : ((1107296256#32 : BitVec 32).extractLsb' 31 1 == 1#1) = false := by decide
    show Ideal.ieee 8 23 1107296256#32 = _
    simp only [Ideal.ieee]
    rw [e, f, n]
    norm_num
  have hs : (0 : ℝ) < Real.sqrt 32 := Real.sqrt_pos.mpr (by norm_num)
  rw [h, show Ideal.sqrt ((32 : ℝ) : EReal) = if (32 : ℝ) < 0 then ⊥ else ((Real.sqrt 32 : ℝ) : EReal) from rfl, if_neg (by norm_num),
    show kScale = (((Real.sqrt 32)⁻¹ : ℝ) : EReal) from rfl, Ideal.div, if_neg (by exact_mod_cast hs.ne'), EReal.coe_inv]

/-- Every row is some sample's node. -/
theorem row_surj (r : Fin 512) : ∃ i s, r = row i s :=
  ⟨⟨r / 16, by omega⟩, ⟨r % 16, by omega⟩, Fin.ext (by simp only [row]; omega)⟩

section Sample

variable (v : FVec Ideal S512x512 .f32) (s : Fin 16)

/-- One sample's scores. -/
def own (i j : Fin 32) : EReal := v (ix2 (row i s) (row j s))

theorem kMasked_own (i j : Fin 32) : kMasked v (ix2 (row i s) (row j s)) = own v s i j := by
  rw [kMasked_at, if_pos]
  · rfl
  · simp only [row]
    omega

theorem kMasked_off (i j : Fin 32) (s' : Fin 16) (h : s' ≠ s) : kMasked v (ix2 (row i s) (row j s')) = ⊥ := by
  rw [kMasked_at, if_neg]
  have := mt Fin.ext h
  simp only [row]
  omega

/-- The greatest of a masked row is the greatest of the sample's own scores. -/
theorem kMasked_max (i : Fin 32) : (Finset.univ.fold max ⊥ fun x => kMasked v (ix2 (row i s) x)) = Finset.univ.fold max ⊥ fun j => own v s i j := by
  apply le_antisymm
  · refine Finset.fold_max_le _ |>.mpr ⟨bot_le, fun x _ => ?_⟩
    obtain ⟨j, s', rfl⟩ := row_surj x
    by_cases h : s' = s
    · rw [h, kMasked_own]
      exact Finset.le_fold_max _ |>.mpr (.inr ⟨j, Finset.mem_univ _, le_rfl⟩)
    · rw [kMasked_off v s i j s' h]
      exact bot_le
  · refine Finset.fold_max_le _ |>.mpr ⟨bot_le, fun j _ => ?_⟩
    exact Finset.le_fold_max _ |>.mpr (.inr ⟨row j s, Finset.mem_univ _, (kMasked_own v s i j).ge⟩)

/-- A sum over all rows of what vanishes off the sample. -/
theorem sum_own (a : Fin 512 → EReal) (ha : ∀ i s', s' ≠ s → a (row i s') = 0) : ∑ c, a c = ∑ i, a (row i s) := by
  simpa using sum_sample (fun _ => 1) s a ha

/-- The exponential of a masked entry. -/
def ent (i : Fin 32) (c : Fin 512) : EReal :=
  Ideal.exp (kMasked v (ix2 (row i s) c) - Finset.univ.fold max ⊥ fun x => kMasked v (ix2 (row i s) x))

theorem ent_own (i j : Fin 32) : ent v s i (row j s) = exps (own v s) i j := by
  unfold ent exps
  rw [kMasked_own, kMasked_max]

theorem ent_off (i j : Fin 32) (s' : Fin 16) (h : s' ≠ s) : ent v s i (row j s') = 0 := by
  unfold ent
  rw [kMasked_off v s i j s' h, EReal.bot_sub]
  rfl

variable (hv : ∀ i j, ∃ x : ℝ, own v s i j = x)

include hv in
/-- The exponentials are positive reals. -/
theorem exps_pos (i j : Fin 32) : 0 < exps (own v s) i j := by
  have hm : ∃ y : ℝ, (Finset.univ.fold max ⊥ fun j => own v s i j) = y := by
    have ht : (Finset.univ.fold max ⊥ fun j => own v s i j) < ⊤ := by
      refine Finset.fold_max_lt _ |>.mpr ⟨bot_lt_top, fun j _ => ?_⟩
      obtain ⟨x, hx⟩ := hv i j
      rw [hx]
      exact EReal.coe_lt_top x
    have hb : ⊥ < Finset.univ.fold max ⊥ fun j => own v s i j := by
      refine Finset.lt_fold_max _ |>.mpr (.inr ⟨0, Finset.mem_univ _, ?_⟩)
      obtain ⟨x, hx⟩ := hv i 0
      rw [hx]
      exact EReal.bot_lt_coe x
    exact ⟨_, (EReal.coe_toReal ht.ne hb.ne').symm⟩
  obtain ⟨y, hy⟩ := hm
  obtain ⟨x, hx⟩ := hv i j
  unfold exps
  rw [hy, hx, ← EReal.coe_sub]
  show (0 : EReal) < ((Real.exp (x - y) : ℝ) : EReal)
  exact_mod_cast Real.exp_pos _

theorem kSoft_own (i j : Fin 32) : kSoft (kMasked v) (ix2 (row i s) (row j s)) = wts (exps (own v s)) i j := by
  rw [kSoft_at]
  show Ideal.div (ent v s i (row j s)) (∑ y, ent v s i y) = _
  rw [sum_own s _ fun k s' h => ent_off v s i k s' h, ent_own]
  unfold wts
  simp only [ent_own]

include hv in
theorem kSoft_off (i j : Fin 32) (s' : Fin 16) (h : s' ≠ s) : kSoft (kMasked v) (ix2 (row i s) (row j s')) = 0 := by
  rw [kSoft_at]
  show Ideal.div (ent v s i (row j s')) (∑ y, ent v s i y) = _
  rw [sum_own s _ fun k s' h => ent_off v s i k s' h, ent_off v s i j s' h]
  simp only [ent_own]
  have hp : 0 < ∑ k, exps (own v s) i k :=
    (exps_pos v s hv i 0).trans_le (Finset.single_le_sum (f := fun k => exps (own v s) i k) (fun k _ => (exps_pos v s hv i k).le) (Finset.mem_univ 0))
  rw [Ideal.div, if_neg hp.ne', zero_mul]

end Sample

variable (v : FVec Ideal S512x512 .f32) (hv : ∀ s i j, ∃ x : ℝ, own v s i j = x)

include hv

theorem kSoft_deg (s : Fin 16) (j : Fin 32) : ∑ x, kSoft (kMasked v) (ix2 x (row j s)) = deg (wts (exps (own v s))) j := by
  rw [sum_own s _ fun i s' h => kSoft_off v s' (hv s') i j s h.symm]
  simp only [kSoft_own]
  rfl

/-- On a sample the attention matrix is the sample's, from the edge's end to its start. -/
theorem kAtt_own (s : Fin 16) (i j : Fin 32) : kAtt v (ix2 (row j s) (row i s)) = adj (wts (exps (own v s))) i j := by
  rw [kAtt_stages, kNorm_at, kSoft_deg v hv, kSoft_deg v hv, kSoft_own, rinv_eq, rinv_eq]
  unfold adj
  rw [mul_comm, ← mul_assoc, mul_right_comm]

/-- Off the sample it is zero. -/
theorem kAtt_off (s s' : Fin 16) (h : s' ≠ s) (i j : Fin 32) : kAtt v (ix2 (row j s) (row i s')) = 0 := by
  rw [kAtt_stages, kNorm_at, kSoft_off v s' (hv s') i j s h.symm, mul_zero, zero_mul]

end Cert.KernelIdeal.Model

end
-- ==== Proof.Own.KGru.lean ====
module

public import proofs.«01_k».proof.Proof.Own.KAtt
public import proofs.«01_k».proof.Proof.Own.KLoop

@[expose] public section

set_option maxRecDepth 8192

noncomputable section

/-! The kernel's recurrence, read at an index; its states are real numbers. -/

namespace Cert.KernelIdeal.Model

open Cert.KernelIdeal Cert.KernelIdeal.Gen
open Idealize.ShloMosaic Idealize.ShloMosaic.TcCoe Idealize.ShloMosaic.Tactic
open Cert.Math Cert.KernelIdeal.Named

section Step

variable (wr wz wn : Vec Ideal S1x64 .f32) (ur uz un : Vec Ideal S64x64 .f32) (br bz bn cr cz cn : Vec Ideal S1x64 .f32)

/-- One step at a row and a feature. -/
theorem step_at (h : FVec Ideal S512x64 .f32) (x : Vec Ideal S1x512x1 .f32) (r : Fin 512) (e : Fin 64) :
    k0_pay3 wr wz wn ur uz un br bz bn cr cz cn h x (ix2 r e)
      = gate (x (ix3 0 r 0) * wr (ix2 0 e) + br (ix2 0 e)) (x (ix3 0 r 0) * wz (ix2 0 e) + bz (ix2 0 e)) (x (ix3 0 r 0) * wn (ix2 0 e) + bn (ix2 0 e))
        (∑ d, h (ix2 r d) * ur (ix2 d e) + cr (ix2 0 e)) (∑ d, h (ix2 r d) * uz (ix2 d e) + cz (ix2 0 e)) (∑ d, h (ix2 r d) * un (ix2 d e) + cn (ix2 0 e)) (h (ix2 r e)) := by
  pointwise [k0_pay3, gate]
  simp only [add_assoc, Ideal.logistic, sg]

variable (wih : Fin 192 → EReal) (whh : Fin 192 → Fin 64 → EReal) (bih bhh : Fin 192 → EReal)

/-- The recurrence at a row and a feature. -/
theorem gruAt_at (row : ℕ → Vec Ideal S1x512x1 .f32) (h0 : FVec Ideal S512x64 .f32)
    (hwr : ∀ e, wr (ix2 0 e) = wih (at0 e)) (hwz : ∀ e, wz (ix2 0 e) = wih (at1 e)) (hwn : ∀ e, wn (ix2 0 e) = wih (at2 e))
    (hur : ∀ d e, ur (ix2 d e) = whh (at0 e) d) (huz : ∀ d e, uz (ix2 d e) = whh (at1 e) d) (hun : ∀ d e, un (ix2 d e) = whh (at2 e) d)
    (hbr : ∀ e, br (ix2 0 e) = bih (at0 e)) (hbz : ∀ e, bz (ix2 0 e) = bih (at1 e)) (hbn : ∀ e, bn (ix2 0 e) = bih (at2 e))
    (hcr : ∀ e, cr (ix2 0 e) = bhh (at0 e)) (hcz : ∀ e, cz (ix2 0 e) = bhh (at1 e)) (hcn : ∀ e, cn (ix2 0 e) = bhh (at2 e))
    (r : Fin 512) (hh : ∀ e, h0 (ix2 r e) = 0) (k : ℕ) (e : Fin 64) :
    gruAt wr wz wn ur uz un br bz bn cr cz cn row h0 k (ix2 r e) = gru (fun k => row k (ix3 0 r 0)) wih whh bih bhh k e := by
  induction k generalizing e with
  | zero => exact hh e
  | succ k ih =>
    rw [gruAt, gruStep, step_at]
    simp only [ih, hwr, hwz, hwn, hur, huz, hun, hbr, hbz, hbn, hcr, hcz, hcn]
    rfl

end Step

/-- The logistic function's values are real. -/
theorem sg_real (v : EReal) : ∃ y : ℝ, sg v = y := by
  unfold sg
  induction v with
  | bot => exact ⟨0, by rw [EReal.neg_bot, show Ideal.exp ⊤ = ⊤ from rfl, show (1 : EReal) + ⊤ = ⊤ from rfl]; simp [Ideal.div]⟩
  | top => exact ⟨1, by rw [EReal.neg_top, show Ideal.exp ⊥ = 0 from rfl]; simp [Ideal.div]⟩
  | coe x =>
    have hp : (0 : ℝ) < 1 + Real.exp (-x) := by positivity
    refine ⟨(1 + Real.exp (-x))⁻¹, ?_⟩
    rw [← EReal.coe_neg, show Ideal.exp ((-x : ℝ) : EReal) = ((Real.exp (-x) : ℝ) : EReal) from rfl, ← EReal.coe_one, ← EReal.coe_add, Ideal.div,
      if_neg (by exact_mod_cast hp.ne'), EReal.coe_one, one_mul, EReal.coe_inv]

/-- The hyperbolic tangent's values are real. -/
theorem tanh_real (v : EReal) : ∃ y : ℝ, Ideal.tanh v = y := by
  induction v with
  | bot => exact ⟨-1, rfl⟩
  | top => exact ⟨1, rfl⟩
  | coe x => exact ⟨Real.tanh x, rfl⟩

/-- Every hidden state is real. -/
theorem gru_real (x : ℕ → EReal) (wih : Fin 192 → EReal) (whh : Fin 192 → Fin 64 → EReal) (bih bhh : Fin 192 → EReal) (k : ℕ) (e : Fin 64) :
    ∃ y : ℝ, gru x wih whh bih bhh k e = y := by
  induction k generalizing e with
  | zero => exact ⟨0, rfl⟩
  | succ k ih =>
    rw [gru]
    unfold gate
    obtain ⟨h, hh⟩ := ih e
    obtain ⟨z, hz⟩ := sg_real ((x k * wih (at1 e) + bih (at1 e)) + (∑ d, gru x wih whh bih bhh k d * whh (at1 e) d + bhh (at1 e)))
    obtain ⟨n, hn⟩ := tanh_real (x k * wih (at2 e) + bih (at2 e) + sg (x k * wih (at0 e) + bih (at0 e) + (∑ d, gru x wih whh bih bhh k d * whh (at0 e) d + bhh (at0 e))) * (∑ d, gru x wih whh bih bhh k d * whh (at2 e) d + bhh (at2 e)))
    refine ⟨(1 - z) * n + z * h, ?_⟩
    simp only [hz, hn, hh]
    norm_cast

/-- An affine map with real coefficients of a real vector is real. -/
theorem aff_real (h : Fin 64 → EReal) (w : Fin 32 → Fin 64 → EReal) (b : Fin 32 → EReal) (hh : ∀ d, ∃ y : ℝ, h d = y)
    (hw : ∀ e d, ∃ y : ℝ, w e d = y) (hb : ∀ e, ∃ y : ℝ, b e = y) (e : Fin 32) : ∃ y : ℝ, aff h w b e = y := by
  choose h' hh using hh
  choose w' hw using hw
  choose b' hb using hb
  refine ⟨∑ d, h' d * w' e d + b' e, ?_⟩
  unfold aff
  simp only [hh, hw, hb]
  push_cast
  rfl

/-- A score of real vectors is real. -/
theorem score_real (q k : Fin 32 → EReal) (hq : ∀ e, ∃ y : ℝ, q e = y) (hk : ∀ e, ∃ y : ℝ, k e = y) : ∃ y : ℝ, (∑ e, q e * k e) * kScale = y := by
  choose q' hq using hq
  choose k' hk using hk
  refine ⟨(∑ e, q' e * k' e) * (Real.sqrt 32)⁻¹, ?_⟩
  simp only [hq, hk, show kScale = (((Real.sqrt 32)⁻¹ : ℝ) : EReal) from rfl]
  push_cast
  rfl

end Cert.KernelIdeal.Model

end
-- ==== Proof.Own.KNet.lean ====
module

public import proofs.«01_k».proof.Proof.Own.KGru
public import proofs.«01_k».proof.Proof.Own.KModel

@[expose] public section

set_option maxRecDepth 8192

noncomputable section

/-! The kernel's stages put together are the network of each sample (`Cert.Math`). -/

namespace Cert.Math

/-- The network's parameters and its input. -/
structure Par where
  x : Fin 16 → Fin 64 → Fin 32 → EReal
  wih : Fin 192 → EReal
  whh : Fin 192 → Fin 64 → EReal
  bih : Fin 192 → EReal
  bhh : Fin 192 → EReal
  qw : Fin 32 → Fin 64 → EReal
  qb : Fin 32 → EReal
  kw : Fin 32 → Fin 64 → EReal
  kb : Fin 32 → EReal
  cw : Fin 64 → EReal
  cb : Fin 64 → EReal
  g0 : Fin 64 → Fin 64 → EReal
  gb0 : Fin 64 → EReal
  c0 : Fin 64 → Fin 64 → Fin 3 → EReal
  cb0 : Fin 64 → EReal
  g1 : Fin 64 → Fin 64 → EReal
  gb1 : Fin 64 → EReal
  c1 : Fin 64 → Fin 64 → Fin 5 → EReal
  cb1 : Fin 64 → EReal
  ow : Fin 256 → Fin 131072 → EReal
  ob : Fin 256 → EReal

variable (N : Par)

/-- The hidden states of a sample's nodes. -/
def Par.h (s : Fin 16) : Fin 32 → Fin 64 → EReal := hid (N.x s) N.wih N.whh N.bih N.bhh

/-- The graph of a sample. -/
def Par.att (s : Fin 16) : Fin 32 → Fin 32 → EReal := attn (N.h s) N.qw N.qb N.kw N.kb

/-- The network's output: sample `s`, output `o`. -/
def Par.out (s : Fin 16) (o : Fin 256) : EReal :=
  head (feats (N.att s) (N.x s) N.cw N.cb N.g0 N.gb0 N.c0 N.cb0 N.g1 N.gb1 N.c1 N.cb1) (N.ow o) (N.ob o)

end Cert.Math

namespace Cert.KernelIdeal.Model

open Cert.KernelIdeal Cert.KernelIdeal.Gen
open Idealize.ShloMosaic Idealize.ShloMosaic.TcCoe Idealize.ShloMosaic.Tactic
open Cert.Math Cert.KernelIdeal.Named

/-- What the kernel's body loads. -/
structure Ins where
  row : ℕ → Vec Ideal S1x512x1 .f32
  slab : Fin 64 → Vec Ideal S1x512x1 .f32
  wr : Vec Ideal S1x64 .f32
  wz : Vec Ideal S1x64 .f32
  wn : Vec Ideal S1x64 .f32
  ur : Vec Ideal S64x64 .f32
  uz : Vec Ideal S64x64 .f32
  un : Vec Ideal S64x64 .f32
  br : Vec Ideal S1x64 .f32
  bz : Vec Ideal S1x64 .f32
  bn : Vec Ideal S1x64 .f32
  cr : Vec Ideal S1x64 .f32
  cz : Vec Ideal S1x64 .f32
  cn : Vec Ideal S1x64 .f32
  wq : Vec Ideal S64x32 .f32
  bq : Vec Ideal S1x32 .f32
  wk : Vec Ideal S64x32 .f32
  bk : Vec Ideal S1x32 .f32
  cw : Vec Ideal S1x64 .f32
  cb : Vec Ideal S1x64 .f32
  g0 : Vec Ideal S64x64 .f32
  gb0 : Vec Ideal S1x4096 .f32
  t00 : Vec Ideal S64x64 .f32
  t01 : Vec Ideal S64x64 .f32
  t02 : Vec Ideal S64x64 .f32
  cb0 : Vec Ideal S1x64 .f32
  g1 : Vec Ideal S64x64 .f32
  gb1 : Vec Ideal S1x4096 .f32
  t10 : Vec Ideal S64x64 .f32
  t11 : Vec Ideal S64x64 .f32
  t12 : Vec Ideal S64x64 .f32
  t13 : Vec Ideal S64x64 .f32
  t14 : Vec Ideal S64x64 .f32
  cb1 : Vec Ideal S1x64 .f32
  lb : Vec Ideal S1x256 .f32
  blk : Fin 32 → Vec Ideal S1x256x4096 .f32

/-- The zero hidden state. -/
def kZero : FVec Ideal S512x64 .f32 := broadcast S512x64 (Scalar.ofBits .f32 0x00000000#32)

variable (I : Ins)

/-- The hidden states of every node. -/
def Ins.h : FVec Ideal S512x64 .f32 := gruAt I.wr I.wz I.wn I.ur I.uz I.un I.br I.bz I.bn I.cr I.cz I.cn I.row kZero 64

/-- The graph of every sample, its arrows reversed. -/
def Ins.att : FVec Ideal S512x512 .f32 := kAtt (kScore I.h I.wq I.bq I.wk I.bk)

/-- The first graph convolution. -/
def Ins.m0 : FVec Ideal S512x4096 .f32 := kMix I.att (fun t => kPiece I.cw I.cb I.g0 (I.slab t)) I.gb0

/-- The second graph convolution. -/
def Ins.m1 : FVec Ideal S512x4096 .f32 := kMix I.att (fun t => kTap (kConv3 I.m0 I.t00 I.t01 I.t02 I.cb0 t) I.g1) I.gb1

/-- The body's result. -/
def Ins.out : FVec Ideal S16x256 .f32 :=
  kAcc I.lb (fun t => kChunk (kConv5 I.m1 I.t10 I.t11 I.t12 I.t13 I.t14 I.cb1 t)) I.blk 32 le_rfl

/-- The loads hold the network's parameters and input. -/
structure Agree (N : Par) : Prop where
  ser : ∀ (k : ℕ) (h : k < 64) i s, I.row k (ix3 0 (row i s) 0) = N.x s ⟨k, h⟩ i
  slab : ∀ t i s, I.slab t (ix3 0 (row i s) 0) = N.x s t i
  wr : ∀ e, I.wr (ix2 0 e) = N.wih (at0 e)
  wz : ∀ e, I.wz (ix2 0 e) = N.wih (at1 e)
  wn : ∀ e, I.wn (ix2 0 e) = N.wih (at2 e)
  ur : ∀ d e, I.ur (ix2 d e) = N.whh (at0 e) d
  uz : ∀ d e, I.uz (ix2 d e) = N.whh (at1 e) d
  un : ∀ d e, I.un (ix2 d e) = N.whh (at2 e) d
  br : ∀ e, I.br (ix2 0 e) = N.bih (at0 e)
  bz : ∀ e, I.bz (ix2 0 e) = N.bih (at1 e)
  bn : ∀ e, I.bn (ix2 0 e) = N.bih (at2 e)
  cr : ∀ e, I.cr (ix2 0 e) = N.bhh (at0 e)
  cz : ∀ e, I.cz (ix2 0 e) = N.bhh (at1 e)
  cn : ∀ e, I.cn (ix2 0 e) = N.bhh (at2 e)
  wq : ∀ d e, I.wq (ix2 d e) = N.qw e d
  bq : ∀ e, I.bq (ix2 0 e) = N.qb e
  wk : ∀ d e, I.wk (ix2 d e) = N.kw e d
  bk : ∀ e, I.bk (ix2 0 e) = N.kb e
  cw : ∀ e, I.cw (ix2 0 e) = N.cw e
  cb : ∀ e, I.cb (ix2 0 e) = N.cb e
  g0 : ∀ e d, I.g0 (ix2 e d) = N.g0 d e
  gb0 : ∀ (t d : Fin 64), I.gb0 (ix2 0 ⟨t * 64 + d, by omega⟩) = N.gb0 d
  t0 : ∀ e d (u : Fin 3), (![I.t00, I.t01, I.t02] u) (ix2 e d) = N.c0 d e u
  cb0 : ∀ e, I.cb0 (ix2 0 e) = N.cb0 e
  g1 : ∀ e d, I.g1 (ix2 e d) = N.g1 d e
  gb1 : ∀ (t d : Fin 64), I.gb1 (ix2 0 ⟨t * 64 + d, by omega⟩) = N.gb1 d
  t1 : ∀ e d (u : Fin 5), (![I.t10, I.t11, I.t12, I.t13, I.t14] u) (ix2 e d) = N.c1 d e u
  cb1 : ∀ e, I.cb1 (ix2 0 e) = N.cb1 e
  lb : ∀ o, I.lb (ix2 0 o) = N.ob o
  blk : ∀ k o (q : Fin 4096), I.blk k (ix3 0 o q) = N.ow o ⟨k * 4096 + q, by omega⟩

variable {I} {N : Par} (A : Agree I N) (s : Fin 16) (i j : Fin 32) (t d : Fin 64)

include A

/-- The hidden states. -/
theorem Agree.h_at : I.h (ix2 (row i s) d) = N.h s i d := by
  unfold Ins.h
  rw [gruAt_at I.wr I.wz I.wn I.ur I.uz I.un I.br I.bz I.bn I.cr I.cz I.cn N.wih N.whh N.bih N.bhh I.row kZero A.wr A.wz A.wn A.ur A.uz A.un A.br A.bz A.bn A.cr A.cz A.cn
    (row i s) (fun e => Ideal.ofBits_zero .f32)]
  unfold Par.h hid
  have key : ∀ k, k ≤ 64 → gru (fun k => I.row k (ix3 0 (row i s) 0)) N.wih N.whh N.bih N.bhh k
      = gru (fun k => if h : k < 64 then N.x s ⟨k, h⟩ i else 0) N.wih N.whh N.bih N.bhh k := by
    intro k
    induction k with
    | zero => exact fun _ => rfl
    | succ k ih =>
      intro hk
      funext e
      simp only [gru]
      rw [ih (by omega), A.ser k (by omega), dif_pos (show k < 64 by omega)]
  rw [key 64 le_rfl]

/-- The scores of one sample. -/
theorem Agree.score_at : own (kScore I.h I.wq I.bq I.wk I.bk) s i j
    = score (fun i => aff (N.h s i) N.qw N.qb) (fun i => aff (N.h s i) N.kw N.kb) i j := by
  unfold own score
  rw [kScore_at, scale_eq]
  simp only [A.h_at, A.wq, A.bq, A.wk, A.bk]

variable (fq : ∀ e d, ∃ y : ℝ, N.qw e d = y) (fqb : ∀ e, ∃ y : ℝ, N.qb e = y) (fk : ∀ e d, ∃ y : ℝ, N.kw e d = y) (fkb : ∀ e, ∃ y : ℝ, N.kb e = y)

include fq fqb fk fkb

/-- Every score within a sample is real. -/
theorem Agree.score_fin : ∀ s i j, ∃ y : ℝ, own (kScore I.h I.wq I.bq I.wk I.bk) s i j = y := by
  intro s i j
  rw [A.score_at]
  unfold score
  rw [scale_eq]
  exact score_real _ _ (aff_real _ _ _ (fun d => gru_real _ _ _ _ _ _ _) fq fqb) (aff_real _ _ _ (fun d => gru_real _ _ _ _ _ _ _) fk fkb)

/-- The graph within a sample. -/
theorem Agree.att_own : I.att (ix2 (row j s) (row i s)) = N.att s i j := by
  unfold Ins.att
  rw [kAtt_own _ (A.score_fin fq fqb fk fkb)]
  unfold Par.att attn
  congr 3
  funext i j
  exact A.score_at s i j

/-- No arrow joins two samples. -/
theorem Agree.att_off (s' : Fin 16) (h : s' ≠ s) : I.att (ix2 (row j s) (row i s')) = 0 :=
  kAtt_off _ (A.score_fin fq fqb fk fkb) s s' h i j

/-- A graph convolution at a sample. -/
theorem Agree.mix_at (f : Fin 64 → FVec Ideal S512x64 .f32) (b : FVec Ideal S1x4096 .f32) (f' : Fin 64 → Fin 32 → Fin 64 → EReal) (g : Fin 64 → Fin 64 → EReal) (b' : Fin 64 → EReal)
    (hf : ∀ t i d, f t (ix2 (row i s) d) = mix (f' t i) g d) (hb : ∀ (t d : Fin 64), b (ix2 0 ⟨t * 64 + d, by omega⟩) = b' d) :
    feat (kMix I.att f b) s = gcn (N.att s) f' g b' := by
  funext t j d
  unfold feat gcn
  rw [kMix_at, hb, sum_sample _ s _ (fun i s' h => A.att_off s i j fq fqb fk fkb s' h)]
  refine congrArg (· + b' d) (Finset.sum_congr rfl fun i _ => ?_)
  rw [A.att_own s i j fq fqb fk fkb, hf, mul_comm]

/-- The body's result at a sample and an output is the network's. -/
theorem Agree.out_at (o : Fin 256) : I.out (ix2 s o) = N.out s o := by
  have e0 : feat I.m0 s = gcn (N.att s) (fun t i d => N.x s t i * N.cw d + N.cb d) N.g0 N.gb0 :=
    A.mix_at s fq fqb fk fkb _ _ _ _ _ (fun t i d => by
      rw [kPiece_at]
      simp only [A.slab, A.cw, A.cb, A.g0]
      rfl) A.gb0
  have e1 : feat I.m1 s = gcn (N.att s) (conv3 (feat I.m0 s) N.c0 N.cb0) N.g1 N.gb1 :=
    A.mix_at s fq fqb fk fkb _ _ _ _ _ (fun t i d => by
      rw [kTap_at]
      simp only [kConv3_at, A.t0, A.cb0, A.g1]
      rfl) A.gb1
  unfold Ins.out
  rw [kHead_at s I.lb _ I.blk o (N.ow o) (fun k q => A.blk k o q), A.lb]
  simp only [kConv5_at, A.t1, A.cb1]
  rw [e1, e0]
  rfl

end Cert.KernelIdeal.Model

end
-- ==== Proof.Own.KHost.lean ====
module

public import proofs.«01_k».proof.Proof.Own.KNet
public import proofs.«01_k».proof.Proof.Own.KRuns
public import Idealize.ShloMosaic.Lib.StableHlo.Run
public import Idealize.ShloMosaic.Lib.StableHlo.ReadAt
public import Idealize.ShloMosaic.Lib.Tactic

@[expose] public section

set_option maxRecDepth 16384

noncomputable section

/-! The launch's input blocks, read at an index, are the arguments' entries: the host lines before the launch
    slice, transpose and reshape the arguments. -/

namespace Cert.KernelIdeal.Model

open Cert.KernelIdeal Cert.KernelIdeal.Gen
open Idealize.ShloMosaic Idealize.ShloMosaic.TcCoe Idealize.ShloMosaic.Tactic
open Idealize.ShloMosaic.StableHlo
open Cert.Math Cert.KernelIdeal.Named

variable (m : (ℓ : Loc nD τ sig) → Buf (Elt Ideal) ℓ) (c : Dev nD) (p : Fin cfg0.N)

/-- A whole array's block is the array. -/
theorem whole_blk {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (f : BufTy.Contents (Elt Ideal) arr.view.ty) :
    ((Pipeline.Window.whole arr isOut sync stage sem harr hstage).blk t).view.read (Elt Ideal) f = arr.view.read (Elt Ideal) f := by
  funext j
  refine congrArg (arr.view.read (Elt Ideal) f) (funext fun a => Fin.ext ?_)
  show 0 * s.size a + 1 * (j a).val = (j a).val
  omega

/-- What the region finds in a buffer: the host lines' contents. -/
theorem V_lines (b : Ref sig .tc) : V m c b = after hostOps0 (fun b => m (c, b)) (Proc.devRef .tc b) := rfl

/-- The same entry of a memory, its place spelled in two ways. -/
theorem loc_spelled (b : Ref sig .tc) : m (c, Proc.devRef .tc b) = m ((c : Thread nD τ).loc b) := rfl

/-- The network's parameters and input, read off the arguments. -/
def parOf : Par where
  x s t i := (m ((c : Thread nD τ).loc main_arg0) : Vec Ideal S16x64x32 .f32) (ix3 s t i)
  wih j := (m ((c : Thread nD τ).loc main_arg1) : Vec Ideal S192x1 .f32) (ix2 j 0)
  whh j d := (m ((c : Thread nD τ).loc main_arg2) : Vec Ideal S192x64 .f32) (ix2 j d)
  bih j := (m ((c : Thread nD τ).loc main_arg3) : Vec Ideal S192 .f32) (ix1 j)
  bhh j := (m ((c : Thread nD τ).loc main_arg4) : Vec Ideal S192 .f32) (ix1 j)
  qw e d := (m ((c : Thread nD τ).loc main_arg5) : Vec Ideal S32x64 .f32) (ix2 e d)
  qb e := (m ((c : Thread nD τ).loc main_arg6) : Vec Ideal S32 .f32) (ix1 e)
  kw e d := (m ((c : Thread nD τ).loc main_arg7) : Vec Ideal S32x64 .f32) (ix2 e d)
  kb e := (m ((c : Thread nD τ).loc main_arg8) : Vec Ideal S32 .f32) (ix1 e)
  cw d := (m ((c : Thread nD τ).loc main_arg9) : Vec Ideal S64x1x1 .f32) (ix3 d 0 0)
  cb d := (m ((c : Thread nD τ).loc main_arg10) : Vec Ideal S64 .f32) (ix1 d)
  g0 d e := (m ((c : Thread nD τ).loc main_arg11) : Vec Ideal S64x64 .f32) (ix2 d e)
  gb0 d := (m ((c : Thread nD τ).loc main_arg12) : Vec Ideal S64 .f32) (ix1 d)
  c0 d e u := (m ((c : Thread nD τ).loc main_arg13) : Vec Ideal S64x64x3 .f32) (ix3 d e u)
  cb0 d := (m ((c : Thread nD τ).loc main_arg14) : Vec Ideal S64 .f32) (ix1 d)
  g1 d e := (m ((c : Thread nD τ).loc main_arg15) : Vec Ideal S64x64 .f32) (ix2 d e)
  gb1 d := (m ((c : Thread nD τ).loc main_arg16) : Vec Ideal S64 .f32) (ix1 d)
  c1 d e u := (m ((c : Thread nD τ).loc main_arg17) : Vec Ideal S64x64x5 .f32) (ix3 d e u)
  cb1 d := (m ((c : Thread nD τ).loc main_arg18) : Vec Ideal S64 .f32) (ix1 d)
  ow o k := (m ((c : Thread nD τ).loc main_arg19) : Vec Ideal S256x131072 .f32) (ix2 o k)
  ob o := (m ((c : Thread nD τ).loc main_arg20) : Vec Ideal S256 .f32) (ix1 o)

variable (e d t : Fin 64) (f : Fin 32) (i : Fin 32) (s : Fin 16)

set_option maxHeartbeats 8000000 in
/-- The blocks are the arrays the region finds. -/
theorem blocks_whole :
    iblk m c 0 p = V m c main_v1 ∧
    iblk m c 1 p = V m c main_v4 ∧
    iblk m c 2 p = V m c main_v6 ∧
    iblk m c 3 p = V m c main_v8 ∧
    iblk m c 4 p = V m c main_v10 ∧
    iblk m c 5 p = V m c main_v12 ∧
    iblk m c 6 p = V m c main_v14 ∧
    iblk m c 7 p = V m c main_v16 ∧
    iblk m c 8 p = V m c main_v18 ∧
    iblk m c 9 p = V m c main_v20 ∧
    iblk m c 10 p = V m c main_v22 ∧
    iblk m c 11 p = V m c main_v24 ∧
    iblk m c 12 p = V m c main_v26 ∧
    iblk m c 13 p = V m c main_v51 ∧
    iblk m c 14 p = V m c main_v52 ∧
    iblk m c 15 p = V m c main_v53 ∧
    iblk m c 16 p = V m c main_v54 ∧
    iblk m c 17 p = V m c main_v55 ∧
    iblk m c 18 p = V m c main_v56 ∧
    iblk m c 19 p = V m c main_v57 ∧
    iblk m c 20 p = V m c main_v61 ∧
    iblk m c 21 p = V m c main_v29 ∧
    iblk m c 22 p = V m c main_v32 ∧
    iblk m c 23 p = V m c main_v35 ∧
    iblk m c 24 p = V m c main_v62 ∧
    iblk m c 25 p = V m c main_v63 ∧
    iblk m c 26 p = V m c main_v67 ∧
    iblk m c 27 p = V m c main_v38 ∧
    iblk m c 28 p = V m c main_v41 ∧
    iblk m c 29 p = V m c main_v44 ∧
    iblk m c 30 p = V m c main_v47 ∧
    iblk m c 31 p = V m c main_v50 ∧
    iblk m c 32 p = V m c main_v68 ∧
    iblk m c 33 p = V m c main_v69 :=
  ⟨whole_blk (Memref.whole main_v1) _ _ _ _ (Memref.isWhole_whole _) (hstage0_0 0) _ _,
    whole_blk (Memref.whole main_v4) _ _ _ _ (Memref.isWhole_whole _) (hstage0_1 0) _ _,
    whole_blk (Memref.whole main_v6) _ _ _ _ (Memref.isWhole_whole _) (hstage0_2 0) _ _,
    whole_blk (Memref.whole main_v8) _ _ _ _ (Memref.isWhole_whole _) (hstage0_3 0) _ _,
    whole_blk (Memref.whole main_v10) _ _ _ _ (Memref.isWhole_whole _) (hstage0_4 0) _ _,
    whole_blk (Memref.whole main_v12) _ _ _ _ (Memref.isWhole_whole _) (hstage0_5 0) _ _,
    whole_blk (Memref.whole main_v14) _ _ _ _ (Memref.isWhole_whole _) (hstage0_6 0) _ _,
    whole_blk (Memref.whole main_v16) _ _ _ _ (Memref.isWhole_whole _) (hstage0_7 0) _ _,
    whole_blk (Memref.whole main_v18) _ _ _ _ (Memref.isWhole_whole _) (hstage0_8 0) _ _,
    whole_blk (Memref.whole main_v20) _ _ _ _ (Memref.isWhole_whole _) (hstage0_9 0) _ _,
    whole_blk (Memref.whole main_v22) _ _ _ _ (Memref.isWhole_whole _) (hstage0_10 0) _ _,
    whole_blk (Memref.whole main_v24) _ _ _ _ (Memref.isWhole_whole _) (hstage0_11 0) _ _,
    whole_blk (Memref.whole main_v26) _ _ _ _ (Memref.isWhole_whole _) (hstage0_12 0) _ _,
    whole_blk (Memref.whole main_v51) _ _ _ _ (Memref.isWhole_whole _) (hstage0_13 0) _ _,
    whole_blk (Memref.whole main_v52) _ _ _ _ (Memref.isWhole_whole _) (hstage0_14 0) _ _,
    whole_blk (Memref.whole main_v53) _ _ _ _ (Memref.isWhole_whole _) (hstage0_15 0) _ _,
    whole_blk (Memref.whole main_v54) _ _ _ _ (Memref.isWhole_whole _) (hstage0_16 0) _ _,
    whole_blk (Memref.whole main_v55) _ _ _ _ (Memref.isWhole_whole _) (hstage0_17 0) _ _,
    whole_blk (Memref.whole main_v56) _ _ _ _ (Memref.isWhole_whole _) (hstage0_18 0) _ _,
    whole_blk (Memref.whole main_v57) _ _ _ _ (Memref.isWhole_whole _) (hstage0_19 0) _ _,
    whole_blk (Memref.whole main_v61) _ _ _ _ (Memref.isWhole_whole _) (hstage0_20 0) _ _,
    whole_blk (Memref.whole main_v29) _ _ _ _ (Memref.isWhole_whole _) (hstage0_21 0) _ _,
    whole_blk (Memref.whole main_v32) _ _ _ _ (Memref.isWhole_whole _) (hstage0_22 0) _ _,
    whole_blk (Memref.whole main_v35) _ _ _ _ (Memref.isWhole_whole _) (hstage0_23 0) _ _,
    whole_blk (Memref.whole main_v62) _ _ _ _ (Memref.isWhole_whole _) (hstage0_24 0) _ _,
    whole_blk (Memref.whole main_v63) _ _ _ _ (Memref.isWhole_whole _) (hstage0_25 0) _ _,
    whole_blk (Memref.whole main_v67) _ _ _ _ (Memref.isWhole_whole _) (hstage0_26 0) _ _,
    whole_blk (Memref.whole main_v38) _ _ _ _ (Memref.isWhole_whole _) (hstage0_27 0) _ _,
    whole_blk (Memref.whole main_v41) _ _ _ _ (Memref.isWhole_whole _) (hstage0_28 0) _ _,
    whole_blk (Memref.whole main_v44) _ _ _ _ (Memref.isWhole_whole _) (hstage0_29 0) _ _,
    whole_blk (Memref.whole main_v47) _ _ _ _ (Memref.isWhole_whole _) (hstage0_30 0) _ _,
    whole_blk (Memref.whole main_v50) _ _ _ _ (Memref.isWhole_whole _) (hstage0_31 0) _ _,
    whole_blk (Memref.whole main_v68) _ _ _ _ (Memref.isWhole_whole _) (hstage0_32 0) _ _,
    whole_blk (Memref.whole main_v69) _ _ _ _ (Memref.isWhole_whole _) (hstage0_33 0) _ _⟩

set_option maxHeartbeats 4000000 in
/-- The series, node by node and sample by sample. -/
theorem x_at :
    (V m c main_v1 : Vec Ideal S64x512x1 .f32) (ix3 t (row i s) 0) = (parOf m c).x s t i := by
  unfold parOf
  all_goals
    rw [V_lines]
    unfold row
    after_reads_at
    try rfl

set_option maxHeartbeats 4000000 in
/-- The recurrent unit's weights of the input. -/
theorem wih_at :
    (V m c main_v4 : Vec Ideal S1x64 .f32) (ix2 0 e) = (parOf m c).wih (at0 e) ∧
    (V m c main_v6 : Vec Ideal S1x64 .f32) (ix2 0 e) = (parOf m c).wih (at1 e) ∧
    (V m c main_v8 : Vec Ideal S1x64 .f32) (ix2 0 e) = (parOf m c).wih (at2 e) := by
  unfold parOf
  refine ⟨?_, ?_, ?_⟩
  all_goals
    rw [V_lines]
    after_reads_at
    try rfl

set_option maxHeartbeats 4000000 in
/-- The recurrent unit's weights of the hidden state. -/
theorem whh_at :
    (V m c main_v10 : Vec Ideal S64x64 .f32) (ix2 d e) = (parOf m c).whh (at0 e) d ∧
    (V m c main_v12 : Vec Ideal S64x64 .f32) (ix2 d e) = (parOf m c).whh (at1 e) d ∧
    (V m c main_v14 : Vec Ideal S64x64 .f32) (ix2 d e) = (parOf m c).whh (at2 e) d := by
  unfold parOf
  refine ⟨?_, ?_, ?_⟩
  all_goals
    rw [V_lines]
    after_reads_at
    try rfl

set_option maxHeartbeats 4000000 in
/-- The recurrent unit's biases. -/
theorem bias_at :
    (V m c main_v16 : Vec Ideal S1x64 .f32) (ix2 0 e) = (parOf m c).bih (at0 e) ∧
    (V m c main_v18 : Vec Ideal S1x64 .f32) (ix2 0 e) = (parOf m c).bih (at1 e) ∧
    (V m c main_v20 : Vec Ideal S1x64 .f32) (ix2 0 e) = (parOf m c).bih (at2 e) ∧
    (V m c main_v22 : Vec Ideal S1x64 .f32) (ix2 0 e) = (parOf m c).bhh (at0 e) ∧
    (V m c main_v24 : Vec Ideal S1x64 .f32) (ix2 0 e) = (parOf m c).bhh (at1 e) ∧
    (V m c main_v26 : Vec Ideal S1x64 .f32) (ix2 0 e) = (parOf m c).bhh (at2 e) := by
  unfold parOf
  refine ⟨?_, ?_, ?_, ?_, ?_, ?_⟩
  all_goals
    rw [V_lines]
    after_reads_at
    try rfl

set_option maxHeartbeats 4000000 in
/-- The attention's weights and biases. -/
theorem attn_at :
    (V m c main_v51 : Vec Ideal S64x32 .f32) (ix2 d f) = (parOf m c).qw f d ∧
    (V m c main_v52 : Vec Ideal S1x32 .f32) (ix2 0 f) = (parOf m c).qb f ∧
    (V m c main_v53 : Vec Ideal S64x32 .f32) (ix2 d f) = (parOf m c).kw f d ∧
    (V m c main_v54 : Vec Ideal S1x32 .f32) (ix2 0 f) = (parOf m c).kb f := by
  unfold parOf
  refine ⟨?_, ?_, ?_, ?_⟩
  all_goals
    rw [V_lines]
    after_reads_at
    try rfl

set_option maxHeartbeats 4000000 in
/-- The input layer's and both mixings' weights. -/
theorem lay_at :
    (V m c main_v55 : Vec Ideal S1x64 .f32) (ix2 0 e) = (parOf m c).cw e ∧
    (V m c main_v56 : Vec Ideal S1x64 .f32) (ix2 0 e) = (parOf m c).cb e ∧
    (V m c main_v57 : Vec Ideal S64x64 .f32) (ix2 e d) = (parOf m c).g0 d e ∧
    (V m c main_v63 : Vec Ideal S64x64 .f32) (ix2 e d) = (parOf m c).g1 d e := by
  unfold parOf
  refine ⟨?_, ?_, ?_, ?_⟩
  all_goals
    rw [V_lines]
    after_reads_at
    try rfl

set_option maxHeartbeats 4000000 in
/-- The graph convolutions' biases, repeated for every time step. -/
theorem tiled_at :
    (V m c main_v61 : Vec Ideal S1x4096 .f32) (ix2 0 ⟨t * 64 + d, by omega⟩) = (parOf m c).gb0 d ∧
    (V m c main_v67 : Vec Ideal S1x4096 .f32) (ix2 0 ⟨t * 64 + d, by omega⟩) = (parOf m c).gb1 d := by
  unfold parOf
  refine ⟨?_, ?_⟩
  all_goals
    rw [V_lines]
    after_reads_at
    refine congrArg (m _) (congrArg ix1 (Fin.ext ?_))
    show ((t : ℕ) * 64 + d) % 64 = d
    omega

set_option maxHeartbeats 4000000 in
/-- The first convolution's taps and bias. -/
theorem conv0_at :
    (V m c main_v29 : Vec Ideal S64x64 .f32) (ix2 e d) = (parOf m c).c0 d e 0 ∧
    (V m c main_v32 : Vec Ideal S64x64 .f32) (ix2 e d) = (parOf m c).c0 d e 1 ∧
    (V m c main_v35 : Vec Ideal S64x64 .f32) (ix2 e d) = (parOf m c).c0 d e 2 ∧
    (V m c main_v62 : Vec Ideal S1x64 .f32) (ix2 0 e) = (parOf m c).cb0 e := by
  unfold parOf
  refine ⟨?_, ?_, ?_, ?_⟩
  all_goals
    rw [V_lines]
    after_reads_at
    try rfl

set_option maxHeartbeats 4000000 in
/-- The second convolution's taps and bias. -/
theorem conv1_at :
    (V m c main_v38 : Vec Ideal S64x64 .f32) (ix2 e d) = (parOf m c).c1 d e 0 ∧
    (V m c main_v41 : Vec Ideal S64x64 .f32) (ix2 e d) = (parOf m c).c1 d e 1 ∧
    (V m c main_v44 : Vec Ideal S64x64 .f32) (ix2 e d) = (parOf m c).c1 d e 2 ∧
    (V m c main_v47 : Vec Ideal S64x64 .f32) (ix2 e d) = (parOf m c).c1 d e 3 ∧
    (V m c main_v50 : Vec Ideal S64x64 .f32) (ix2 e d) = (parOf m c).c1 d e 4 ∧
    (V m c main_v68 : Vec Ideal S1x64 .f32) (ix2 0 e) = (parOf m c).cb1 e := by
  unfold parOf
  refine ⟨?_, ?_, ?_, ?_, ?_, ?_⟩
  all_goals
    rw [V_lines]
    after_reads_at
    try rfl

variable (o : Fin 256)

set_option maxHeartbeats 4000000 in
/-- The last layer's bias. -/
theorem lb_at :
    (V m c main_v69 : Vec Ideal S1x256 .f32) (ix2 0 o) = (parOf m c).ob o := by
  unfold parOf
  all_goals
    rw [V_lines]
    after_reads_at
    try rfl

end Cert.KernelIdeal.Model

end
-- ==== Proof.Own.KNamed.lean ====
module

public import proofs.«01_k».proof.Proof.Own.KFrame
public import proofs.«01_k».proof.Proof.Own.KHost
public import Idealize.ShloMosaic.Lib.Pipeline.Value
public import Idealize.ShloMosaic.Lib.Claim

@[expose] public section

set_option maxRecDepth 16384

noncomputable section

/-! The launch, the result named: when the body's result is known, the result's array ends at it and the program's
    result is that array, reshaped. -/

namespace Cert.KernelIdeal.Named

open Cert.KernelIdeal Cert.KernelIdeal.Gen Cert.KernelIdeal.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation RDat)

variable (m : (ℓ : Loc nD τ sig) → Buf (Elt Ideal) ℓ) (ρ : Dev nD → PrngReg) (o : Dev nD → Vec Ideal S16x256 .f32)

set_option maxHeartbeats 4000000 in
/-- The body's obligation, the result named. -/
theorem body_named (hval : ∀ c t fs, (runAt m c t).1 fs = o c) (c : Dev nD) : BodyObligation (dats m o 0 c) (defs₀ (F := Ideal)) Variants.none () Set.univ := fun t => by
  rw [bigSep_W0, bigSep_W0, defs₀_row]
  exact triple_restated (body_core m o c t iprop(∃ d, owns (c : Thread nD τ) (ms0_34 t) fullShare ((dats m o 0 c).before 34 t d)) iprop(owns (c : Thread nD τ) (ms0_34 t) fullShare (o c))
    (by iintro ⟨%d, H⟩; iexists _; iexact H) (fun fs => by rw [hval c t fs])) rfl .rfl fun _ => .rfl

set_option maxHeartbeats 4000000 in
set_option backward.isDefEq.respectTransparency.types false in
/-- The launch from any memory, the result named. -/
theorem run_named (hval : ∀ c t fs, (runAt m c t).1 fs = o c) : θ_run defs (onTc (τ := τ) (main (F := Ideal))) (s₀ m ρ)
    (fun r => Pipeline.FramePost cfgs (dats m o) (0 : Fin 1) (Pipeline.afterTail₀ cfgs (dats m o) (0 : Fin 1) (V0 m) [hostOps1]) r ∧ r.2.sem = fun _ => 0) :=
  Pipeline.θ_run_frame_dma_around (Q' := _) cfgs (dats m o) (0 : Fin 1) launch0 osem0 defs₀ Variants.none ownSemFacts0 H0 H0_sub m ρ main
    (hbody := fun c => (body_named m o hval c).loose) (hshare := fun c => (dats m o 0 c).share_full fun _ => rfl) (howed := fun _ _ => rfl)
    (V₀ := V0 m) (opss := [hostOps1]) (hsub := sfx_but) (hfresh := sfx_fresh) (hkeep := sfx_keeps)
    (hmain := hmainD m Variants.none) (hA := A_eq m o) (hin := fun _ => .rfl) (hout := fun _ => .rfl)

/-- The result's block is its whole array. -/
theorem emb34 (t : Fin cfg0.N) (j : S16x256.Idx) : ((cfg0.win 34).blk t).view.emb j = j := by
  funext a
  apply Fin.ext
  match a with
  | ⟨0, _⟩ => show 0 * 16 + 1 * (j 0).val = (j 0).val; omega
  | ⟨1, _⟩ => show 0 * 256 + 1 * (j 1).val = (j 1).val; omega

/-- The result's array after the launch. -/
theorem arr_final (c : Dev nD) : (dats m o 0 c).arrAt 34 cfg0.N = o c :=
  (dats m o 0 c).arrAt_eq_of_cover 34 (o c)
    (fun t _ => (whole_blk (Memref.whole main_v70) _ _ _ _ (Memref.isWhole_whole _) (hstage0_34 0) t (o c)).symm)
    fun i => ⟨(⟨0, by decide⟩ : Fin cfg0.N), rfl, by
      have h := ((cfg0.win 34).blk (⟨0, by decide⟩ : Fin cfg0.N)).view.emb_mem_set i
      rwa [emb34] at h⟩

/-- The launch's buffers are distinct. -/
theorem arrs_inj : Function.Injective (Pipeline.arrRef spec0) := by decide

/-- The program's result: the array, reshaped. -/
theorem result_final (c : Dev nD) {r : PUnit × MemSt nD τ sig (Elt Ideal)}
    (h : Pipeline.FramePost cfgs (dats m o) (0 : Fin 1) (Pipeline.afterTail₀ cfgs (dats m o) (0 : Fin 1) (V0 m) [hostOps1]) r) :
    r.2.mem ((c.tc : Thread nD τ).loc main_v71) = shapeCast S16x8x32 (o c) shapeCasts_S16x256_S16x8x32 := by
  have e := (h c).2 main_v71 (Pipeline.mem_restRefs_of main_v71 (by decide) (by decide))
  rw [e]
  unfold Pipeline.afterTail₀
  rw [show StableHlo.after [hostOps1].flatten (Pipeline.withArrays spec0 c (V0 m c) fun w => (dats m o 0 c).arrAt w cfg0.N) (Proc.devRef .tc main_v71)
    = shapeCast S16x8x32 ((Pipeline.withArrays spec0 c (V0 m c) fun w => (dats m o 0 c).arrAt w cfg0.N) (Proc.devRef .tc main_v70)) shapeCasts_S16x256_S16x8x32 by after_results; rfl]
  rw [show (Pipeline.withArrays spec0 c (V0 m c) fun w => (dats m o 0 c).arrAt w cfg0.N) (Proc.devRef .tc main_v70) = o c from
    (Pipeline.withArrays_arr spec0 arrs_inj c (V0 m c) _ 34).trans (arr_final m o c)]

end Cert.KernelIdeal.Named

end
-- ==== Proof.Own.KVal1.lean ====
module

public import proofs.«01_k».proof.Proof.Own.KRun
public import proofs.«01_k».proof.Proof.Own.KNet

@[expose] public section

set_option maxRecDepth 16384

noncomputable section

namespace Cert.KernelIdeal.Value

open Cert.KernelIdeal Cert.KernelIdeal.Gen Cert.KernelIdeal.Model Cert.KernelIdeal.Named
open Idealize.ShloMosaic Idealize.ShloMosaic.TcCoe Idealize.ShloMosaic.Tactic

variable (c : Dev nD) (arg0 : Memref sig .tc .vmem S64x512x1 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x32 .f32) (harg13 : arg13.IsWhole) (arg14 : Memref sig .tc .vmem S1x32 .f32) (harg14 : arg14.IsWhole) (arg15 : Memref sig .tc .vmem S64x32 .f32) (harg15 : arg15.IsWhole) (arg16 : Memref sig .tc .vmem S1x32 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x4096 .f32) (harg20 : arg20.IsWhole) (arg21 : Memref sig .tc .vmem S64x64 .f32) (harg21 : arg21.IsWhole) (arg22 : Memref sig .tc .vmem S64x64 .f32) (harg22 : arg22.IsWhole) (arg23 : Memref sig .tc .vmem S64x64 .f32) (harg23 : arg23.IsWhole) (arg24 : Memref sig .tc .vmem S1x64 .f32) (harg24 : arg24.IsWhole) (arg25 : Memref sig .tc .vmem S64x64 .f32) (harg25 : arg25.IsWhole) (arg26 : Memref sig .tc .vmem S1x4096 .f32) (harg26 : arg26.IsWhole) (arg27 : Memref sig .tc .vmem S64x64 .f32) (harg27 : arg27.IsWhole) (arg28 : Memref sig .tc .vmem S64x64 .f32) (harg28 : arg28.IsWhole) (arg29 : Memref sig .tc .vmem S64x64 .f32) (harg29 : arg29.IsWhole) (arg30 : Memref sig .tc .vmem S64x64 .f32) (harg30 : arg30.IsWhole) (arg31 : Memref sig .tc .vmem S64x64 .f32) (harg31 : arg31.IsWhole) (arg32 : Memref sig .tc .vmem S1x64 .f32) (harg32 : arg32.IsWhole) (arg34 : Memref sig .tc .vmem S1x256 .f32) (harg34 : arg34.IsWhole) (arg35 : Memref sig .tc .vmem S16x256 .f32) (harg35 : arg35.IsWhole)
variable (x0 : Vec Ideal S64x512x1 .f32) (x1 : Vec Ideal S1x64 .f32) (x2 : Vec Ideal S1x64 .f32) (x3 : Vec Ideal S1x64 .f32) (x4 : Vec Ideal S64x64 .f32) (x5 : Vec Ideal S64x64 .f32) (x6 : Vec Ideal S64x64 .f32) (x7 : Vec Ideal S1x64 .f32) (x8 : Vec Ideal S1x64 .f32) (x9 : Vec Ideal S1x64 .f32) (x10 : Vec Ideal S1x64 .f32) (x11 : Vec Ideal S1x64 .f32) (x12 : Vec Ideal S1x64 .f32) (x13 : Vec Ideal S64x32 .f32) (x14 : Vec Ideal S1x32 .f32) (x15 : Vec Ideal S64x32 .f32) (x16 : Vec Ideal S1x32 .f32) (x17 : Vec Ideal S1x64 .f32) (x18 : Vec Ideal S1x64 .f32) (x19 : Vec Ideal S64x64 .f32) (x20 : Vec Ideal S1x4096 .f32) (x21 : Vec Ideal S64x64 .f32) (x22 : Vec Ideal S64x64 .f32) (x23 : Vec Ideal S64x64 .f32) (x24 : Vec Ideal S1x64 .f32) (x25 : Vec Ideal S64x64 .f32) (x26 : Vec Ideal S1x4096 .f32) (x27 : Vec Ideal S64x64 .f32) (x28 : Vec Ideal S64x64 .f32) (x29 : Vec Ideal S64x64 .f32) (x30 : Vec Ideal S64x64 .f32) (x31 : Vec Ideal S64x64 .f32) (x32 : Vec Ideal S1x64 .f32) (x33 : Vec Ideal S1x256 .f32) (fh0 : HbBuf0 (F := Ideal) c hbM0_0)

theorem slab_in (t : Fin 64) : ∀ a, (![t.val, 0, 0] : Fin 3 → ℕ) a + S1x512x1.size a ≤ S64x512x1.size a := by
  intro a
  fin_cases a
  · show t.val + 1 ≤ 64
    omega
  · show 0 + 512 ≤ 512
    omega
  · show 0 + 1 ≤ 1
    omega

/-- What the body loads, as the run spells it. -/
def raw (blk : Fin 32 → Vec Ideal S1x256x4096 .f32) : Ins where
  row := rowAt arg0 (harg0.unread x0)
  slab t := View.readAt (Elt Ideal) arg0.view (Rect.unit (s := S64x512x1) ![t.val, 0, 0] S1x512x1.size (slab_in t)).toLoadRect (harg0.unread x0)
  wr := (View.readAt (Elt Ideal) arg1.view (Rect.unit ![0, 0] S1x64.size inb_S1x64_S1x64_0_0).toLoadRect (harg1.unread x1))
  wz := (View.readAt (Elt Ideal) arg2.view (Rect.unit ![0, 0] S1x64.size inb_S1x64_S1x64_0_0).toLoadRect (harg2.unread x2))
  wn := (View.readAt (Elt Ideal) arg3.view (Rect.unit ![0, 0] S1x64.size inb_S1x64_S1x64_0_0).toLoadRect (harg3.unread x3))
  ur := (View.readAt (Elt Ideal) arg4.view (Rect.unit ![0, 0] S64x64.size inb_S64x64_S64x64_0_0).toLoadRect (harg4.unread x4))
  uz := (View.readAt (Elt Ideal) arg5.view (Rect.unit ![0, 0] S64x64.size inb_S64x64_S64x64_0_0).toLoadRect (harg5.unread x5))
  un := (View.readAt (Elt Ideal) arg6.view (Rect.unit ![0, 0] S64x64.size inb_S64x64_S64x64_0_0).toLoadRect (harg6.unread x6))
  br := (View.readAt (Elt Ideal) arg7.view (Rect.unit ![0, 0] S1x64.size inb_S1x64_S1x64_0_0).toLoadRect (harg7.unread x7))
  bz := (View.readAt (Elt Ideal) arg8.view (Rect.unit ![0, 0] S1x64.size inb_S1x64_S1x64_0_0).toLoadRect (harg8.unread x8))
  bn := (View.readAt (Elt Ideal) arg9.view (Rect.unit ![0, 0] S1x64.size inb_S1x64_S1x64_0_0).toLoadRect (harg9.unread x9))
  cr := (View.readAt (Elt Ideal) arg10.view (Rect.unit ![0, 0] S1x64.size inb_S1x64_S1x64_0_0).toLoadRect (harg10.unread x10))
  cz := (View.readAt (Elt Ideal) arg11.view (Rect.unit ![0, 0] S1x64.size inb_S1x64_S1x64_0_0).toLoadRect (harg11.unread x11))
  cn := (View.readAt (Elt Ideal) arg12.view (Rect.unit ![0, 0] S1x64.size inb_S1x64_S1x64_0_0).toLoadRect (harg12.unread x12))
  wq := (kernelRun0_A.sl.r_1 (F := Ideal) c arg13 harg13 x13)
  bq := View.readAt (Elt Ideal) arg14.view (Rect.unit ![0, 0] S1x32.size inb_S1x32_S1x32_0_0).toLoadRect (harg14.unread x14)
  wk := View.readAt (Elt Ideal) arg15.view (Rect.unit ![0, 0] S64x32.size inb_S64x32_S64x32_0_0).toLoadRect (harg15.unread x15)
  bk := View.readAt (Elt Ideal) arg16.view (Rect.unit ![0, 0] S1x32.size inb_S1x32_S1x32_0_0).toLoadRect (harg16.unread x16)
  cw := (kernelRun0_A.sl.r_4 (F := Ideal) c arg17 harg17 x17)
  cb := (kernelRun0_A.sl.r_5 (F := Ideal) c arg18 harg18 x18)
  g0 := (kernelRun0_A.sl.v139 (F := Ideal) c arg19 harg19 x19)
  gb0 := View.readAt (Elt Ideal) arg20.view (Rect.unit ![0, 0] S1x4096.size inb_S1x4096_S1x4096_0_0).toLoadRect (harg20.unread x20)
  t00 := (kernelRun0_A.sl.v659 (F := Ideal) c arg21 harg21 x21)
  t01 := (kernelRun0_A.sl.v661 (F := Ideal) c arg22 harg22 x22)
  t02 := (kernelRun0_A.sl.v663 (F := Ideal) c arg23 harg23 x23)
  cb0 := (kernelRun0_A.sl.v665 (F := Ideal) c arg24 harg24 x24)
  g1 := (kernelRun0_A.sl.v667 (F := Ideal) c arg25 harg25 x25)
  gb1 := View.readAt (Elt Ideal) arg26.view (Rect.unit ![0, 0] S1x4096.size inb_S1x4096_S1x4096_0_0).toLoadRect (harg26.unread x26)
  t10 := (kernelRun0_A.sl.v1567 (F := Ideal) c arg27 harg27 x27)
  t11 := (kernelRun0_A.sl.v1569 (F := Ideal) c arg28 harg28 x28)
  t12 := (kernelRun0_A.sl.v1571 (F := Ideal) c arg29 harg29 x29)
  t13 := (kernelRun0_A.sl.v1573 (F := Ideal) c arg30 harg30 x30)
  t14 := (kernelRun0_A.sl.v1575 (F := Ideal) c arg31 harg31 x31)
  cb1 := (kernelRun0_A.sl.v1577 (F := Ideal) c arg32 harg32 x32)
  lb := (kernelRun0_A.sl.v2912 (F := Ideal) c arg34 harg34 x33)
  blk := blk

/-- The recurrence runs its 64 trips. -/
theorem trips_eq : Scf.trips k0_t1_loop.lb k0_t1_loop.ub k0_t1_loop.st = 64 := by decide

variable (blk : Fin 32 → Vec Ideal S1x256x4096 .f32) (I : Ins) (hI : I = raw c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg34 harg34 x0 x1 x2 x3 x4 x5 x6 x7 x8 x9 x10 x11 x12 x13 x14 x15 x16 x17 x18 x19 x20 x21 x22 x23 x24 x25 x26 x27 x28 x29 x30 x31 x32 x33 blk)

include hI

/-- The hidden states. -/
theorem h_eq : (kernelRun0_A.sl.r (F := Ideal) c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 x12) = I.h := by
  subst hI
  unfold kernelRun0_A.sl.r
  rw [trips_eq, show (k0_pay2 : FVec Ideal S512x64 .f32) = kZero from rfl]
  unfold Ins.h raw
  dsimp only

/-- The attention. -/
theorem att_eq : (kernelRun0_A.sl.r_3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 x15 x16) = I.att := by
  unfold kernelRun0_A.sl.r_3 kernelRun0_A.sl.r_2 Ins.att
  rw [h_eq (hI := hI)]
  generalize I.h = H
  subst hI
  unfold kAtt kScore raw
  dsimp only
  rw [show Scalar.select (Scalar.cmpi .eq 16#32 0#32) 1#32 16#32 = 16#32 by decide]

omit hI in
/-- The 64 time steps, spelled. -/
theorem ofFn_eq (f : Fin 64 → FVec Ideal S512x64 .f32) : (List.ofFn fun t => (⟨S512x64, f t⟩ : (s : Shape) × (s.Idx → Ideal FTy.f32))) = [⟨S512x64, f 0⟩, ⟨S512x64, f 1⟩, ⟨S512x64, f 2⟩, ⟨S512x64, f 3⟩, ⟨S512x64, f 4⟩, ⟨S512x64, f 5⟩, ⟨S512x64, f 6⟩, ⟨S512x64, f 7⟩, ⟨S512x64, f 8⟩, ⟨S512x64, f 9⟩, ⟨S512x64, f 10⟩, ⟨S512x64, f 11⟩, ⟨S512x64, f 12⟩, ⟨S512x64, f 13⟩, ⟨S512x64, f 14⟩, ⟨S512x64, f 15⟩, ⟨S512x64, f 16⟩, ⟨S512x64, f 17⟩, ⟨S512x64, f 18⟩, ⟨S512x64, f 19⟩, ⟨S512x64, f 20⟩, ⟨S512x64, f 21⟩, ⟨S512x64, f 22⟩, ⟨S512x64, f 23⟩, ⟨S512x64, f 24⟩, ⟨S512x64, f 25⟩, ⟨S512x64, f 26⟩, ⟨S512x64, f 27⟩, ⟨S512x64, f 28⟩, ⟨S512x64, f 29⟩, ⟨S512x64, f 30⟩, ⟨S512x64, f 31⟩, ⟨S512x64, f 32⟩, ⟨S512x64, f 33⟩, ⟨S512x64, f 34⟩, ⟨S512x64, f 35⟩, ⟨S512x64, f 36⟩, ⟨S512x64, f 37⟩, ⟨S512x64, f 38⟩, ⟨S512x64, f 39⟩, ⟨S512x64, f 40⟩, ⟨S512x64, f 41⟩, ⟨S512x64, f 42⟩, ⟨S512x64, f 43⟩, ⟨S512x64, f 44⟩, ⟨S512x64, f 45⟩, ⟨S512x64, f 46⟩, ⟨S512x64, f 47⟩, ⟨S512x64, f 48⟩, ⟨S512x64, f 49⟩, ⟨S512x64, f 50⟩, ⟨S512x64, f 51⟩, ⟨S512x64, f 52⟩, ⟨S512x64, f 53⟩, ⟨S512x64, f 54⟩, ⟨S512x64, f 55⟩, ⟨S512x64, f 56⟩, ⟨S512x64, f 57⟩, ⟨S512x64, f 58⟩, ⟨S512x64, f 59⟩, ⟨S512x64, f 60⟩, ⟨S512x64, f 61⟩, ⟨S512x64, f 62⟩, ⟨S512x64, f 63⟩] := rfl

omit hI in
/-- A mixing, its time steps in a list. -/
theorem kMix_list (A : FVec Ideal S512x512 .f32) (f : Fin 64 → FVec Ideal S512x64 .f32) (b : FVec Ideal S1x4096 .f32) (xs : List ((s : Shape) × (s.Idx → Ideal FTy.f32)))
    (e : (List.ofFn fun t => (⟨S512x64, f t⟩ : (s : Shape) × (s.Idx → Ideal FTy.f32))) = xs) (h : Shape.Concatenates (xs.map (·.1)) S512x4096 1) : kMix A f b
    = addf (matmul dot_S512x512_S512x4096_S512x4096_1_0_0_1_n_n none A (concatenate S512x4096 1 xs h) (constant S512x4096 .f32 0x00000000#32))
      (broadcastTo S512x4096 (shapeCast S1x4096 b shapeCasts_S1x4096_S1x4096) broadcasts_S1x4096_S512x4096) := by
  subst e
  rfl

end Cert.KernelIdeal.Value

end
-- ==== Proof.Own.KVal2.lean ====
module

public import proofs.«01_k».proof.Proof.Own.KVal1
public import proofs.«01_k».proof.Proof.Own.KNet

@[expose] public section

set_option maxRecDepth 16384

noncomputable section

namespace Cert.KernelIdeal.Value

open Cert.KernelIdeal Cert.KernelIdeal.Gen Cert.KernelIdeal.Model Cert.KernelIdeal.Named
open Idealize.ShloMosaic Idealize.ShloMosaic.TcCoe Idealize.ShloMosaic.Tactic

variable (c : Dev nD) (arg0 : Memref sig .tc .vmem S64x512x1 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x32 .f32) (harg13 : arg13.IsWhole) (arg14 : Memref sig .tc .vmem S1x32 .f32) (harg14 : arg14.IsWhole) (arg15 : Memref sig .tc .vmem S64x32 .f32) (harg15 : arg15.IsWhole) (arg16 : Memref sig .tc .vmem S1x32 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x4096 .f32) (harg20 : arg20.IsWhole) (arg21 : Memref sig .tc .vmem S64x64 .f32) (harg21 : arg21.IsWhole) (arg22 : Memref sig .tc .vmem S64x64 .f32) (harg22 : arg22.IsWhole) (arg23 : Memref sig .tc .vmem S64x64 .f32) (harg23 : arg23.IsWhole) (arg24 : Memref sig .tc .vmem S1x64 .f32) (harg24 : arg24.IsWhole) (arg25 : Memref sig .tc .vmem S64x64 .f32) (harg25 : arg25.IsWhole) (arg26 : Memref sig .tc .vmem S1x4096 .f32) (harg26 : arg26.IsWhole) (arg27 : Memref sig .tc .vmem S64x64 .f32) (harg27 : arg27.IsWhole) (arg28 : Memref sig .tc .vmem S64x64 .f32) (harg28 : arg28.IsWhole) (arg29 : Memref sig .tc .vmem S64x64 .f32) (harg29 : arg29.IsWhole) (arg30 : Memref sig .tc .vmem S64x64 .f32) (harg30 : arg30.IsWhole) (arg31 : Memref sig .tc .vmem S64x64 .f32) (harg31 : arg31.IsWhole) (arg32 : Memref sig .tc .vmem S1x64 .f32) (harg32 : arg32.IsWhole) (arg34 : Memref sig .tc .vmem S1x256 .f32) (harg34 : arg34.IsWhole) (arg35 : Memref sig .tc .vmem S16x256 .f32) (harg35 : arg35.IsWhole)
variable (x0 : Vec Ideal S64x512x1 .f32) (x1 : Vec Ideal S1x64 .f32) (x2 : Vec Ideal S1x64 .f32) (x3 : Vec Ideal S1x64 .f32) (x4 : Vec Ideal S64x64 .f32) (x5 : Vec Ideal S64x64 .f32) (x6 : Vec Ideal S64x64 .f32) (x7 : Vec Ideal S1x64 .f32) (x8 : Vec Ideal S1x64 .f32) (x9 : Vec Ideal S1x64 .f32) (x10 : Vec Ideal S1x64 .f32) (x11 : Vec Ideal S1x64 .f32) (x12 : Vec Ideal S1x64 .f32) (x13 : Vec Ideal S64x32 .f32) (x14 : Vec Ideal S1x32 .f32) (x15 : Vec Ideal S64x32 .f32) (x16 : Vec Ideal S1x32 .f32) (x17 : Vec Ideal S1x64 .f32) (x18 : Vec Ideal S1x64 .f32) (x19 : Vec Ideal S64x64 .f32) (x20 : Vec Ideal S1x4096 .f32) (x21 : Vec Ideal S64x64 .f32) (x22 : Vec Ideal S64x64 .f32) (x23 : Vec Ideal S64x64 .f32) (x24 : Vec Ideal S1x64 .f32) (x25 : Vec Ideal S64x64 .f32) (x26 : Vec Ideal S1x4096 .f32) (x27 : Vec Ideal S64x64 .f32) (x28 : Vec Ideal S64x64 .f32) (x29 : Vec Ideal S64x64 .f32) (x30 : Vec Ideal S64x64 .f32) (x31 : Vec Ideal S64x64 .f32) (x32 : Vec Ideal S1x64 .f32) (x33 : Vec Ideal S1x256 .f32) (fh0 : HbBuf0 (F := Ideal) c hbM0_0)

variable (blk : Fin 32 → Vec Ideal S1x256x4096 .f32) (I : Ins) (hI : I = raw c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg34 harg34 x0 x1 x2 x3 x4 x5 x6 x7 x8 x9 x10 x11 x12 x13 x14 x15 x16 x17 x18 x19 x20 x21 x22 x23 x24 x25 x26 x27 x28 x29 x30 x31 x32 x33 blk)

include hI

set_option maxHeartbeats 4000000 in
/-- The first graph convolution. -/
theorem m0_eq : (kernelRun0_A.sl.v657 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19 x20) = I.m0 := by
  unfold kernelRun0_A.sl.v657 kernelRun0_A.sl.v653 kernelRun0_A.sl.v652 kernelRun0_A.sl.v656 kernelRun0_A.sl.v655 Ins.m0
  rw [att_eq (hI := hI)]
  generalize I.att = H
  subst hI
  refine (kMix_list H _ _ _ ?_ _).symm
  refine (ofFn_eq _).trans ?_
  unfold raw
  dsimp only
  rfl

set_option maxHeartbeats 4000000 in
/-- The second graph convolution. -/
theorem m1_eq : (kernelRun0_A.sl.v1565 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19 x20 x21 x22 x23 x24 x25 x26) = I.m1 := by
  unfold kernelRun0_A.sl.v1565 kernelRun0_A.sl.v1561 kernelRun0_A.sl.v1560 kernelRun0_A.sl.v1564 kernelRun0_A.sl.v1563 Ins.m1
  rw [att_eq (hI := hI), ← m0_eq (hI := hI)]
  generalize I.att = H
  subst hI
  refine (kMix_list H _ _ _ ?_ _).symm
  refine (ofFn_eq _).trans ?_
  unfold raw
  dsimp only
  rfl

end Cert.KernelIdeal.Value

end
-- ==== Proof.Own.KSlots.lean ====
module

public import proofs.«01_k».proof.Proof.Own.KRun
public import proofs.«01_k».proof.Proof.Own.KNet
public import Idealize.ShloMosaic.Lib.Pipeline.Value

@[expose] public section

set_option maxRecDepth 16384

noncomputable section

/-! The five slots the head's weight passes through: what each of the 32 reads finds. -/

namespace Cert.KernelIdeal.Value

open Cert.Math Cert.KernelIdeal Cert.KernelIdeal.Gen Cert.KernelIdeal.Named
open Idealize.ShloMosaic Idealize.ShloMosaic.TcCoe Idealize.ShloMosaic.Tactic

variable (f : BufTy.Contents (Elt Ideal) scM0_0.view.ty) (X : Vec Ideal S256x4096 .f32)

/-- A slot, its unit axis dropped. -/
theorem slot_flat (W : Vec Ideal S1x256x4096 .f32) (o : Fin 256) (q : Fin 4096) : W (ix3 0 o q) = shapeCast S256x4096 W shapeCasts_S1x256x4096_S256x4096 (ix2 o q) := by
  pointwise []

/-- A slot read after it is written holds what was written. -/
theorem slot_hit (i : ℕ) (inb) (hr) (hq) (o : Fin 256) (q : Fin 4096) :
    View.readAt (Elt Ideal) scM0_0.view (Rect.unit (s := S5x256x4096) ![i, 0, 0] S1x256x4096.size inb).toLoadRect
      (View.write (Elt Ideal) ((scM0_0.slice (Rect.unit (s := S5x256x4096) ![i, 0, 0] S1x256x4096.size inb) hr).squeeze S256x4096 hq).view f X Finset.univ)
      (ix3 0 o q) = X (ix2 o q) := by
  refine Eq.trans ?_ (congrFun (View.read_write_univ (v := ((scM0_0.slice (Rect.unit (s := S5x256x4096) ![i, 0, 0] S1x256x4096.size inb) hr).squeeze S256x4096 hq).view) f X) (ix2 o q))
  rw [Memref.read_squeeze_slice (hc := shapeCasts_S1x256x4096_S256x4096)]
  exact slot_flat _ o q

/-- A slot read after another is written holds what it held. -/
theorem slot_miss {i j : ℕ} (hij : i ≠ j) (inb inb') (hr) (hq) (y : S1x256x4096.Idx) :
    View.readAt (Elt Ideal) scM0_0.view (Rect.unit (s := S5x256x4096) ![i, 0, 0] S1x256x4096.size inb).toLoadRect
      (View.write (Elt Ideal) ((scM0_0.slice (Rect.unit (s := S5x256x4096) ![j, 0, 0] S1x256x4096.size inb') hr).squeeze S256x4096 hq).view f X Finset.univ) y
    = View.readAt (Elt Ideal) scM0_0.view (Rect.unit (s := S5x256x4096) ![i, 0, 0] S1x256x4096.size inb).toLoadRect f y := by
  rw [View.readAt_apply, View.readAt_apply, View.read_apply, View.read_apply, View.write_of_not_mem]
  intro h
  rw [View.setOn_univ] at h
  change _ ∈ (View.reshape (scM0_0.slice (Rect.unit (s := S5x256x4096) ![j, 0, 0] S1x256x4096.size inb') hr).view S256x4096 _).set at h
  rw [View.set_reshape] at h
  obtain ⟨x, -, hx⟩ := Finset.mem_map.1 h
  have e : i + 1 * ((y 0 : Fin 1) : ℕ) = j + 1 * ((x 0 : Fin 1) : ℕ) := (congrArg (fun z : S5x256x4096.Idx => (z 0 : ℕ)) hx).symm
  have hx0 : ((x 0 : Fin 1) : ℕ) < 1 := (x 0).isLt
  have : ((y 0 : Fin 1) : ℕ) < 1 := (y 0).isLt
  omega

variable (c : Dev nD) (fh0 : HbBuf0 (F := Ideal) c hbM0_0)

/-- A block of the weight, copied out. -/
theorem copied (n : ℕ) (inb) (hr) (o : Fin 256) (q : Fin 4096) (h : n + q < 131072) :
    (View.read (Elt Ideal) ((Memref.whole main_arg19).slice (Rect.unit (s := S256x131072) ![0, n] S256x4096.size inb) hr).view fh0 : Vec Ideal S256x4096 .f32) (ix2 o q)
    = fh0 (ix2 o ⟨n + q, h⟩) := by
  refine congrArg fh0 (funext fun a => Fin.ext ?_)
  match a with
  | ⟨0, _⟩ => show 0 + 1 * (o : ℕ) = o; omega
  | ⟨1, _⟩ => show n + 1 * (q : ℕ) = n + q; omega

variable (fs0 : BufTy.Contents (Elt Ideal) scM0_0.view.ty)

/-- What the 32 reads of the slots find. -/
def reads : Fin 32 → Vec Ideal S1x256x4096 .f32 :=
  ![kernelRun0_A.sl.v2920 (F := Ideal) c fh0 fs0, kernelRun0_A.sl.v2935 (F := Ideal) c fh0 fs0, kernelRun0_A.sl.v2950 (F := Ideal) c fh0 fs0, kernelRun0_A.sl.v2965 (F := Ideal) c fh0 fs0,
    kernelRun0_A.sl.v2980 (F := Ideal) c fh0 fs0, kernelRun0_A.sl.v2995 (F := Ideal) c fh0 fs0, kernelRun0_A.sl.v3010 (F := Ideal) c fh0 fs0, kernelRun0_A.sl.v3025 (F := Ideal) c fh0 fs0,
    kernelRun0_A.sl.v3040 (F := Ideal) c fh0 fs0, kernelRun0_A.sl.v3055 (F := Ideal) c fh0 fs0, kernelRun0_A.sl.v3070 (F := Ideal) c fh0 fs0, kernelRun0_A.sl.v3085 (F := Ideal) c fh0 fs0,
    kernelRun0_A.sl.v3100 (F := Ideal) c fh0 fs0, kernelRun0_A.sl.v3115 (F := Ideal) c fh0 fs0, kernelRun0_A.sl.v3130 (F := Ideal) c fh0 fs0, kernelRun0_A.sl.v3145 (F := Ideal) c fh0 fs0,
    kernelRun0_A.sl.v3160 (F := Ideal) c fh0 fs0, kernelRun0_A.sl.v3175 (F := Ideal) c fh0 fs0, kernelRun0_A.sl.v3190 (F := Ideal) c fh0 fs0, kernelRun0_A.sl.v3205 (F := Ideal) c fh0 fs0,
    kernelRun0_A.sl.v3220 (F := Ideal) c fh0 fs0, kernelRun0_A.sl.v3235 (F := Ideal) c fh0 fs0, kernelRun0_A.sl.v3250 (F := Ideal) c fh0 fs0, kernelRun0_A.sl.v3265 (F := Ideal) c fh0 fs0,
    kernelRun0_A.sl.v3280 (F := Ideal) c fh0 fs0, kernelRun0_A.sl.v3295 (F := Ideal) c fh0 fs0, kernelRun0_A.sl.v3310 (F := Ideal) c fh0 fs0, kernelRun0_A.sl.v3325 (F := Ideal) c fh0 fs0,
    kernelRun0_A.sl.v3335 (F := Ideal) c fh0 fs0, kernelRun0_A.sl.v3345 (F := Ideal) c fh0 fs0, kernelRun0_A.sl.v3355 (F := Ideal) c fh0 fs0, kernelRun0_A.sl.v3365 (F := Ideal) c fh0 fs0]

/-- A block holds the weight's columns of its turn. -/
def Holds (j : ℕ) (w : Vec Ideal S1x256x4096 .f32) : Prop :=
  ∀ (o : Fin 256) (q : Fin 4096) (h : j * 4096 + q < 131072), w (ix3 0 o q) = fh0 (ix2 o ⟨j * 4096 + q, h⟩)

variable {c fh0}

/-- A slot read after its copy holds the copied block. -/
theorem Holds.hit {j n i : ℕ} (e : j * 4096 = n) (inb hr hq inb' hr') :
    Holds c fh0 j (View.readAt (Elt Ideal) scM0_0.view (Rect.unit (s := S5x256x4096) ![i, 0, 0] S1x256x4096.size inb).toLoadRect
      (View.write (Elt Ideal) ((scM0_0.slice (Rect.unit (s := S5x256x4096) ![i, 0, 0] S1x256x4096.size inb) hr).squeeze S256x4096 hq).view f
        (ReadAs.same.apply (View.read (Elt Ideal) ((Memref.whole main_arg19).slice (Rect.unit (s := S256x131072) ![0, n] S256x4096.size inb') hr').view fh0)) Finset.univ)) := by
  subst e
  intro o q h
  exact (slot_hit f _ i inb hr hq o q).trans (copied c fh0 _ inb' hr' o q h)

/-- A slot read after another slot's copy holds what it held. -/
theorem Holds.miss {j i i' : ℕ} (hi : i ≠ i') (inb inb' hr hq)
    (h : Holds c fh0 j (View.readAt (Elt Ideal) scM0_0.view (Rect.unit (s := S5x256x4096) ![i, 0, 0] S1x256x4096.size inb).toLoadRect f)) :
    Holds c fh0 j (View.readAt (Elt Ideal) scM0_0.view (Rect.unit (s := S5x256x4096) ![i, 0, 0] S1x256x4096.size inb).toLoadRect
      (View.write (Elt Ideal) ((scM0_0.slice (Rect.unit (s := S5x256x4096) ![i', 0, 0] S1x256x4096.size inb') hr).squeeze S256x4096 hq).view f X Finset.univ)) :=
  fun o q hq' => (slot_miss f X hi inb inb' hr hq _).trans (h o q hq')

/-- A claim of every entry of a vector, an entry at a time. -/
theorem vec_all {α : Type} {n : ℕ} (P : ℕ → α → Prop) (j : ℕ) (a : α) (v : Fin n → α) (h0 : P j a) (hs : ∀ k : Fin n, P (j + 1 + k) (v k)) (k : Fin (n + 1)) :
    P (j + k) (Matrix.vecCons a v k) := by
  refine Fin.cases h0 (fun k => ?_) k
  have := hs k
  rwa [show j + 1 + (k : ℕ) = j + (k.succ : ℕ) by rw [Fin.val_succ]; omega] at this

set_option maxHeartbeats 4000000 in
/-- The read of a block's turn finds that block. -/
theorem reads_hold : ∀ k : Fin 32, Holds c fh0 (0 + k) (reads c fh0 fs0 k) := by
  unfold reads
  repeat' refine vec_all (Holds c fh0) _ _ _ ?_ ?_
  all_goals try exact fun k => k.elim0
  all_goals
    repeat' first
      | refine Holds.miss _ _ (by decide) _ _ _ _ ?_
      | exact Holds.hit _ (by decide) _ _ _ _ _

end Cert.KernelIdeal.Value

end
-- ==== Proof.Own.KVal3.lean ====
module

public import proofs.«01_k».proof.Proof.Own.KVal2
public import proofs.«01_k».proof.Proof.Own.KSlots
public import proofs.«01_k».proof.Proof.Own.KNet

@[expose] public section

set_option maxRecDepth 16384

noncomputable section

namespace Cert.KernelIdeal.Value

open Cert.KernelIdeal Cert.KernelIdeal.Gen Cert.KernelIdeal.Model Cert.KernelIdeal.Named
open Idealize.ShloMosaic Idealize.ShloMosaic.TcCoe Idealize.ShloMosaic.Tactic

variable (c : Dev nD) (arg0 : Memref sig .tc .vmem S64x512x1 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S64x32 .f32) (harg13 : arg13.IsWhole) (arg14 : Memref sig .tc .vmem S1x32 .f32) (harg14 : arg14.IsWhole) (arg15 : Memref sig .tc .vmem S64x32 .f32) (harg15 : arg15.IsWhole) (arg16 : Memref sig .tc .vmem S1x32 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x4096 .f32) (harg20 : arg20.IsWhole) (arg21 : Memref sig .tc .vmem S64x64 .f32) (harg21 : arg21.IsWhole) (arg22 : Memref sig .tc .vmem S64x64 .f32) (harg22 : arg22.IsWhole) (arg23 : Memref sig .tc .vmem S64x64 .f32) (harg23 : arg23.IsWhole) (arg24 : Memref sig .tc .vmem S1x64 .f32) (harg24 : arg24.IsWhole) (arg25 : Memref sig .tc .vmem S64x64 .f32) (harg25 : arg25.IsWhole) (arg26 : Memref sig .tc .vmem S1x4096 .f32) (harg26 : arg26.IsWhole) (arg27 : Memref sig .tc .vmem S64x64 .f32) (harg27 : arg27.IsWhole) (arg28 : Memref sig .tc .vmem S64x64 .f32) (harg28 : arg28.IsWhole) (arg29 : Memref sig .tc .vmem S64x64 .f32) (harg29 : arg29.IsWhole) (arg30 : Memref sig .tc .vmem S64x64 .f32) (harg30 : arg30.IsWhole) (arg31 : Memref sig .tc .vmem S64x64 .f32) (harg31 : arg31.IsWhole) (arg32 : Memref sig .tc .vmem S1x64 .f32) (harg32 : arg32.IsWhole) (arg34 : Memref sig .tc .vmem S1x256 .f32) (harg34 : arg34.IsWhole) (arg35 : Memref sig .tc .vmem S16x256 .f32) (harg35 : arg35.IsWhole)
variable (x0 : Vec Ideal S64x512x1 .f32) (x1 : Vec Ideal S1x64 .f32) (x2 : Vec Ideal S1x64 .f32) (x3 : Vec Ideal S1x64 .f32) (x4 : Vec Ideal S64x64 .f32) (x5 : Vec Ideal S64x64 .f32) (x6 : Vec Ideal S64x64 .f32) (x7 : Vec Ideal S1x64 .f32) (x8 : Vec Ideal S1x64 .f32) (x9 : Vec Ideal S1x64 .f32) (x10 : Vec Ideal S1x64 .f32) (x11 : Vec Ideal S1x64 .f32) (x12 : Vec Ideal S1x64 .f32) (x13 : Vec Ideal S64x32 .f32) (x14 : Vec Ideal S1x32 .f32) (x15 : Vec Ideal S64x32 .f32) (x16 : Vec Ideal S1x32 .f32) (x17 : Vec Ideal S1x64 .f32) (x18 : Vec Ideal S1x64 .f32) (x19 : Vec Ideal S64x64 .f32) (x20 : Vec Ideal S1x4096 .f32) (x21 : Vec Ideal S64x64 .f32) (x22 : Vec Ideal S64x64 .f32) (x23 : Vec Ideal S64x64 .f32) (x24 : Vec Ideal S1x64 .f32) (x25 : Vec Ideal S64x64 .f32) (x26 : Vec Ideal S1x4096 .f32) (x27 : Vec Ideal S64x64 .f32) (x28 : Vec Ideal S64x64 .f32) (x29 : Vec Ideal S64x64 .f32) (x30 : Vec Ideal S64x64 .f32) (x31 : Vec Ideal S64x64 .f32) (x32 : Vec Ideal S1x64 .f32) (x33 : Vec Ideal S1x256 .f32) (fh0 : HbBuf0 (F := Ideal) c hbM0_0)

variable (arg35 : Memref sig .tc .vmem S16x256 .f32) (harg35 : arg35.IsWhole) (fh0 : HbBuf0 (F := Ideal) c hbM0_0) (fs0 : BufTy.Contents (Elt Ideal) scM0_0.view.ty) (I : Ins) (hI : I = raw c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg34 harg34 x0 x1 x2 x3 x4 x5 x6 x7 x8 x9 x10 x11 x12 x13 x14 x15 x16 x17 x18 x19 x20 x21 x22 x23 x24 x25 x26 x27 x28 x29 x30 x31 x32 x33 (reads c fh0 fs0))

include hI

set_option maxHeartbeats 8000000 in
/-- The run's result is the stages' result at what the run loads. -/
theorem head_eq : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg34 harg34 arg35 harg35 x0 x1 x2 x3 x4 x5 x6 x7 x8 x9 x10 x11 x12 x13 x14 x15 x16 x17 x18 x19 x20 x21 x22 x23 x24 x25 x26 x27 x28 x29 x30 x31 x32 x33 fh0).1 fs0 = I.out := by
  unfold kernelRun0_A Ins.out
  dsimp only
  rw [← m1_eq (hI := hI)]
  subst hI
  unfold raw k0_pay1
  dsimp only
  rfl

end Cert.KernelIdeal.Value

end
-- ==== Proof.Own.KVal4.lean ====
module

public import proofs.«01_k».proof.Proof.Own.KVal3
public import proofs.«01_k».proof.Proof.Own.KHost
public import proofs.«01_k».proof.Proof.Own.KFrame
public import proofs.«01_k».proof.Proof.Own.KSlots
public import Idealize.ShloMosaic.Lib.Pipeline.Value

@[expose] public section

set_option maxRecDepth 16384

noncomputable section

/-! What the body loads agrees with the network's parameters. -/

namespace Cert.KernelIdeal.Value

open Cert.KernelIdeal Cert.KernelIdeal.Gen Cert.KernelIdeal.Model Cert.KernelIdeal.Named Cert.Math
open Idealize.ShloMosaic Idealize.ShloMosaic.TcCoe Idealize.ShloMosaic.Tactic

/-- A matrix loaded whole. -/
theorem load_whole {a b : ℕ} (M : Memref sig .tc .vmem ⟨2, ![a, b]⟩ .f32) (h : M.IsWhole) (x : Vec Ideal ⟨2, ![a, b]⟩ .f32) (inb) :
    View.readAt (Elt Ideal) M.view (Rect.unit (s := ⟨2, ![a, b]⟩) ![0, 0] (Shape.size ⟨2, ![a, b]⟩) inb).toLoadRect (h.unread x) = x := by
  rw [View.readAt_eq_ld, h.read_unread]
  refine View.ld_unit_zero (S := ⟨2, ![a, b]⟩) (funext fun a => ?_) inb x
  fin_cases a <;> rfl

/-- An entry of a matrix loaded whole. -/
theorem entry {a b : ℕ} (M : Memref sig .tc .vmem ⟨2, ![a, b]⟩ .f32) (h : M.IsWhole) (x : Vec Ideal ⟨2, ![a, b]⟩ .f32) (inb) {v : Vec Ideal ⟨2, ![a, b]⟩ .f32} (e : x = v)
    (i : Shape.Idx ⟨2, ![a, b]⟩) {y : EReal} (hy : v i = y) :
    View.readAt (Elt Ideal) M.view (Rect.unit (s := ⟨2, ![a, b]⟩) ![0, 0] (Shape.size ⟨2, ![a, b]⟩) inb).toLoadRect (h.unread x) i = y := by
  rw [load_whole, e, hy]

/-- An entry of a matrix loaded whole and cast to its own shape. -/
theorem entry_cast {a b : ℕ} (M : Memref sig .tc .vmem ⟨2, ![a, b]⟩ .f32) (h : M.IsWhole) (x : Vec Ideal ⟨2, ![a, b]⟩ .f32) (inb) {v : Vec Ideal ⟨2, ![a, b]⟩ .f32} (e : x = v)
    (i : Shape.Idx ⟨2, ![a, b]⟩) {y : EReal} (hy : v i = y) (hc : Shape.ShapeCasts ⟨2, ![a, b]⟩ ⟨2, ![a, b]⟩) :
    shapeCast ⟨2, ![a, b]⟩ (View.readAt (Elt Ideal) M.view (Rect.unit (s := ⟨2, ![a, b]⟩) ![0, 0] (Shape.size ⟨2, ![a, b]⟩) inb).toLoadRect (h.unread x)) hc i = y := by
  rw [load_whole, e]
  exact (congrFun (shapeCast_self v hc) i).trans hy

/-- A time step of the series, loaded. -/
theorem slab_at (M : Memref sig .tc .vmem S64x512x1 .f32) (h : M.IsWhole) (x : Vec Ideal S64x512x1 .f32) (k : Fin 64) (inb) (r : Fin 512) :
    View.readAt (Elt Ideal) M.view (Rect.unit (s := S64x512x1) ![k.val, 0, 0] S1x512x1.size inb).toLoadRect (h.unread x) (ix3 0 r 0) = x (ix3 k r 0) := by
  rw [View.readAt_eq_ld, h.read_unread]
  refine congrArg x (funext fun a => Fin.ext ?_)
  match a with
  | ⟨0, _⟩ => show (k : ℕ) + 1 * 0 = k; omega
  | ⟨1, _⟩ => show 0 + 1 * (r : ℕ) = r; omega
  | ⟨2, _⟩ => rfl

/-- A trip reads the series at its own number. -/
theorem offs : ∀ k : Fin k0_t1_loop.trips, k0_off1 k = ![k.val, 0, 0] := by decide

/-- A trip's row of the series. -/
theorem row_at (M : Memref sig .tc .vmem S64x512x1 .f32) (h : M.IsWhole) (x : Vec Ideal S64x512x1 .f32) (k : ℕ) (hk : k < 64) (r : Fin 512) :
    rowAt M (h.unread x) k (ix3 0 r 0) = x (ix3 ⟨k, hk⟩ r 0) := by
  unfold rowAt
  rw [dif_pos (show k < k0_t1_loop.trips from hk), View.readAt_eq_ld, h.read_unread]
  refine congrArg x (funext fun a => Fin.ext ?_)
  have e : k0_off1 ⟨k, hk⟩ = ![k, 0, 0] := offs ⟨k, hk⟩
  match a with
  | ⟨0, _⟩ => show k0_off1 ⟨k, hk⟩ 0 + 1 * 0 = k; rw [e]; rfl
  | ⟨1, _⟩ => show k0_off1 ⟨k, hk⟩ 1 + 1 * (r : ℕ) = r; rw [e]; exact (Nat.zero_add _).trans (Nat.one_mul _)
  | ⟨2, _⟩ => show k0_off1 ⟨k, hk⟩ 2 + 1 * 0 = 0; rw [e]; rfl

/-- A claim of every entry of a vector, from the claims of the first and of the rest. -/
theorem vec_cons {α : Type} {n : ℕ} {P : Fin (n + 1) → α → Prop} {a : α} {v : Fin n → α} (h0 : P 0 a) (hs : ∀ k, P k.succ (v k)) (k : Fin (n + 1)) : P k (Matrix.vecCons a v k) :=
  Fin.cases h0 hs k

variable (m : (ℓ : Loc nD τ sig) → Buf (Elt Ideal) ℓ) (c : Dev nD) (t : Fin cfg0.N) (fs : BufTy.Contents (Elt Ideal) scM0_0.view.ty)

set_option maxHeartbeats 4000000 in
/-- What the body loads at the launch's point agrees with the arguments' parameters. -/
theorem agree : Agree (raw c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (reads c (V m c main_arg19) fs)) (parOf m c) := by
  obtain ⟨e0, e1, e2, e3, e4, e5, e6, e7, e8, e9, e10, e11, e12, e13, e14, e15, e16, e17, e18, e19, e20, e21, e22, e23, e24, e25, e26, e27, e28, e29, e30, e31, e32, e33⟩ := blocks_whole m c t
  unfold raw
  constructor
  all_goals dsimp only [kernelRun0_A.sl.r_1, kernelRun0_A.sl.r_4, kernelRun0_A.sl.r_5, kernelRun0_A.sl.v139, kernelRun0_A.sl.v659, kernelRun0_A.sl.v661, kernelRun0_A.sl.v663, kernelRun0_A.sl.v665, kernelRun0_A.sl.v667, kernelRun0_A.sl.v1567, kernelRun0_A.sl.v1569, kernelRun0_A.sl.v1571, kernelRun0_A.sl.v1573, kernelRun0_A.sl.v1575, kernelRun0_A.sl.v1577, kernelRun0_A.sl.v2912, kernelRun0_A.sl.v2911, k0_pay4, k0_pay10, k0_pay11]
  case ser => exact fun k h i s => (row_at _ _ _ _ h _).trans ((congrFun e0 _).trans (x_at m c ⟨k, h⟩ i s))
  case slab => exact fun k i s => (slab_at _ _ _ _ _ _).trans ((congrFun e0 _).trans (x_at m c k i s))
  case wr => exact fun e => entry _ _ _ _ e1 _ (wih_at m c e).1
  case wz => exact fun e => entry _ _ _ _ e2 _ (wih_at m c e).2.1
  case wn => exact fun e => entry _ _ _ _ e3 _ (wih_at m c e).2.2
  case ur => exact fun d e => entry _ _ _ _ e4 _ (whh_at m c e d).1
  case uz => exact fun d e => entry _ _ _ _ e5 _ (whh_at m c e d).2.1
  case un => exact fun d e => entry _ _ _ _ e6 _ (whh_at m c e d).2.2
  case br => exact fun e => entry _ _ _ _ e7 _ (bias_at m c e).1
  case bz => exact fun e => entry _ _ _ _ e8 _ (bias_at m c e).2.1
  case bn => exact fun e => entry _ _ _ _ e9 _ (bias_at m c e).2.2.1
  case cr => exact fun e => entry _ _ _ _ e10 _ (bias_at m c e).2.2.2.1
  case cz => exact fun e => entry _ _ _ _ e11 _ (bias_at m c e).2.2.2.2.1
  case cn => exact fun e => entry _ _ _ _ e12 _ (bias_at m c e).2.2.2.2.2
  case wq => exact fun d f => entry_cast _ _ _ _ e13 _ (attn_at m c d f).1 _
  case bq => exact fun f => entry _ _ _ _ e14 _ (attn_at m c 0 f).2.1
  case wk => exact fun d f => entry _ _ _ _ e15 _ (attn_at m c d f).2.2.1
  case bk => exact fun f => entry _ _ _ _ e16 _ (attn_at m c 0 f).2.2.2
  case cw => exact fun e => entry_cast _ _ _ _ e17 _ (lay_at m c e 0).1 _
  case cb => exact fun e => entry_cast _ _ _ _ e18 _ (lay_at m c e 0).2.1 _
  case g0 => exact fun e d => entry_cast _ _ _ _ e19 _ (lay_at m c e d).2.2.1 _
  case gb0 => exact fun k d => entry _ _ _ _ e20 _ (tiled_at m c d k).1
  case t0 => exact fun e d => vec_cons (P := fun u (w : Vec Ideal S64x64 .f32) => w (ix2 e d) = (parOf m c).c0 d e u) (entry_cast _ _ _ _ e21 _ (conv0_at m c e d).1 _) (vec_cons (P := fun u (w : Vec Ideal S64x64 .f32) => w (ix2 e d) = (parOf m c).c0 d e u.succ) (entry_cast _ _ _ _ e22 _ (conv0_at m c e d).2.1 _) (vec_cons (P := fun u (w : Vec Ideal S64x64 .f32) => w (ix2 e d) = (parOf m c).c0 d e u.succ.succ) (entry_cast _ _ _ _ e23 _ (conv0_at m c e d).2.2.1 _) (fun k => k.elim0)))
  case cb0 => exact fun e => entry_cast _ _ _ _ e24 _ (conv0_at m c e 0).2.2.2 _
  case g1 => exact fun e d => entry_cast _ _ _ _ e25 _ (lay_at m c e d).2.2.2 _
  case gb1 => exact fun k d => entry _ _ _ _ e26 _ (tiled_at m c d k).2
  case t1 => exact fun e d => vec_cons (P := fun u (w : Vec Ideal S64x64 .f32) => w (ix2 e d) = (parOf m c).c1 d e u) (entry_cast _ _ _ _ e27 _ (conv1_at m c e d).1 _) (vec_cons (P := fun u (w : Vec Ideal S64x64 .f32) => w (ix2 e d) = (parOf m c).c1 d e u.succ) (entry_cast _ _ _ _ e28 _ (conv1_at m c e d).2.1 _) (vec_cons (P := fun u (w : Vec Ideal S64x64 .f32) => w (ix2 e d) = (parOf m c).c1 d e u.succ.succ) (entry_cast _ _ _ _ e29 _ (conv1_at m c e d).2.2.1 _) (vec_cons (P := fun u (w : Vec Ideal S64x64 .f32) => w (ix2 e d) = (parOf m c).c1 d e u.succ.succ.succ) (entry_cast _ _ _ _ e30 _ (conv1_at m c e d).2.2.2.1 _) (vec_cons (P := fun u (w : Vec Ideal S64x64 .f32) => w (ix2 e d) = (parOf m c).c1 d e u.succ.succ.succ.succ) (entry_cast _ _ _ _ e31 _ (conv1_at m c e d).2.2.2.2.1 _) (fun k => k.elim0)))))
  case cb1 => exact fun e => entry_cast _ _ _ _ e32 _ (conv1_at m c e 0).2.2.2.2.2 _
  case lb => exact fun o => (congrFun (shapeCast_self _ _) _).trans (entry_cast _ _ _ _ e33 _ (lb_at m c o) _)
  case blk =>
    intro k o q
    have h := reads_hold (c := c) (fh0 := V m c main_arg19) fs k o q (by omega)
    refine h.trans ((congrFun (V_main_arg19 m c) _).trans ?_)
    unfold parOf
    exact congrArg _ (congrArg (ix2 o) (Fin.ext (show (0 + (k : ℕ)) * 4096 + q = k * 4096 + q by omega)))

set_option maxHeartbeats 4000000 in
/-- The body's result at the launch's point, an entry at a time. -/
theorem body_at (fq : ∀ e d, ∃ y : ℝ, (parOf m c).qw e d = y) (fqb : ∀ e, ∃ y : ℝ, (parOf m c).qb e = y)
    (fk : ∀ e d, ∃ y : ℝ, (parOf m c).kw e d = y) (fkb : ∀ e, ∃ y : ℝ, (parOf m c).kb e = y) (s : Fin 16) (o : Fin 256) :
    (runAt m c t).1 fs (ix2 s o) = (parOf m c).out s o :=
  (congrFun (head_eq (hI := rfl) ..) _).trans ((agree m c t fs).out_at s fq fqb fk fkb o)

end Cert.KernelIdeal.Value

end
-- ==== Proof.Own.KPre.lean ====
module

public import proofs.«01_k».proof.Pre_attn_finite
public import proofs.«01_k».proof.Proof.Own.KHost
public import Idealize.ShloMosaic.Lib.Pointwise

@[expose] public section

noncomputable section

/-! The precondition read entry by entry: the attention's weights and biases are real numbers. -/

namespace Cert.Pre_attn_finite

open Idealize.ShloMosaic Cert.Math

/-- The shape relations the precondition's function states. -/
theorem relations : Facts := by
  constructor
  all_goals decide

attribute [local instance] relations

/-- A number whose magnitude is below infinity is real. -/
theorem real_of_abs {a : EReal} (h : max a (-a) < ⊤) : ∃ y : ℝ, a = y := by
  induction a with
  | bot => simp at h
  | top => simp at h
  | coe y => exact ⟨y, rfl⟩

/-- The conjunction of two one-bit words is one when both are. -/
theorem andi_one {a b : Bool} : IntOp.andi (BitVec.ofBool a) (BitVec.ofBool b) = BitVec.ofBool (a && b) := by
  cases a <;> cases b <;> rfl

/-- The word of a truth value is one when it is true. -/
theorem ofBool_one {a : Bool} : BitVec.ofBool a = 1#1 ↔ a = true := by
  cases a <;> decide

/-- The word of infinity. -/
theorem ofBits_top : Ideal.ofBits FTy.f32 2139095040#32 = ⊤ := by
  simp [Ideal.ofBits, Ideal.ieee]

/-- The precondition, read at an entry. -/
theorem decoded (x : FVec Ideal S16x64x32 .f32) (wih : FVec Ideal S192x1 .f32) (whh : FVec Ideal S192x64 .f32) (bih : FVec Ideal S192 .f32) (bhh : FVec Ideal S192 .f32) (qw : FVec Ideal S32x64 .f32) (qb : FVec Ideal S32 .f32) (kw : FVec Ideal S32x64 .f32) (kb : FVec Ideal S32 .f32) (cw : FVec Ideal S64x1x1 .f32) (cb : FVec Ideal S64 .f32) (g0 : FVec Ideal S64x64 .f32) (gb0 : FVec Ideal S64 .f32) (c0 : FVec Ideal S64x64x3 .f32) (cb0 : FVec Ideal S64 .f32) (g1 : FVec Ideal S64x64 .f32) (gb1 : FVec Ideal S64 .f32) (c1 : FVec Ideal S64x64x5 .f32) (cb1 : FVec Ideal S64 .f32) (ow : FVec Ideal S256x131072 .f32) (ob : FVec Ideal S256 .f32)
    (h : fn x wih whh bih bhh qw qb kw kb cw cb g0 gb0 c0 cb0 g1 gb1 c1 cb1 ow ob = fun _ => 1#1) (e : Fin 32) (d : Fin 64) :
    ((max (qw (ix2 e d)) (-qw (ix2 e d)) < ⊤ ∧ max (kw (ix2 e d)) (-kw (ix2 e d)) < ⊤) ∧ max (qb (ix1 e)) (-qb (ix1 e)) < ⊤ ∧ max (kb (ix1 e)) (-kb (ix1 e)) < ⊤) := by
  have p := congrFun h (ix2 e d)
  pointwise [fn] at p
  rw [andi_one, andi_one, andi_one, ofBool_one, ofBits_top] at p
  simp only [Bool.and_eq_true, decide_eq_true_eq] at p
  exact p

end Cert.Pre_attn_finite

end
-- ==== Proof.Own.RIdx.lean ====
module

public import proofs.«01_k».proof.Proof.Own.RVal
public import proofs.«01_k».proof.Proof.Own.Spec

@[expose] public section

set_option maxRecDepth 8192

noncomputable section

/-! The reference's stages, each read at an index, are the network of one sample (`Cert.Math`). -/

namespace Cert.ReferenceIdeal.Value

open Cert.ReferenceIdeal Cert.ReferenceIdeal.Gen
open Idealize.ShloMosaic Idealize.ShloMosaic.TcCoe Idealize.ShloMosaic.Tactic
open Idealize.ShloMosaic.StableHlo
open Cert.Math

variable (s : Fin 16) (i j e : Fin 32) (t d : Fin 64)

theorem refAffine_at (h : FVec Ideal S16x32x64 .f32) (w : FVec Ideal S32x64 .f32) (b : FVec Ideal S32 .f32) :
    refAffine h w b (ix3 s i e) = aff (fun d => h (ix3 s i d)) (fun e d => w (ix2 e d)) (fun e => b (ix1 e)) e := by
  pointwise [refAffine]
  rfl

theorem refScores_at (q k : FVec Ideal S16x32x32 .f32) :
    refScores q k (ix3 s i j) = score (fun i e => q (ix3 s i e)) (fun i e => k (ix3 s i e)) i j := by
  pointwise [refScores]
  rfl

theorem ofBits_bot : Ideal.ofBits FTy.f32 4286578688#32 = ⊥ := by
  simp [Ideal.ofBits, Ideal.ieee]

theorem refExps_at (q : FVec Ideal S16x32x32 .f32) :
    refExps q (ix3 s i j) = exps (fun i e => q (ix3 s i e)) i j := by
  pointwise [refExps]
  rw [ofBits_bot, exps, max_eq_right bot_le]

theorem refWeights_at (q : FVec Ideal S16x32x32 .f32) :
    refWeights q (ix3 s i j) = wts (fun i e => q (ix3 s i e)) i j := by
  pointwise [refWeights]
  rfl

theorem refDinv_at (q : FVec Ideal S16x32x32 .f32) :
    refDinv (refDeg q) (ix2 s i) = dinv (deg (fun i e => q (ix3 s i e)) i) := by
  pointwise [refDinv, refDeg]
  rfl

theorem refNorm_at (q : FVec Ideal S16x32x32 .f32) :
    refNorm q (refDinv (refDeg q)) (ix3 s i j) = adj (fun i e => q (ix3 s i e)) i j := by
  rw [adj, ← refDinv_at, ← refDinv_at]
  pointwise [refNorm]

theorem refNodes_at (x : FVec Ideal S16x64x32 .f32) (w : FVec Ideal S64x1x1 .f32) (b : FVec Ideal S64 .f32) :
    refNodes x w b (ix4 s t i d) = x (ix3 s t i) * w (ix3 d 0 0) + b (ix1 d) := by
  pointwise [refNodes, refBias]

theorem refMix_at (x : FVec Ideal S16x64x32x64 .f32) (w : FVec Ideal S64x64 .f32) :
    refMix x w (ix4 s t i d) = mix (fun e => x (ix4 s t i e)) (fun d e => w (ix2 d e)) d := by
  pointwise [refMix]
  rfl

theorem refGcn_at (x : FVec Ideal S16x64x32x64 .f32) (w : FVec Ideal S64x64 .f32) (n : FVec Ideal S16x32x32 .f32) (b : FVec Ideal S64 .f32) :
    refGcn x w n b (ix4 s t j d) = gcn (fun i j => n (ix3 s i j)) (fun t i d => x (ix4 s t i d)) (fun d e => w (ix2 d e)) (fun d => b (ix1 d)) t j d := by
  pointwise [refGcn, refBias]
  simp only [refMix_at]
  rfl

/-- The signed zero word is zero. -/
theorem sitofp_zero : FloatOps.sitofp (F := Ideal) FTy.f32 0#32 = 0 := by
  show (((0#32 : BitVec 32).toInt : ℝ) : EReal) = 0
  simp

theorem refPad1_at (x : FVec Ideal S16x64x32x64 .f32) (u : Fin 66) :
    refPad1 x (ix4 s u i d) = padded 1 (fun t i d => x (ix4 s t i d)) u i d := by
  pointwise [refPad1]
  unfold padded
  congr 1
  funext _
  exact sitofp_zero

theorem refPad2_at (x : FVec Ideal S16x64x32x64 .f32) (u : Fin 68) :
    refPad2 x (ix4 s u i d) = padded 2 (fun t i d => x (ix4 s t i d)) u i d := by
  pointwise [refPad2]
  unfold padded
  congr 1
  funext _
  exact sitofp_zero

theorem refConv3_at (x : FVec Ideal S16x64x32x64 .f32) (w : FVec Ideal S64x64x3 .f32) (b : FVec Ideal S64 .f32) :
    refLeaky (refConv3 (refPad1 x) w b) (ix4 s t i d)
      = conv3 (fun t i d => x (ix4 s t i d)) (fun d e u => w (ix3 d e u)) (fun d => b (ix1 d)) t i d := by
  pointwise [refLeaky, refConv3, refMix, refBias]
  simp only [refPad1_at]
  rfl

theorem refConv5_at (x : FVec Ideal S16x64x32x64 .f32) (w : FVec Ideal S64x64x5 .f32) (b : FVec Ideal S64 .f32) :
    refLeaky (refConv5 (refPad2 x) w b) (ix4 s t i d)
      = conv5 (fun t i d => x (ix4 s t i d)) (fun d e u => w (ix3 d e u)) (fun d => b (ix1 d)) t i d := by
  pointwise [refLeaky, refConv5, refMix, refBias]
  simp only [refPad2_at]
  rfl

theorem refHead_at (x : FVec Ideal S16x64x32x64 .f32) (w : FVec Ideal S256x131072 .f32) (b : FVec Ideal S256 .f32) (o : Fin 8) :
    refHead x w b (ix3 s o j) = head (fun t i d => x (ix4 s t i d)) (fun k => w (ix2 ⟨o * 32 + j, by omega⟩ k)) (b (ix1 ⟨o * 32 + j, by omega⟩)) := by
  pointwise [refHead]
  rfl

/-- A cut that fits starts where it is told to. -/
theorem cut_start (st : Fin 3 → Int) (a : Fin 3) (k : ℕ) (e : st a = k) (h : k + S1x16x32.size a ≤ S64x16x32.size a) :
    Host.clampedStart S64x16x32 S1x16x32 rfl st a = k :=
  Host.clampedStart_of_le (s := S64x16x32) (t := S1x16x32) rfl st a k e h

theorem refRow_at (x : FVec Ideal S16x64x32 .f32) (k : ℕ) (hk : k < 64) :
    refRow (refTimes x) (fun _ => Scf.iv 0#32 1#32 k) (ix2 s i) = x (ix3 s ⟨k, hk⟩ i) := by
  have hk' : (Scf.iv 0#32 1#32 k).toInt = k := by
    rw [Scf.iv_eq_ofInt]
    simp only [BitVec.toInt_ofInt, Int.bmod, show (0#32).toInt = 0 from rfl, show (1#32).toInt = 1 from rfl]
    omega
  have e0 := cut_start (fun a => ((![fun _ => Scf.iv 0#32 1#32 k, constantI S_ 32 0#32, constantI S_ 32 0#32] : Fin 3 → (⟨S_, .i32⟩ : BufTy).Contents (Elt Ideal)) a (Shape.Idx.first h_S_)).toInt) 0 k hk' (show k + 1 ≤ 64 by omega)
  have e1 := cut_start (fun a => ((![fun _ => Scf.iv 0#32 1#32 k, constantI S_ 32 0#32, constantI S_ 32 0#32] : Fin 3 → (⟨S_, .i32⟩ : BufTy).Contents (Elt Ideal)) a (Shape.Idx.first h_S_)).toInt) 1 0 rfl (by decide)
  have e2 := cut_start (fun a => ((![fun _ => Scf.iv 0#32 1#32 k, constantI S_ 32 0#32, constantI S_ 32 0#32] : Fin 3 → (⟨S_, .i32⟩ : BufTy).Contents (Elt Ideal)) a (Shape.Idx.first h_S_)).toInt) 2 0 rfl (by decide)
  pointwise [refRow, refTimes]
  simp only [e0, e1, e2]
  congr 1
  simp

theorem refH_at (x : FVec Ideal S16x64x32 .f32) (wih : FVec Ideal S192x1 .f32) (whh : FVec Ideal S192x64 .f32) (bih bhh : FVec Ideal S192 .f32) :
    ∀ k ≤ 64, ∀ d, refH x wih whh bih bhh k (ix3 s i d)
      = gru (fun k => if h : k < 64 then x (ix3 s ⟨k, h⟩ i) else 0) (fun j => wih (ix2 j 0)) (fun j d => whh (ix2 j d)) (fun j => bih (ix1 j)) (fun j => bhh (ix1 j)) k d
  | 0, _, d => by pointwise [refH]; rfl
  | k + 1, hk, d => by
    have ih := refH_at x wih whh bih bhh k (by omega)
    rw [refH]
    pointwise [refGate, refSig, refCut0, refCut1, refCut2, refGi, refGh]
    simp only [refRow_at s i x k hk, ih, Finset.univ_unique, Finset.sum_singleton]
    simp only [gru, dif_pos (show k < 64 from hk)]
    rfl

end Cert.ReferenceIdeal.Value

end
-- ==== Proof.Own.RNet.lean ====
module

public import proofs.«01_k».proof.Proof.Own.RIdx

@[expose] public section

set_option maxRecDepth 8192

noncomputable section

/-! The reference's result, read at an index, is the network of one sample (`Cert.Math`). -/

namespace Cert.ReferenceIdeal.Value

open Cert.ReferenceIdeal Cert.ReferenceIdeal.Gen
open Idealize.ShloMosaic Idealize.ShloMosaic.TcCoe Idealize.ShloMosaic.Tactic
open Idealize.ShloMosaic.StableHlo
open Cert.Math

variable {F : FTy → Type} [FloatOps F]

variable (s : Fin 16) (i j e : Fin 32) (t d : Fin 64)

/-- All that follows the recurrent unit, at sample `s`, output `o` and node `j`. -/
theorem refTail_at (h : FVec Ideal S16x32x64 .f32) (x : FVec Ideal S16x64x32 .f32) (qw : FVec Ideal S32x64 .f32) (qb : FVec Ideal S32 .f32) (kw : FVec Ideal S32x64 .f32) (kb : FVec Ideal S32 .f32) (cw : FVec Ideal S64x1x1 .f32) (cb : FVec Ideal S64 .f32) (g0 : FVec Ideal S64x64 .f32) (gb0 : FVec Ideal S64 .f32) (c0 : FVec Ideal S64x64x3 .f32) (cb0 : FVec Ideal S64 .f32) (g1 : FVec Ideal S64x64 .f32) (gb1 : FVec Ideal S64 .f32) (c1 : FVec Ideal S64x64x5 .f32) (cb1 : FVec Ideal S64 .f32) (ow : FVec Ideal S256x131072 .f32) (ob : FVec Ideal S256 .f32) (o : Fin 8) :
    refTail h x qw qb kw kb cw cb g0 gb0 c0 cb0 g1 gb1 c1 cb1 ow ob (ix3 s o j)
      = head (feats (attn (fun i d => h (ix3 s i d)) (fun e d => qw (ix2 e d)) (fun e => qb (ix1 e)) (fun e d => kw (ix2 e d)) (fun e => kb (ix1 e)))
        (fun t i => x (ix3 s t i)) (fun d => cw (ix3 d 0 0)) (fun d => cb (ix1 d)) (fun d e => g0 (ix2 d e)) (fun d => gb0 (ix1 d))
        (fun d e u => c0 (ix3 d e u)) (fun d => cb0 (ix1 d)) (fun d e => g1 (ix2 d e)) (fun d => gb1 (ix1 d))
        (fun d e u => c1 (ix3 d e u)) (fun d => cb1 (ix1 d))) (fun k => ow (ix2 ⟨o * 32 + j, by omega⟩ k)) (ob (ix1 ⟨o * 32 + j, by omega⟩)) := by
  unfold refTail
  simp only [refHead_at, refConv5_at, refGcn_at, refConv3_at, refNodes_at, refNorm_at, refWeights_at, refExps_at, refScores_at, refAffine_at, feats, attn]

/-- The reference's result as a function of its arguments. -/
def refAll (x : FVec F S16x64x32 .f32) (wih : FVec F S192x1 .f32) (whh : FVec F S192x64 .f32) (bih : FVec F S192 .f32) (bhh : FVec F S192 .f32) (qw : FVec F S32x64 .f32) (qb : FVec F S32 .f32) (kw : FVec F S32x64 .f32) (kb : FVec F S32 .f32) (cw : FVec F S64x1x1 .f32) (cb : FVec F S64 .f32) (g0 : FVec F S64x64 .f32) (gb0 : FVec F S64 .f32) (c0 : FVec F S64x64x3 .f32) (cb0 : FVec F S64 .f32) (g1 : FVec F S64x64 .f32) (gb1 : FVec F S64 .f32) (c1 : FVec F S64x64x5 .f32) (cb1 : FVec F S64 .f32) (ow : FVec F S256x131072 .f32) (ob : FVec F S256 .f32) : FVec F S16x8x32 .f32 :=
  refTail (refH x wih whh bih bhh 64) x qw qb kw kb cw cb g0 gb0 c0 cb0 g1 gb1 c1 cb1 ow ob

/-- The reference's result at sample `s`, output `o` and node `j` is the network of that sample. -/
theorem refAll_at (x : FVec Ideal S16x64x32 .f32) (wih : FVec Ideal S192x1 .f32) (whh : FVec Ideal S192x64 .f32) (bih : FVec Ideal S192 .f32) (bhh : FVec Ideal S192 .f32) (qw : FVec Ideal S32x64 .f32) (qb : FVec Ideal S32 .f32) (kw : FVec Ideal S32x64 .f32) (kb : FVec Ideal S32 .f32) (cw : FVec Ideal S64x1x1 .f32) (cb : FVec Ideal S64 .f32) (g0 : FVec Ideal S64x64 .f32) (gb0 : FVec Ideal S64 .f32) (c0 : FVec Ideal S64x64x3 .f32) (cb0 : FVec Ideal S64 .f32) (g1 : FVec Ideal S64x64 .f32) (gb1 : FVec Ideal S64 .f32) (c1 : FVec Ideal S64x64x5 .f32) (cb1 : FVec Ideal S64 .f32) (ow : FVec Ideal S256x131072 .f32) (ob : FVec Ideal S256 .f32) (o : Fin 8) :
    refAll x wih whh bih bhh qw qb kw kb cw cb g0 gb0 c0 cb0 g1 gb1 c1 cb1 ow ob (ix3 s o j)
      = head (feats (attn (hid (fun t i => x (ix3 s t i)) (fun j => wih (ix2 j 0)) (fun j d => whh (ix2 j d)) (fun j => bih (ix1 j)) (fun j => bhh (ix1 j))) (fun e d => qw (ix2 e d)) (fun e => qb (ix1 e)) (fun e d => kw (ix2 e d)) (fun e => kb (ix1 e)))
        (fun t i => x (ix3 s t i)) (fun d => cw (ix3 d 0 0)) (fun d => cb (ix1 d)) (fun d e => g0 (ix2 d e)) (fun d => gb0 (ix1 d))
        (fun d e u => c0 (ix3 d e u)) (fun d => cb0 (ix1 d)) (fun d e => g1 (ix2 d e)) (fun d => gb1 (ix1 d))
        (fun d e u => c1 (ix3 d e u)) (fun d => cb1 (ix1 d))) (fun k => ow (ix2 ⟨o * 32 + j, by omega⟩ k)) (ob (ix1 ⟨o * 32 + j, by omega⟩)) := by
  unfold refAll
  rw [refTail_at]
  congr 3
  funext i d
  exact refH_at s i x wih whh bih bhh 64 le_rfl d

end Cert.ReferenceIdeal.Value

end
-- ==== Proof.Own.KEnd.lean ====
module

public import proofs.«01_k».proof.Proof.Own.KNamed
public import proofs.«01_k».proof.Proof.Own.KVal4
public import proofs.«01_k».proof.Proof.Own.KPre
public import proofs.«01_k».proof.Proof.Own.RNet
public import proofs.«01_k».proof.Defs

@[expose] public section

noncomputable section

/-! The algebraic claim: the two programs, run from the same arguments, end with the same result. -/

namespace Cert.Finish

open Idealize.ShloMosaic Idealize.SL.Sem Cert.Math

attribute [local instance] Cert.KernelIdeal.Gen.facts Cert.ReferenceIdeal.Gen.facts Cert.Pre_attn_finite.relations

/-- The kernel's array of results: a sample's row is its network's outputs. -/
def netOf (m : (ℓ : Loc Cert.KernelIdeal.nD Cert.KernelIdeal.τ Cert.KernelIdeal.sig) → Buf (Elt Ideal) ℓ) (c : Dev Cert.KernelIdeal.nD) : FVec Ideal Cert.KernelIdeal.S16x256 .f32 :=
  fun i => (Cert.KernelIdeal.Model.parOf m c).out (i 0) (i 1)

section kernel

open Cert.KernelIdeal Cert.KernelIdeal.Gen Cert.KernelIdeal.Model Cert.KernelIdeal.Named Cert.KernelIdeal.Value

variable (m : (ℓ : Loc nD τ sig) → Buf (Elt Ideal) ℓ) (ρ : Dev nD → PrngReg)

/-- Under the precondition the attention's weights and biases are real numbers. -/
theorem reals (h : Cert.Pre_KernelIdeal_attn_finite m) (c : Dev nD) :
    (∀ e d, ∃ y : ℝ, (parOf m c).qw e d = y) ∧ (∀ e, ∃ y : ℝ, (parOf m c).qb e = y)
      ∧ (∀ e d, ∃ y : ℝ, (parOf m c).kw e d = y) ∧ (∀ e, ∃ y : ℝ, (parOf m c).kb e = y) := by
  have k := fun e d => Cert.Pre_attn_finite.decoded _ _ _ _ _ _ _ _ _ _ _ _ _ _ _ _ _ _ _ _ _ (h c) e d
  exact ⟨fun e d => Cert.Pre_attn_finite.real_of_abs (k e d).1.1, fun e => Cert.Pre_attn_finite.real_of_abs (k e 0).2.1,
    fun e d => Cert.Pre_attn_finite.real_of_abs (k e d).1.2, fun e => Cert.Pre_attn_finite.real_of_abs (k e 0).2.2⟩

/-- The body's result is the array of the network's outputs. -/
theorem body_net (h : Cert.Pre_KernelIdeal_attn_finite m) (c : Dev nD) (t) (fs) : (runAt m c t).1 fs = netOf m c := by
  funext i
  have e : i = ix2 (i 0) (i 1) := by
    funext k
    fin_cases k <;> rfl
  obtain ⟨a, b, d, f⟩ := reals m h c
  exact (congrArg _ e).trans (body_at m c t fs a b d f (i 0) (i 1))

/-- What the launch does not write and the last reshape does not write ends as the launch found it. -/
theorem arg_end (o : Dev nD → Vec Ideal S16x256 .f32) {r : PUnit × MemSt nD τ sig (Elt Ideal)}
    (h : Pipeline.FramePost cfgs (dats m o) (0 : Fin 1) (Pipeline.afterTail₀ cfgs (dats m o) (0 : Fin 1) (V0 m) [hostOps1]) r) (c : Dev nD) (b : Ref sig .tc)
    (hs : b.isScoped = false) (ha : ∀ w, (spec0 w).arr.view.ref ≠ b) (hb : b ≠ main_v71) : r.2.mem ((c.tc : Thread nD τ).loc b) = V m c b := by
  refine ((h c).2 b (Pipeline.mem_restRefs_of b hs ha)).trans ?_
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b ha]

set_option maxHeartbeats 4000000 in
/-- The kernel's run, its result named. -/
theorem kernel_end (h : Cert.Pre_KernelIdeal_attn_finite m) :
    θ_run (defs (F := Ideal)) (onTc (τ := τ) (main (F := Ideal))) ⟨m, fun _ => 0, ρ⟩ (fun r => ∀ c : Dev nD,
      r.2.mem ((c.tc : Thread nD τ).loc main_v71) = shapeCast S16x8x32 (netOf m c) shapeCasts_S16x256_S16x8x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r (q : _ ∧ _) c => ⟨result_final m (netOf m) c q.1,
      (arg_end m (netOf m) q.1 c main_arg0 (by decide) (by decide) (by decide)).trans (V_main_arg0 m c),
      (arg_end m (netOf m) q.1 c main_arg1 (by decide) (by decide) (by decide)).trans (V_main_arg1 m c),
      (arg_end m (netOf m) q.1 c main_arg2 (by decide) (by decide) (by decide)).trans (V_main_arg2 m c),
      (arg_end m (netOf m) q.1 c main_arg3 (by decide) (by decide) (by decide)).trans (V_main_arg3 m c),
      (arg_end m (netOf m) q.1 c main_arg4 (by decide) (by decide) (by decide)).trans (V_main_arg4 m c),
      (arg_end m (netOf m) q.1 c main_arg5 (by decide) (by decide) (by decide)).trans (V_main_arg5 m c),
      (arg_end m (netOf m) q.1 c main_arg6 (by decide) (by decide) (by decide)).trans (V_main_arg6 m c),
      (arg_end m (netOf m) q.1 c main_arg7 (by decide) (by decide) (by decide)).trans (V_main_arg7 m c),
      (arg_end m (netOf m) q.1 c main_arg8 (by decide) (by decide) (by decide)).trans (V_main_arg8 m c),
      (arg_end m (netOf m) q.1 c main_arg9 (by decide) (by decide) (by decide)).trans (V_main_arg9 m c),
      (arg_end m (netOf m) q.1 c main_arg10 (by decide) (by decide) (by decide)).trans (V_main_arg10 m c),
      (arg_end m (netOf m) q.1 c main_arg11 (by decide) (by decide) (by decide)).trans (V_main_arg11 m c),
      (arg_end m (netOf m) q.1 c main_arg12 (by decide) (by decide) (by decide)).trans (V_main_arg12 m c),
      (arg_end m (netOf m) q.1 c main_arg13 (by decide) (by decide) (by decide)).trans (V_main_arg13 m c),
      (arg_end m (netOf m) q.1 c main_arg14 (by decide) (by decide) (by decide)).trans (V_main_arg14 m c),
      (arg_end m (netOf m) q.1 c main_arg15 (by decide) (by decide) (by decide)).trans (V_main_arg15 m c),
      (arg_end m (netOf m) q.1 c main_arg16 (by decide) (by decide) (by decide)).trans (V_main_arg16 m c),
      (arg_end m (netOf m) q.1 c main_arg17 (by decide) (by decide) (by decide)).trans (V_main_arg17 m c),
      (arg_end m (netOf m) q.1 c main_arg18 (by decide) (by decide) (by decide)).trans (V_main_arg18 m c),
      (arg_end m (netOf m) q.1 c main_arg19 (by decide) (by decide) (by decide)).trans (V_main_arg19 m c),
      (arg_end m (netOf m) q.1 c main_arg20 (by decide) (by decide) (by decide)).trans (V_main_arg20 m c)⟩)
    (run_named m ρ (netOf m) (body_net m h))

end kernel

/-- The reference's result at a sample, an output and a node, of the same arguments, is the network's output there. -/
theorem same_at (m : (ℓ : Loc Cert.KernelIdeal.nD Cert.KernelIdeal.τ Cert.KernelIdeal.sig) → Buf (Elt Ideal) ℓ) (c : Dev Cert.KernelIdeal.nD) (s : Fin 16) (o : Fin 8) (j : Fin 32) :
    Cert.ReferenceIdeal.Value.refAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
      (ix3 s o j) = shapeCast Cert.KernelIdeal.S16x8x32 (netOf m c) Cert.KernelIdeal.Gen.shapeCasts_S16x256_S16x8x32 (ix3 s o j) := by
  have f : shapeCast Cert.KernelIdeal.S16x8x32 (netOf m c) Cert.KernelIdeal.Gen.shapeCasts_S16x256_S16x8x32 (ix3 s o j)
      = netOf m c (ix2 s ⟨o * 32 + j, by omega⟩) := by
    pointwise []
  rw [f]
  exact Cert.ReferenceIdeal.Value.refAll_at ..

/-- The reference's result, of the same arguments, is the kernel's array reshaped. -/
theorem same_result (m : (ℓ : Loc Cert.KernelIdeal.nD Cert.KernelIdeal.τ Cert.KernelIdeal.sig) → Buf (Elt Ideal) ℓ) (c : Dev Cert.KernelIdeal.nD) :
    Cert.ReferenceIdeal.Value.refAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
      = shapeCast Cert.KernelIdeal.S16x8x32 (netOf m c) Cert.KernelIdeal.Gen.shapeCasts_S16x256_S16x8x32 := by
  funext i
  have e : i = ix3 (i 0) (i 1) (i 2) := by
    funext k
    fin_cases k <;> rfl
  rw [e]
  exact same_at m c (i 0) (i 1) (i 2)

set_option maxHeartbeats 4000000 in
/-- The algebraic claim. -/
theorem algebraic : Cert.algebraic_KernelIdeal_ReferenceIdeal_pre_attn_finite := by
  intro m g m' g' hp ha
  refine ⟨fun c => shapeCast Cert.KernelIdeal.S16x8x32 (netOf m c) Cert.KernelIdeal.Gen.shapeCasts_S16x256_S16x8x32, kernel_end m g hp, ?_⟩
  refine (θ_run Cert.ReferenceIdeal.defs _ _).mono (fun r q c => ⟨(q c).1.trans ?_, (q c).2⟩) (Cert.ReferenceIdeal.Value.ref_run (F := Ideal) m' g')
  refine Eq.trans ?_ (same_result m c)
  obtain ⟨a0, a1, a2, a3, a4, a5, a6, a7, a8, a9, a10, a11, a12, a13, a14, a15, a16, a17, a18, a19, a20⟩ := ha c
  rw [← a0, ← a1, ← a2, ← a3, ← a4, ← a5, ← a6, ← a7, ← a8, ← a9, ← a10, ← a11, ← a12, ← a13, ← a14, ← a15, ← a16, ← a17, ← a18, ← a19, ← a20]
  rfl

end Cert.Finish

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent
public import proofs.«01_k».proof.Proof.Own.KFrame
public import proofs.«01_k».proof.Proof.Own.PFrame
public import proofs.«01_k».proof.Proof.Own.RVal
public import proofs.«01_k».proof.Proof.Own.KEnd

@[expose] public section

noncomputable section

namespace Cert.Proof

open Idealize.ShloMosaic Idealize.SL.Sem Cert.Kernel

attribute [local instance] Cert.Pre_attn_finite.relations

/-- The kernel as printed runs, and leaves its arguments and its semaphores as it found them. -/
theorem frame_p : Cert.quiescent_Kernel := fun m g _ => Cert.Kernel.Named.frame_end m g

/-- So does the kernel with the named constants. -/
theorem frame_pi : Cert.quiescent_KernelIdeal := fun m g _ => Cert.KernelIdeal.Named.frame_end m g

/-- So does the reference, which has no semaphore at all. -/
theorem frame_ri : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.ref_run (F := Ideal) m g)

/-- The same of the kernel with the named constants, from the memories the algebraic claim starts from. -/
theorem frame_pi_pre : Cert.quiescent_KernelIdeal_pre_attn_finite := fun m g _ => Cert.KernelIdeal.Named.frame_end m g

/-- The same of the reference, from the memories the algebraic claim starts from. -/
theorem frame_ri_pre : Cert.quiescent_ReferenceIdeal_pre_attn_finite := fun m g _ =>
  (θ_run Cert.ReferenceIdeal.defs _ _).mono (fun r h => ⟨fun c => (h c).2, Idealize.ShloMosaic.sem_eq_zero_of_no_sems (by decide) r.2⟩)
    (Cert.ReferenceIdeal.Value.ref_run (F := Ideal) m g)

/-- The two constants of the kernel that are named: the scale of the scores, and the mask's minus infinity. -/
theorem preserves : Cert.preserves_Kernel_KernelIdeal :=
  ⟨IdealRules.named_const.statement Cert.KernelIdeal.κ "scale" .f32 0x3E3504F3#32 (((Real.sqrt 32)⁻¹ : ℝ) : EReal) rfl,
    IdealRules.named_const.statement Cert.KernelIdeal.κ "mask" .f32 0xF149F2CA#32 ⊥ rfl⟩

/-- The certificate's claim. -/
theorem claim : Cert.Claim := ⟨Cert.Kernel.Gen.facts, Cert.KernelIdeal.Gen.facts, Cert.ReferenceIdeal.Gen.facts,
  Cert.Pre_attn_finite.relations, frame_p, frame_pi, frame_pi_pre, frame_ri, frame_ri_pre, preserves, Cert.Finish.algebraic⟩

end Cert.Proof

end
